-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 512, 512]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 512, 512]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v80) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S2x128x512 .f32) (main_arg1 : FVec F S512x256 .f32) (main_arg2 : FVec F S512x256 .f32) (main_arg3 : FVec F S512x256 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  main_v13
-- ==== Pre_finite_ReferenceIdeal.lean ====
abbrev S2x512x512 : Shape := ⟨3, ![2, 512, 512]⟩
abbrev S512x256 : Shape := ⟨2, ![512, 256]⟩
abbrev S256x512 : Shape := ⟨2, ![256, 512]⟩
abbrev S_ : Shape := ⟨0, ![]⟩

class Facts : Prop where
  bcast_S_S2x512x512 : S_.BroadcastsInDim S2x512x512 (![] : Fin 0 → Fin S2x512x512.rank)
  reducesTo_S2x512x512_S_d0_1_2 : S2x512x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S2x512x512 .f32) (main_arg1 : FVec F S512x256 .f32) (main_arg2 : FVec F S512x256 .f32) (main_arg3 : FVec F S512x256 .f32) (main_arg4 : FVec F S256x512 .f32) : IVec S_ 1 :=
  let main_v0 : FVec F S2x512x512 .f32 := Host.absf main_arg0
  let main_cst : FVec F S_ .f32 := constant S_ .f32 0x7F800000#32
  let main_v1 : FVec F S2x512x512 .f32 := broadcastInDim S2x512x512 ![] bcast_S_S2x512x512 main_cst
  let main_v2 : IVec S2x512x512 1 := cmpf .olt main_v0 main_v1
  let main_c : IVec S_ 1 := constantI S_ 1 1#1
  let main_v3 : IVec S_ 1 := (fun x v => Host.reduce IntOp.andi x v reducesTo_S2x512x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S256x512 : Shape := ⟨2, ![256, 512]⟩
abbrev S4x2x128x256 : Shape := ⟨4, ![4, 2, 128, 256]⟩
abbrev S12 : Shape := ⟨1, ![12]⟩
abbrev S_ : Shape := ⟨0, ![]⟩
abbrev S128x256 : Shape := ⟨2, ![128, 256]⟩
abbrev S256x256 : Shape := ⟨2, ![256, 256]⟩
abbrev S1x128x512 : Shape := ⟨3, ![1, 128, 512]⟩
abbrev S128x512 : Shape := ⟨2, ![128, 512]⟩
abbrev S1x1x128x256 : Shape := ⟨4, ![1, 1, 128, 256]⟩
abbrev S1 : Shape := ⟨1, ![1]⟩
abbrev S128x64 : Shape := ⟨2, ![128, 64]⟩
abbrev S1x1x128x64 : Shape := ⟨4, ![1, 1, 128, 64]⟩
abbrev S128x128 : Shape := ⟨2, ![128, 128]⟩
abbrev S128 : Shape := ⟨1, ![128]⟩
abbrev S128x1 : Shape := ⟨2, ![128, 1]⟩

abbrev nBuf : Space → Nat
  | .hbm => 6
  | .vmem => 8
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S256x512, .f32⟩
  | .local _ .vmem, ⟨5, _⟩ => ⟨S2x128x512, .f32⟩
  | .local _ .vmem, ⟨6, _⟩ => ⟨S4x2x128x256, .bf16⟩
  | .local _ .vmem, ⟨7, _⟩ => ⟨S4x2x128x256, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_69 : BitVec 32 := 1#32
  let v155 : BitVec 32 := Scalar.muli v7 c1_i32_69
  let v156 : BitVec 32 := Scalar.addi c0_i32_70 v155
  v156.toNat
def k0_dev4 (d0 : Dev nD) : Nat :=
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_81 : BitVec 32 := 1#32
  let v165 : BitVec 32 := Scalar.muli v5 c1_i32_81
  let v166 : BitVec 32 := Scalar.addi c0_i32_82 v165
  v166.toNat
def k0_dev5 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_98 : BitVec 32 := 1#32
  let v180 : BitVec 32 := Scalar.muli v7 c1_i32_98
  let v181 : BitVec 32 := Scalar.addi c0_i32_99 v180
  v181.toNat
def k0_dev6 (d0 : Dev nD) : Nat :=
  let c0_i32_115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_114 : BitVec 32 := 1#32
  let v195 : BitVec 32 := Scalar.muli v5 c1_i32_114
  let v196 : BitVec 32 := Scalar.addi c0_i32_115 v195
  v196.toNat
def k0_dev7 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_126 : BitVec 32 := 1#32
  let v205 : BitVec 32 := Scalar.muli v7 c1_i32_126
  let v206 : BitVec 32 := Scalar.addi c0_i32_127 v205
  v206.toNat
def k0_dev8 (d0 : Dev nD) : Nat :=
  let c0_i32_138 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_137 : BitVec 32 := 1#32
  let v215 : BitVec 32 := Scalar.muli v5 c1_i32_137
  let v216 : BitVec 32 := Scalar.addi c0_i32_138 v215
  v216.toNat
def k0_dev9 (d0 : Dev nD) : Nat :=
  let c0_i32_149 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_148 : BitVec 32 := 1#32
  let v225 : BitVec 32 := Scalar.muli v7 c1_i32_148
  let v226 : BitVec 32 := Scalar.addi c0_i32_149 v225
  v226.toNat
def k0_dev10 (d0 : Dev nD) : Nat :=
  let c0_i32_160 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_159 : BitVec 32 := 1#32
  let v235 : BitVec 32 := Scalar.muli v5 c1_i32_159
  let v236 : BitVec 32 := Scalar.addi c0_i32_160 v235
  v236.toNat
def k0_dev11 (d0 : Dev nD) : Nat :=
  let c0_i32_274 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_273 : BitVec 32 := 1#32
  let v359 : BitVec 32 := Scalar.muli v7 c1_i32_273
  let v360 : BitVec 32 := Scalar.addi c0_i32_274 v359
  v360.toNat
def k0_dev12 (d0 : Dev nD) : Nat :=
  let c0_i32_321 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_320 : BitVec 32 := 1#32
  let v409 : BitVec 32 := Scalar.muli v5 c1_i32_320
  let v410 : BitVec 32 := Scalar.addi c0_i32_321 v409
  v410.toNat
def k0_dev13 (d0 : Dev nD) : Nat :=
  let c0_i32_367 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_366 : BitVec 32 := 1#32
  let v459 : BitVec 32 := Scalar.muli v7 c1_i32_366
  let v460 : BitVec 32 := Scalar.addi c0_i32_367 v459
  v460.toNat
def k0_dev14 (d0 : Dev nD) : Nat :=
  let c0_i32_410 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_409 : BitVec 32 := 1#32
  let v489 : BitVec 32 := Scalar.muli v5 c1_i32_409
  let v490 : BitVec 32 := Scalar.addi c0_i32_410 v489
  v490.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x512 : Shape := ⟨3, ![2, 512, 512]⟩
abbrev S512x256 : Shape := ⟨2, ![512, 256]⟩
abbrev S256x512 : Shape := ⟨2, ![256, 512]⟩
abbrev S32 : Shape := ⟨1, ![32]⟩
abbrev S_ : Shape := ⟨0, ![]⟩
abbrev S512 : Shape := ⟨1, ![512]⟩
abbrev S512x1 : Shape := ⟨2, ![512, 1]⟩
abbrev S1x32 : Shape := ⟨2, ![1, 32]⟩
abbrev S512x32 : Shape := ⟨2, ![512, 32]⟩
abbrev S512x32x2 : Shape := ⟨3, ![512, 32, 2]⟩
abbrev S512x64 : Shape := ⟨2, ![512, 64]⟩
abbrev S2x512x256 : Shape := ⟨3, ![2, 512, 256]⟩
abbrev S2x512x4x64 : Shape := ⟨4, ![2, 512, 4, 64]⟩
abbrev S2x512x4x32x2 : Shape := ⟨5, ![2, 512, 4, 32, 2]⟩
abbrev S2x512x4x32x1 : Shape := ⟨5, ![2, 512, 4, 32, 1]⟩
abbrev S2x512x4x32 : Shape := ⟨4, ![2, 512, 4, 32]⟩
abbrev S1x512x1x64 : Shape := ⟨4, ![1, 512, 1, 64]⟩
abbrev S2x4x512x512 : Shape := ⟨4, ![2, 4, 512, 512]⟩
abbrev S2x4x512 : Shape := ⟨3, ![2, 4, 512]⟩
abbrev S2x4x512x1 : Shape := ⟨4, ![2, 4, 512, 1]⟩
abbrev S2x4x64x512 : Shape := ⟨4, ![2, 4, 64, 512]⟩

abbrev nBuf : Space → Nat
  | .hbm => 94
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S256x512, .f32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S512, .i32⟩
  | .hbm, ⟨23, _⟩ => ⟨S512x1, .i32⟩
  | .hbm, ⟨24, _⟩ => ⟨S1x32, .f32⟩
  | .hbm, ⟨25, _⟩ => ⟨S512x1, .f32⟩
  | .hbm, ⟨26, _⟩ => ⟨S512x32, .f32⟩
  | .hbm, ⟨27, _⟩ => ⟨S512x32, .f32⟩
  | .hbm, ⟨28, _⟩ => ⟨S512x32, .f32⟩
  | .hbm, ⟨29, _⟩ => ⟨S512x32, .f32⟩
  | .hbm, ⟨30, _⟩ => ⟨S512x32x2, .f32⟩
  | .hbm, ⟨31, _⟩ => ⟨S512x64, .f32⟩
  | .hbm, ⟨32, _⟩ => ⟨S512x32, .f32⟩
  | .hbm, ⟨33, _⟩ => ⟨S512x32x2, .f32⟩
  | .hbm, ⟨34, _⟩ => ⟨S512x64, .f32⟩
  | .hbm, ⟨35, _⟩ => ⟨S2x512x256, .f32⟩
  | .hbm, ⟨36, _⟩ => ⟨S2x512x4x64, .f32⟩
  | .hbm, ⟨37, _⟩ => ⟨S2x512x4x32x2, .f32⟩
  | .hbm, ⟨38, _⟩ => ⟨S2x512x4x32x1, .f32⟩
  | .hbm, ⟨39, _⟩ => ⟨S2x512x4x32, .f32⟩
  | .hbm, ⟨40, _⟩ => ⟨S2x512x4x32, .f32⟩
  | .hbm, ⟨41, _⟩ => ⟨S2x512x4x32x1, .f32⟩
  | .hbm, ⟨42, _⟩ => ⟨S2x512x4x32, .f32⟩
  | .hbm, ⟨43, _⟩ => ⟨S2x512x4x32x1, .f32⟩
  | .hbm, ⟨44, _⟩ => ⟨S2x512x4x32x1, .f32⟩
  | .hbm, ⟨45, _⟩ => ⟨S2x512x4x32x2, .f32⟩
  | .hbm, ⟨46, _⟩ => ⟨S2x512x4x64, .f32⟩
  | .hbm, ⟨47, _⟩ => ⟨S1x512x1x64, .f32⟩
  | .hbm, ⟨48, _⟩ => ⟨S2x512x4x64, .f32⟩
  | .hbm, ⟨49, _⟩ => ⟨S2x512x4x64, .f32⟩
  | .hbm, ⟨50, _⟩ => ⟨S1x512x1x64, .f32⟩
  | .hbm, ⟨51, _⟩ => ⟨S2x512x4x64, .f32⟩
  | .hbm, ⟨52, _⟩ => ⟨S2x512x4x64, .f32⟩
  | .hbm, ⟨53, _⟩ => ⟨S2x512x4x64, .f32⟩
  | .hbm, ⟨54, _⟩ => ⟨S2x512x256, .f32⟩
  | .hbm, ⟨55, _⟩ => ⟨S2x512x4x64, .f32⟩
  | .hbm, ⟨56, _⟩ => ⟨S2x512x4x32x2, .f32⟩
  | .hbm, ⟨57, _⟩ => ⟨S2x512x4x32x1, .f32⟩
  | .hbm, ⟨58, _⟩ => ⟨S2x512x4x32, .f32⟩
  | .hbm, ⟨59, _⟩ => ⟨S2x512x4x32, .f32⟩
  | .hbm, ⟨60, _⟩ => ⟨S2x512x4x32x1, .f32⟩
  | .hbm, ⟨61, _⟩ => ⟨S2x512x4x32, .f32⟩
  | .hbm, ⟨62, _⟩ => ⟨S2x512x4x32x1, .f32⟩
  | .hbm, ⟨63, _⟩ => ⟨S2x512x4x32x1, .f32⟩
  | .hbm, ⟨64, _⟩ => ⟨S2x512x4x32x2, .f32⟩
  | .hbm, ⟨65, _⟩ => ⟨S2x512x4x64, .f32⟩
  | .hbm, ⟨66, _⟩ => ⟨S1x512x1x64, .f32⟩
  | .hbm, ⟨67, _⟩ => ⟨S2x512x4x64, .f32⟩
  | .hbm, ⟨68, _⟩ => ⟨S2x512x4x64, .f32⟩
  | .hbm, ⟨69, _⟩ => ⟨S1x512x1x64, .f32⟩
  | .hbm, ⟨70, _⟩ => ⟨S2x512x4x64, .f32⟩
  | .hbm, ⟨71, _⟩ => ⟨S2x512x4x64, .f32⟩
  | .hbm, ⟨72, _⟩ => ⟨S2x512x4x64, .f32⟩
  | .hbm, ⟨73, _⟩ => ⟨S2x512x256, .f32⟩
  | .hbm, ⟨74, _⟩ => ⟨S2x512x4x64, .f32⟩
  | .hbm, ⟨75, _⟩ => ⟨S2x4x512x512, .f32⟩
  | .hbm, ⟨76, _⟩ => ⟨S_, .f32⟩
  | .hbm, ⟨77, _⟩ => ⟨S2x4x512x512, .f32⟩
  | .hbm, ⟨78, _⟩ => ⟨S2x4x512x512, .f32⟩
  | .hbm, ⟨79, _⟩ => ⟨S_, .f32⟩
  | .hbm, ⟨80, _⟩ => ⟨S2x4x512, .f32⟩
  | .hbm, ⟨81, _⟩ => ⟨S2x4x512x1, .f32⟩
  | .hbm, ⟨82, _⟩ => ⟨S2x4x512x512, .f32⟩
  | .hbm, ⟨83, _⟩ => ⟨S2x4x512x512, .f32⟩
  | .hbm, ⟨84, _⟩ => ⟨S2x4x512x512, .f32⟩
  | .hbm, ⟨85, _⟩ => ⟨S_, .f32⟩
  | .hbm, ⟨86, _⟩ => ⟨S2x4x512, .f32⟩
  | .hbm, ⟨87, _⟩ => ⟨S2x4x512x1, .f32⟩
  | .hbm, ⟨88, _⟩ => ⟨S2x4x512x512, .f32⟩
  | .hbm, ⟨89, _⟩ => ⟨S2x4x512x512, .f32⟩
  | .hbm, ⟨90, _⟩ => ⟨S2x4x64x512, .f32⟩
  | .hbm, ⟨91, _⟩ => ⟨S2x512x4x64, .f32⟩
  | .hbm, ⟨92, _⟩ => ⟨S2x512x256, .f32⟩
  | .hbm, ⟨93, _⟩ => ⟨S2x512x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_3 : Ref sig .tc := ⟨.hbm, 76, rfl⟩
abbrev main_v66 : Ref sig .tc := ⟨.hbm, 77, rfl⟩
abbrev main_v67 : Ref sig .tc := ⟨.hbm, 78, rfl⟩
abbrev main_cst_4 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_5 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩

abbrev nD : Nat := 1
abbrev τ : Topo := Topo.v7x

variable {F : FTy → Type} [FloatOps F]
-- ==== Proof.Common.lean ====
/-
The protocol of the four-device ring attention kernel, written down before the run.

Device c has a left neighbour `prv c` and a right neighbour `nxt c`.  Each device holds two gather buffers (keys, values),
each of four slots times two batches of a [128,256] block: slot 0 its own block, slot 1 the block of `prv c`, slot 2 that of
`nxt c`, slot 3 that of the device across the ring.  Twelve transfers, numbered in start order; an even one goes to the
right neighbour, an odd one to the left:

  0: k[0,1] to k[1,1]   1: k[0,0] to k[2,0]   2: v[0,1] to v[1,1]   3: v[0,0] to v[2,0]
  4: k[0,0] to k[1,0]   5: k[0,1] to k[2,1]   6: v[0,0] to v[1,0]   7: v[0,1] to v[2,1]
  8: k[1,1] to k[3,1]   9: k[2,0] to k[3,0]  10: v[1,1] to v[3,1]  11: v[2,0] to v[3,0]

Semaphores, per device c:
* the barrier: waited for 2 by c after its own blocks of keys are stored.  Signalled by `nxt c` (its first signal), which hands over
  the six regions of `nxt c` that the transfers of c going right write, at any contents; and by `prv c` (its second signal), which hands
  over the six regions of `prv c` that the transfers of c going left write.
* send semaphore i: one credit of a [128,256] block by transfer i itself, handing back the share of the source block that it read,
  at the block's contents; waited at the end, in start order.
* receive semaphore i: one credit of a block by transfer i of the neighbour (of `prv c` for even i, of `nxt c` for odd i), handing
  over the landing block with the gathered contents: in slot s, batch b, the block of batch b of the device whose block that slot holds.
  Waited in the order 0, 1, ..., 11, transfers 8 to 11 being started right after the waits 0 to 3.

Levels: the barrier 1, receive semaphores 0 to 7 at 2, receive semaphores 8 to 11 at 3, all others 0: at its barrier wait a device
owes receive credits only, and at its waits on receive semaphores 0 to 3 it owes only receive credits of index 8 and above.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rounds ghost state, its duties named by `Bool`. -/
abbrev UB : Type := URounds (GSem nD τ sig) Bool
/-- The pipeline's ghost state and the ring's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter at zero. -/
def s₀ : MemSt nD τ sig (Elt F) := ⟨m, fun _ => 0, ρ⟩

/-! ## The ring -/

set_option backward.proofsInPublic true in
/-- The right neighbour. -/
def nxt (c : Dev nD) : Dev nD := ⟨(c.val + 1) % 4, Nat.mod_lt _ (by decide)⟩
set_option backward.proofsInPublic true in
/-- The left neighbour. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- The ring as a permutation of the devices. -/
def ring : Dev nD ≃ Dev nD := ⟨nxt, prv, prv_nxt, nxt_prv⟩

theorem dev1_eq (c : Dev nD) : (⟨k0_dev1 c, k0_dev1_lt c⟩ : Dev nD) = prv c := by revert c; decide
theorem dev2_eq (c : Dev nD) : (⟨k0_dev2 c, k0_dev2_lt c⟩ : Dev nD) = nxt c := by revert c; decide
theorem dev3_eq (c : Dev nD) : (⟨k0_dev3 c, k0_dev3_lt c⟩ : Dev nD) = nxt c := by revert c; decide
theorem dev4_eq (c : Dev nD) : (⟨k0_dev4 c, k0_dev4_lt c⟩ : Dev nD) = prv c := by revert c; decide
theorem dev5_eq (c : Dev nD) : (⟨k0_dev5 c, k0_dev5_lt c⟩ : Dev nD) = nxt c := by revert c; decide
theorem dev6_eq (c : Dev nD) : (⟨k0_dev6 c, k0_dev6_lt c⟩ : Dev nD) = prv c := by revert c; decide
theorem dev7_eq (c : Dev nD) : (⟨k0_dev7 c, k0_dev7_lt c⟩ : Dev nD) = nxt c := by revert c; decide
theorem dev8_eq (c : Dev nD) : (⟨k0_dev8 c, k0_dev8_lt c⟩ : Dev nD) = prv c := by revert c; decide
theorem dev9_eq (c : Dev nD) : (⟨k0_dev9 c, k0_dev9_lt c⟩ : Dev nD) = nxt c := by revert c; decide
theorem dev10_eq (c : Dev nD) : (⟨k0_dev10 c, k0_dev10_lt c⟩ : Dev nD) = prv c := by revert c; decide
theorem dev11_eq (c : Dev nD) : (⟨k0_dev11 c, k0_dev11_lt c⟩ : Dev nD) = nxt c := by revert c; decide
theorem dev12_eq (c : Dev nD) : (⟨k0_dev12 c, k0_dev12_lt c⟩ : Dev nD) = prv c := by revert c; decide
theorem dev13_eq (c : Dev nD) : (⟨k0_dev13 c, k0_dev13_lt c⟩ : Dev nD) = nxt c := by revert c; decide
theorem dev14_eq (c : Dev nD) : (⟨k0_dev14 c, k0_dev14_lt c⟩ : Dev nD) = prv c := by revert c; decide

/-! ## Buffers, pieces, semaphores, cells -/

abbrev kM : Memref sig .tc .vmem S4x2x128x256 .bf16 := Memref.whole cc0_scratch0
abbrev vM : Memref sig .tc .vmem S4x2x128x256 .bf16 := Memref.whole cc0_scratch1

/-- The block of the key buffer at offset `o`, as a [128,256] view. -/
abbrev kP (o : Fin 4 → ℕ) (h : ∀ a, o a + S1x1x128x256.size a ≤ S4x2x128x256.size a) : Memref sig .tc .vmem S128x256 .bf16 :=
  (kM.slice (Rect.unit (s := S4x2x128x256) o S1x1x128x256.size h) (fun _ => rfl)).squeeze S128x256 squeezes_S1x1x128x256_S128x256
/-- The block of the value buffer at offset `o`. -/
abbrev vP (o : Fin 4 → ℕ) (h : ∀ a, o a + S1x1x128x256.size a ≤ S4x2x128x256.size a) : Memref sig .tc .vmem S128x256 .bf16 :=
  (vM.slice (Rect.unit (s := S4x2x128x256) o S1x1x128x256.size h) (fun _ => rfl)).squeeze S128x256 squeezes_S1x1x128x256_S128x256

/-- Device `c` holds the block of its key buffer at offset `o`, at share `q`, the buffer's contents being `f`. -/
def kPt (c : Dev nD) (o : Fin 4 → ℕ) (h : ∀ a, o a + S1x1x128x256.size a ≤ S4x2x128x256.size a) (q : PosShare TreeShare)
    (f : Buf (Elt F) ((c : Thread nD τ).loc cc0_scratch0)) : sProp 𝕄 :=
  (kP o h).view.loc (c : Thread nD τ) ↦[(kP o h).view.set]{q} f
/-- The same for its value buffer. -/
def vPt (c : Dev nD) (o : Fin 4 → ℕ) (h : ∀ a, o a + S1x1x128x256.size a ≤ S4x2x128x256.size a) (q : PosShare TreeShare)
    (f : Buf (Elt F) ((c : Thread nD τ).loc cc0_scratch1)) : sProp 𝕄 :=
  (vP o h).view.loc (c : Thread nD τ) ↦[(vP o h).view.set]{q} f

omit [FloatOps F] in
instance kPt_storable (c : Dev nD) (o h q f) : BI.Storable (upEmb : UEmb _ 𝕄) (kPt (F := F) c o h q f) := by unfold kPt; infer_instance
omit [FloatOps F] in
instance vPt_storable (c : Dev nD) (o h q f) : BI.Storable (upEmb : UEmb _ 𝕄) (vPt (F := F) c o h q f) := by unfold vPt; infer_instance

/-- The runtime's barrier semaphore. -/
abbrev barS : Sem sig := (SemArray.scalar (sig.barrier 0 rfl) : Sems sig S_).sem

abbrev sS0 : DmaSem sig := ⟨6, by decide⟩
abbrev sS1 : DmaSem sig := ⟨7, by decide⟩
abbrev sS2 : DmaSem sig := ⟨8, by decide⟩
abbrev sS3 : DmaSem sig := ⟨9, by decide⟩
abbrev sS4 : DmaSem sig := ⟨10, by decide⟩
abbrev sS5 : DmaSem sig := ⟨11, by decide⟩
abbrev sS6 : DmaSem sig := ⟨12, by decide⟩
abbrev sS7 : DmaSem sig := ⟨13, by decide⟩
abbrev sS8 : DmaSem sig := ⟨14, by decide⟩
abbrev sS9 : DmaSem sig := ⟨15, by decide⟩
abbrev sS10 : DmaSem sig := ⟨16, by decide⟩
abbrev sS11 : DmaSem sig := ⟨17, by decide⟩
abbrev rS0 : DmaSem sig := ⟨18, by decide⟩
abbrev rS1 : DmaSem sig := ⟨19, by decide⟩
abbrev rS2 : DmaSem sig := ⟨20, by decide⟩
abbrev rS3 : DmaSem sig := ⟨21, by decide⟩
abbrev rS4 : DmaSem sig := ⟨22, by decide⟩
abbrev rS5 : DmaSem sig := ⟨23, by decide⟩
abbrev rS6 : DmaSem sig := ⟨24, by decide⟩
abbrev rS7 : DmaSem sig := ⟨25, by decide⟩
abbrev rS8 : DmaSem sig := ⟨26, by decide⟩
abbrev rS9 : DmaSem sig := ⟨27, by decide⟩
abbrev rS10 : DmaSem sig := ⟨28, by decide⟩
abbrev rS11 : DmaSem sig := ⟨29, by decide⟩
theorem sSem0 : ((cc0_scratch2.slice (Rect.unit (s := S12) ![0] ![1] inb_S12_S1_0)).squeeze S_ squeezes_S1_S_).sem = sS0 := rfl
theorem rSem0 : ((cc0_scratch3.slice (Rect.unit (s := S12) ![0] ![1] inb_S12_S1_0)).squeeze S_ squeezes_S1_S_).sem = rS0 := rfl
theorem sSem1 : ((cc0_scratch2.slice (Rect.unit (s := S12) ![1] ![1] inb_S12_S1_1)).squeeze S_ squeezes_S1_S_).sem = sS1 := rfl
theorem rSem1 : ((cc0_scratch3.slice (Rect.unit (s := S12) ![1] ![1] inb_S12_S1_1)).squeeze S_ squeezes_S1_S_).sem = rS1 := rfl
theorem sSem2 : ((cc0_scratch2.slice (Rect.unit (s := S12) ![2] ![1] inb_S12_S1_2)).squeeze S_ squeezes_S1_S_).sem = sS2 := rfl
theorem rSem2 : ((cc0_scratch3.slice (Rect.unit (s := S12) ![2] ![1] inb_S12_S1_2)).squeeze S_ squeezes_S1_S_).sem = rS2 := rfl
theorem sSem3 : ((cc0_scratch2.slice (Rect.unit (s := S12) ![3] ![1] inb_S12_S1_3)).squeeze S_ squeezes_S1_S_).sem = sS3 := rfl
theorem rSem3 : ((cc0_scratch3.slice (Rect.unit (s := S12) ![3] ![1] inb_S12_S1_3)).squeeze S_ squeezes_S1_S_).sem = rS3 := rfl
theorem sSem4 : ((cc0_scratch2.slice (Rect.unit (s := S12) ![4] ![1] inb_S12_S1_4)).squeeze S_ squeezes_S1_S_).sem = sS4 := rfl
theorem rSem4 : ((cc0_scratch3.slice (Rect.unit (s := S12) ![4] ![1] inb_S12_S1_4)).squeeze S_ squeezes_S1_S_).sem = rS4 := rfl
theorem sSem5 : ((cc0_scratch2.slice (Rect.unit (s := S12) ![5] ![1] inb_S12_S1_5)).squeeze S_ squeezes_S1_S_).sem = sS5 := rfl
theorem rSem5 : ((cc0_scratch3.slice (Rect.unit (s := S12) ![5] ![1] inb_S12_S1_5)).squeeze S_ squeezes_S1_S_).sem = rS5 := rfl
theorem sSem6 : ((cc0_scratch2.slice (Rect.unit (s := S12) ![6] ![1] inb_S12_S1_6)).squeeze S_ squeezes_S1_S_).sem = sS6 := rfl
theorem rSem6 : ((cc0_scratch3.slice (Rect.unit (s := S12) ![6] ![1] inb_S12_S1_6)).squeeze S_ squeezes_S1_S_).sem = rS6 := rfl
theorem sSem7 : ((cc0_scratch2.slice (Rect.unit (s := S12) ![7] ![1] inb_S12_S1_7)).squeeze S_ squeezes_S1_S_).sem = sS7 := rfl
theorem rSem7 : ((cc0_scratch3.slice (Rect.unit (s := S12) ![7] ![1] inb_S12_S1_7)).squeeze S_ squeezes_S1_S_).sem = rS7 := rfl
theorem sSem8 : ((cc0_scratch2.slice (Rect.unit (s := S12) ![8] ![1] inb_S12_S1_8)).squeeze S_ squeezes_S1_S_).sem = sS8 := rfl
theorem rSem8 : ((cc0_scratch3.slice (Rect.unit (s := S12) ![8] ![1] inb_S12_S1_8)).squeeze S_ squeezes_S1_S_).sem = rS8 := rfl
theorem sSem9 : ((cc0_scratch2.slice (Rect.unit (s := S12) ![9] ![1] inb_S12_S1_9)).squeeze S_ squeezes_S1_S_).sem = sS9 := rfl
theorem rSem9 : ((cc0_scratch3.slice (Rect.unit (s := S12) ![9] ![1] inb_S12_S1_9)).squeeze S_ squeezes_S1_S_).sem = rS9 := rfl
theorem sSem10 : ((cc0_scratch2.slice (Rect.unit (s := S12) ![10] ![1] inb_S12_S1_10)).squeeze S_ squeezes_S1_S_).sem = sS10 := rfl
theorem rSem10 : ((cc0_scratch3.slice (Rect.unit (s := S12) ![10] ![1] inb_S12_S1_10)).squeeze S_ squeezes_S1_S_).sem = rS10 := rfl
theorem sSem11 : ((cc0_scratch2.slice (Rect.unit (s := S12) ![11] ![1] inb_S12_S1_11)).squeeze S_ squeezes_S1_S_).sem = sS11 := rfl
theorem rSem11 : ((cc0_scratch3.slice (Rect.unit (s := S12) ![11] ![1] inb_S12_S1_11)).squeeze S_ squeezes_S1_S_).sem = rS11 := rfl

/-- The kernel's own semaphores, sends then receives. -/
def osem : Fin 24 → SemLoc sig := fun k => .dma ⟨k.val + 6, by have := k.isLt; show k.val + 6 < 30; omega⟩
/-- The ring's semaphores: the barrier, then the sends (1 to 12), then the receives (13 to 24). -/
def csem : Fin 25 → SemLoc sig
  | ⟨0, _⟩ => .reg barS
  | ⟨k + 1, h⟩ => .dma ⟨k + 6, by show k + 6 < 30; omega⟩
abbrev kcell (ck : Dev nD × Fin 25) : GSem nD τ sig := ((ck.1 : Thread nD τ), csem ck.2)
abbrev barCell (c : Dev nD) : GSem nD τ sig := ((c : Thread nD τ), .reg barS)
abbrev sCell (c : Dev nD) (i : Fin 12) : GSem nD τ sig := ((c : Thread nD τ), .dma ⟨i.val + 6, by have := i.isLt; show i.val + 6 < 30; omega⟩)
abbrev rCell (c : Dev nD) (i : Fin 12) : GSem nD τ sig := ((c : Thread nD τ), .dma ⟨i.val + 18, by have := i.isLt; show i.val + 18 < 30; omega⟩)

/-- The credit of one block. -/
def N : ℕ := (kP ![0, 0, 0, 0] inb_S4x2x128x256_S1x1x128x256_0_0_0_0).view.dmaCredit
theorem N_pos : 0 < N := View.dmaCredit_pos _ (by decide)

/-! ## Contents -/

/-- What the launch stages of argument 0 on device `c`. -/
def xstg (c : Dev nD) : (cc0_stg0_0 : Ref sig .tc).ty.Contents (Elt F) :=
  (win0_0.blk (0 : Fin 1)).view.read (Elt F) ((s₀ m ρ).mem ((c : Thread nD τ).loc main_arg0))
/-- What the launch stages of argument 1 on device `c`. -/
def wqstg (c : Dev nD) : (cc0_stg1_0 : Ref sig .tc).ty.Contents (Elt F) :=
  (win0_1.blk (0 : Fin 1)).view.read (Elt F) ((s₀ m ρ).mem ((c : Thread nD τ).loc main_arg1))
/-- What the launch stages of argument 2 on device `c`. -/
def wkstg (c : Dev nD) : (cc0_stg2_0 : Ref sig .tc).ty.Contents (Elt F) :=
  (win0_2.blk (0 : Fin 1)).view.read (Elt F) ((s₀ m ρ).mem ((c : Thread nD τ).loc main_arg2))
/-- What the launch stages of argument 3 on device `c`. -/
def wvstg (c : Dev nD) : (cc0_stg3_0 : Ref sig .tc).ty.Contents (Elt F) :=
  (win0_3.blk (0 : Fin 1)).view.read (Elt F) ((s₀ m ρ).mem ((c : Thread nD τ).loc main_arg3))
/-- What the launch stages of argument 4 on device `c`. -/
def wostg (c : Dev nD) : (cc0_stg4_0 : Ref sig .tc).ty.Contents (Elt F) :=
  (win0_4.blk (0 : Fin 1)).view.read (Elt F) ((s₀ m ρ).mem ((c : Thread nD τ).loc main_arg4))

/-- The loads of the staged arguments. -/
def wqL (c : Dev nD) : Vec F S512x256 .f32 :=
  (Memref.whole cc0_stg1_0 : Memref sig .tc .vmem S512x256 .f32).view.readAt (Elt F) (Rect.unit (s := S512x256) ![0, 0] S512x256.size inb_S512x256_S512x256_0_0).toLoadRect (wqstg m ρ c)
def wkL (c : Dev nD) : Vec F S512x256 .f32 :=
  (Memref.whole cc0_stg2_0 : Memref sig .tc .vmem S512x256 .f32).view.readAt (Elt F) (Rect.unit (s := S512x256) ![0, 0] S512x256.size inb_S512x256_S512x256_0_0).toLoadRect (wkstg m ρ c)
def wvL (c : Dev nD) : Vec F S512x256 .f32 :=
  (Memref.whole cc0_stg3_0 : Memref sig .tc .vmem S512x256 .f32).view.readAt (Elt F) (Rect.unit (s := S512x256) ![0, 0] S512x256.size inb_S512x256_S512x256_0_0).toLoadRect (wvstg m ρ c)
def woL (c : Dev nD) : Vec F S256x512 .f32 :=
  (Memref.whole cc0_stg4_0 : Memref sig .tc .vmem S256x512 .f32).view.readAt (Elt F) (Rect.unit (s := S256x512) ![0, 0] S256x512.size inb_S256x512_S256x512_0_0).toLoadRect (wostg m ρ c)
def x0L (c : Dev nD) : Vec F S1x128x512 .f32 :=
  (Memref.whole cc0_stg0_0 : Memref sig .tc .vmem S2x128x512 .f32).view.readAt (Elt F) (Rect.unit (s := S2x128x512) ![0, 0, 0] S1x128x512.size inb_S2x128x512_S1x128x512_0_0_0).toLoadRect (xstg m ρ c)
def x1L (c : Dev nD) : Vec F S1x128x512 .f32 :=
  (Memref.whole cc0_stg0_0 : Memref sig .tc .vmem S2x128x512 .f32).view.readAt (Elt F) (Rect.unit (s := S2x128x512) ![1, 0, 0] S1x128x512.size inb_S2x128x512_S1x128x512_1_0_0).toLoadRect (xstg m ρ c)

/-- The cosines and sines of device `c`'s positions, and the rotation matrix. -/
def cosA (c : Dev nD) : FVec F S128x256 .f32 := k0_pay5 (k0_pay2 (F := F) c) k0_pay3 2#32
def sinA (c : Dev nD) : FVec F S128x256 .f32 := k0_pay6 (k0_pay2 (F := F) c) k0_pay3 2#32
def rotA : FVec F S256x256 .bf16 :=
  k0_pay11 (F := F) (iota .tc S256x256 32 [0] iota_S256x256_d0_w32) (iota .tc S256x256 32 [1] iota_S256x256_d1_w32) k0_pay7
    (Scalar.select (Scalar.cmpi .eq 2#32 0#32) 1#32 2#32) k0_pay8 k0_pay9 k0_pay10

/-- Device `c`'s own key blocks of the two batches, and its value blocks. -/
def kOwn0 (c : Dev nD) : S1x1x128x256.Idx → Elt F .bf16 := k0_pay18 (cosA (F := F) c) (sinA (F := F) c) (rotA (F := F)) (k0_pay12 (wkL m ρ c)) (x0L m ρ c)
def kOwn1 (c : Dev nD) : S1x1x128x256.Idx → Elt F .bf16 := k0_pay19 (cosA (F := F) c) (sinA (F := F) c) (rotA (F := F)) (k0_pay12 (wkL m ρ c)) (x1L m ρ c)
def vOwn0 (c : Dev nD) : S1x1x128x256.Idx → Elt F .bf16 := k0_pay21 (k0_pay13 (wvL m ρ c)) (k0_pay16 (x0L m ρ c))
def vOwn1 (c : Dev nD) : S1x1x128x256.Idx → Elt F .bf16 := k0_pay20 (k0_pay13 (wvL m ρ c)) (k0_pay17 (x1L m ρ c))

/-- The device whose block slot `s` of device `c` holds. -/
def srcDev (c : Dev nD) : ℕ → Dev nD
  | 0 => c
  | 1 => prv c
  | 2 => nxt c
  | _ => nxt (nxt c)

/-- The index inside a block of an index of a gather buffer. -/
def blkIdx (i : S4x2x128x256.Idx) : S1x1x128x256.Idx
  | ⟨0, _⟩ => (⟨0, Nat.one_pos⟩ : Fin 1)
  | ⟨1, _⟩ => (⟨0, Nat.one_pos⟩ : Fin 1)
  | ⟨2, _⟩ => ⟨(i 2).val, (i 2).isLt⟩
  | ⟨3, _⟩ => ⟨(i 3).val, (i 3).isLt⟩
  | ⟨n + 4, h⟩ => absurd h (by show ¬ n + 4 < 4; omega)

/-- The gathered contents: block (s, b) is the batch-b block of the device slot s holds. -/
def kAll (c : Dev nD) : Buf (Elt F) ((c : Thread nD τ).loc cc0_scratch0) := fun (i : S4x2x128x256.Idx) =>
  (if (i 1).val = 0 then kOwn0 m ρ (srcDev c (i 0).val) else kOwn1 m ρ (srcDev c (i 0).val)) (blkIdx i)
def vAll (c : Dev nD) : Buf (Elt F) ((c : Thread nD τ).loc cc0_scratch1) := fun (i : S4x2x128x256.Idx) =>
  (if (i 1).val = 0 then vOwn0 m ρ (srcDev c (i 0).val) else vOwn1 m ρ (srcDev c (i 0).val)) (blkIdx i)

/-- An element of a block's view, by its coordinates. -/
theorem kP_emb_val (o : Fin 4 → ℕ) (h) (x : S128x256.Idx) (a : Fin 4) :
    (((kP o h).view.emb x : S4x2x128x256.Idx) a).val = o a + (Shape.reshapeEquiv (s := S1x1x128x256) (s' := S128x256) rfl x a).val := by
  show o a + 1 * _ = _
  rw [Nat.one_mul]; rfl
theorem vP_emb_val (o : Fin 4 → ℕ) (h) (x : S128x256.Idx) (a : Fin 4) :
    (((vP o h).view.emb x : S4x2x128x256.Idx) a).val = o a + (Shape.reshapeEquiv (s := S1x1x128x256) (s' := S128x256) rfl x a).val := by
  show o a + 1 * _ = _
  rw [Nat.one_mul]; rfl

/-- An index of the gather buffer inside block (s, b), given by an index of the block. -/
theorem all_at {X : Type} (A B : Dev nD → S1x1x128x256.Idx → X) (c : Dev nD) (s b : ℕ) (i : S4x2x128x256.Idx) (y : S1x1x128x256.Idx)
    (hi : ∀ a : Fin 4, (i a).val = (![s, b, 0, 0] : Fin 4 → ℕ) a + (y a).val) :
    (if (i 1).val = 0 then A (srcDev c (i 0).val) else B (srcDev c (i 0).val)) (blkIdx i) = (if b = 0 then A (srcDev c s) else B (srcDev c s)) y := by
  have h0 : (i 0).val = s := by have := hi 0; have hy : (y 0).val < 1 := (y 0).isLt; simp at this; omega
  have h1 : (i 1).val = b := by have := hi 1; have hy : (y 1).val < 1 := (y 1).isLt; simp at this; omega
  have h2 : blkIdx i = y := by
    funext a; apply Fin.ext
    match a with
    | ⟨0, _⟩ => have hy : (y 0).val < 1 := (y 0).isLt; show 0 = (y 0).val; omega
    | ⟨1, _⟩ => have hy : (y 1).val < 1 := (y 1).isLt; show 0 = (y 1).val; omega
    | ⟨2, _⟩ => have := hi 2; show (i 2).val = (y 2).val; simpa using this
    | ⟨3, _⟩ => have := hi 3; show (i 3).val = (y 3).val; simpa using this
  rw [h0, h1, h2]

theorem kAll_emb (c : Dev nD) (s b : ℕ) (h) (x : S128x256.Idx) :
    kAll m ρ c ((kP ![s, b, 0, 0] h).view.emb x) = (if b = 0 then kOwn0 m ρ (srcDev c s) else kOwn1 m ρ (srcDev c s)) (Shape.reshapeEquiv (s := S1x1x128x256) (s' := S128x256) rfl x) :=
  all_at (kOwn0 m ρ) (kOwn1 m ρ) c s b _ _ (fun a => kP_emb_val ![s, b, 0, 0] h x a)

/-- A landing of block (s, b) in block (s', b) of a device for which that slot holds the same device's block. -/
theorem k_land (c n : Dev nD) (s s' b : ℕ) (h h') (hs : srcDev c s = srcDev n s') (fd : Buf (Elt F) ((n : Thread nD τ).loc cc0_scratch0)) :
    ((kP ![s', b, 0, 0] h').view.loc (n : Thread nD τ) ↦[(kP ![s', b, 0, 0] h').view.set]{fullShare}
        (kP ![s', b, 0, 0] h').view.write (Elt F) fd ((kP ![s, b, 0, 0] h).view.read (Elt F) (kAll m ρ c)) Finset.univ : sProp 𝕄)
      = kPt n ![s', b, 0, 0] h' fullShare (kAll m ρ n) := by
  unfold kPt
  refine pointsTo_congr fun i hi => ?_
  obtain ⟨x, -, rfl⟩ := Finset.mem_map.mp hi
  rw [View.write_emb_of_mem _ _ (Finset.mem_univ x)]
  show kAll m ρ c ((kP ![s, b, 0, 0] h).view.emb x) = kAll m ρ n ((kP ![s', b, 0, 0] h').view.emb x)
  rw [kAll_emb, kAll_emb, hs]

/-- The store of a device's own block of batch b into slot 0. -/
theorem k_store (c : Dev nD) (b : ℕ) (h) (p : S1x1x128x256.Idx → Elt F .bf16) (hp : p = if b = 0 then kOwn0 m ρ c else kOwn1 m ρ c)
    (fd : Buf (Elt F) ((c : Thread nD τ).loc cc0_scratch0)) :
    ((kP ![0, b, 0, 0] h).view.loc (c : Thread nD τ) ↦[(kP ![0, b, 0, 0] h).view.set]{fullShare}
        (kM.access (Rect.unit (s := S4x2x128x256) ![0, b, 0, 0] S1x1x128x256.size h)).write (Elt F) fd p Finset.univ : sProp 𝕄)
      = kPt c ![0, b, 0, 0] h fullShare (kAll m ρ c) := by
  unfold kPt
  refine pointsTo_congr fun i hi => ?_
  obtain ⟨x, -, rfl⟩ := Finset.mem_map.mp hi
  rw [kAll_emb]
  show (kM.access (Rect.unit (s := S4x2x128x256) ![0, b, 0, 0] S1x1x128x256.size h)).write (Elt F) fd p Finset.univ
    ((kM.access (Rect.unit (s := S4x2x128x256) ![0, b, 0, 0] S1x1x128x256.size h)).emb (Shape.reshapeEquiv (s := S1x1x128x256) (s' := S128x256) rfl x)) = _
  rw [View.write_emb_of_mem _ _ (Finset.mem_univ _), hp]; rfl

/-- The elements of a block, as the loads of the whole buffer name them. -/
theorem kP_set (o : Fin 4 → ℕ) (h) : (kP o h).view.set = (Rect.unit (s := S4x2x128x256) o S1x1x128x256.size h).set :=
  (View.set_reshape _ _).trans (View.set_slice_whole _ _)

theorem vAll_emb (c : Dev nD) (s b : ℕ) (h) (x : S128x256.Idx) :
    vAll m ρ c ((vP ![s, b, 0, 0] h).view.emb x) = (if b = 0 then vOwn0 m ρ (srcDev c s) else vOwn1 m ρ (srcDev c s)) (Shape.reshapeEquiv (s := S1x1x128x256) (s' := S128x256) rfl x) :=
  all_at (vOwn0 m ρ) (vOwn1 m ρ) c s b _ _ (fun a => vP_emb_val ![s, b, 0, 0] h x a)

/-- A landing of block (s, b) in block (s', b) of a device for which that slot holds the same device's block. -/
theorem v_land (c n : Dev nD) (s s' b : ℕ) (h h') (hs : srcDev c s = srcDev n s') (fd : Buf (Elt F) ((n : Thread nD τ).loc cc0_scratch1)) :
    ((vP ![s', b, 0, 0] h').view.loc (n : Thread nD τ) ↦[(vP ![s', b, 0, 0] h').view.set]{fullShare}
        (vP ![s', b, 0, 0] h').view.write (Elt F) fd ((vP ![s, b, 0, 0] h).view.read (Elt F) (vAll m ρ c)) Finset.univ : sProp 𝕄)
      = vPt n ![s', b, 0, 0] h' fullShare (vAll m ρ n) := by
  unfold vPt
  refine pointsTo_congr fun i hi => ?_
  obtain ⟨x, -, rfl⟩ := Finset.mem_map.mp hi
  rw [View.write_emb_of_mem _ _ (Finset.mem_univ x)]
  show vAll m ρ c ((vP ![s, b, 0, 0] h).view.emb x) = vAll m ρ n ((vP ![s', b, 0, 0] h').view.emb x)
  rw [vAll_emb, vAll_emb, hs]

/-- The store of a device's own block of batch b into slot 0. -/
theorem v_store (c : Dev nD) (b : ℕ) (h) (p : S1x1x128x256.Idx → Elt F .bf16) (hp : p = if b = 0 then vOwn0 m ρ c else vOwn1 m ρ c)
    (fd : Buf (Elt F) ((c : Thread nD τ).loc cc0_scratch1)) :
    ((vP ![0, b, 0, 0] h).view.loc (c : Thread nD τ) ↦[(vP ![0, b, 0, 0] h).view.set]{fullShare}
        (vM.access (Rect.unit (s := S4x2x128x256) ![0, b, 0, 0] S1x1x128x256.size h)).write (Elt F) fd p Finset.univ : sProp 𝕄)
      = vPt c ![0, b, 0, 0] h fullShare (vAll m ρ c) := by
  unfold vPt
  refine pointsTo_congr fun i hi => ?_
  obtain ⟨x, -, rfl⟩ := Finset.mem_map.mp hi
  rw [vAll_emb]
  show (vM.access (Rect.unit (s := S4x2x128x256) ![0, b, 0, 0] S1x1x128x256.size h)).write (Elt F) fd p Finset.univ
    ((vM.access (Rect.unit (s := S4x2x128x256) ![0, b, 0, 0] S1x1x128x256.size h)).emb (Shape.reshapeEquiv (s := S1x1x128x256) (s' := S128x256) rfl x)) = _
  rw [View.write_emb_of_mem _ _ (Finset.mem_univ _), hp]; rfl

/-- The elements of a block, as the loads of the whole buffer name them. -/
theorem vP_set (o : Fin 4 → ℕ) (h) : (vP o h).view.set = (Rect.unit (s := S4x2x128x256) o S1x1x128x256.size h).set :=
  (View.set_reshape _ _).trans (View.set_slice_whole _ _)

/-! ## The schedule -/

/-- What transfer `i` of device `c` hands back to it through its send semaphore. -/
def sPay (c : Dev nD) : ℕ → sProp 𝕄
  | 0 => kPt c ![0, 1, 0, 0] inb_S4x2x128x256_S1x1x128x256_0_1_0_0 fullShare.left (kAll m ρ c)
  | 1 => kPt c ![0, 0, 0, 0] inb_S4x2x128x256_S1x1x128x256_0_0_0_0 fullShare.left (kAll m ρ c)
  | 2 => vPt c ![0, 1, 0, 0] inb_S4x2x128x256_S1x1x128x256_0_1_0_0 fullShare.left (vAll m ρ c)
  | 3 => vPt c ![0, 0, 0, 0] inb_S4x2x128x256_S1x1x128x256_0_0_0_0 fullShare.left (vAll m ρ c)
  | 4 => kPt c ![0, 0, 0, 0] inb_S4x2x128x256_S1x1x128x256_0_0_0_0 fullShare.right.left (kAll m ρ c)
  | 5 => kPt c ![0, 1, 0, 0] inb_S4x2x128x256_S1x1x128x256_0_1_0_0 fullShare.right.left (kAll m ρ c)
  | 6 => vPt c ![0, 0, 0, 0] inb_S4x2x128x256_S1x1x128x256_0_0_0_0 fullShare.right.left (vAll m ρ c)
  | 7 => vPt c ![0, 1, 0, 0] inb_S4x2x128x256_S1x1x128x256_0_1_0_0 fullShare.right.left (vAll m ρ c)
  | 8 => kPt c ![1, 1, 0, 0] inb_S4x2x128x256_S1x1x128x256_1_1_0_0 fullShare.left (kAll m ρ c)
  | 9 => kPt c ![2, 0, 0, 0] inb_S4x2x128x256_S1x1x128x256_2_0_0_0 fullShare.left (kAll m ρ c)
  | 10 => vPt c ![1, 1, 0, 0] inb_S4x2x128x256_S1x1x128x256_1_1_0_0 fullShare.left (vAll m ρ c)
  | 11 => vPt c ![2, 0, 0, 0] inb_S4x2x128x256_S1x1x128x256_2_0_0_0 fullShare.left (vAll m ρ c)
  | _ => iprop(emp)
/-- What lands at receive semaphore `i` of device `c`. -/
def rPay (c : Dev nD) : ℕ → sProp 𝕄
  | 0 => kPt c ![1, 1, 0, 0] inb_S4x2x128x256_S1x1x128x256_1_1_0_0 fullShare (kAll m ρ c)
  | 1 => kPt c ![2, 0, 0, 0] inb_S4x2x128x256_S1x1x128x256_2_0_0_0 fullShare (kAll m ρ c)
  | 2 => vPt c ![1, 1, 0, 0] inb_S4x2x128x256_S1x1x128x256_1_1_0_0 fullShare (vAll m ρ c)
  | 3 => vPt c ![2, 0, 0, 0] inb_S4x2x128x256_S1x1x128x256_2_0_0_0 fullShare (vAll m ρ c)
  | 4 => kPt c ![1, 0, 0, 0] inb_S4x2x128x256_S1x1x128x256_1_0_0_0 fullShare (kAll m ρ c)
  | 5 => kPt c ![2, 1, 0, 0] inb_S4x2x128x256_S1x1x128x256_2_1_0_0 fullShare (kAll m ρ c)
  | 6 => vPt c ![1, 0, 0, 0] inb_S4x2x128x256_S1x1x128x256_1_0_0_0 fullShare (vAll m ρ c)
  | 7 => vPt c ![2, 1, 0, 0] inb_S4x2x128x256_S1x1x128x256_2_1_0_0 fullShare (vAll m ρ c)
  | 8 => kPt c ![3, 1, 0, 0] inb_S4x2x128x256_S1x1x128x256_3_1_0_0 fullShare (kAll m ρ c)
  | 9 => kPt c ![3, 0, 0, 0] inb_S4x2x128x256_S1x1x128x256_3_0_0_0 fullShare (kAll m ρ c)
  | 10 => vPt c ![3, 1, 0, 0] inb_S4x2x128x256_S1x1x128x256_3_1_0_0 fullShare (vAll m ρ c)
  | 11 => vPt c ![3, 0, 0, 0] inb_S4x2x128x256_S1x1x128x256_3_0_0_0 fullShare (vAll m ρ c)
  | _ => iprop(emp)

/-- The regions of device `d` that the transfers of `prv d` going right write, at any contents. -/
def fromLeft (d : Dev nD) : sProp 𝕄 := iprop(∃ fk, ∃ fv, kPt d ![1, 1, 0, 0] inb_S4x2x128x256_S1x1x128x256_1_1_0_0 fullShare fk ∗ vPt d ![1, 1, 0, 0] inb_S4x2x128x256_S1x1x128x256_1_1_0_0 fullShare fv ∗ kPt d ![1, 0, 0, 0] inb_S4x2x128x256_S1x1x128x256_1_0_0_0 fullShare fk ∗ vPt d ![1, 0, 0, 0] inb_S4x2x128x256_S1x1x128x256_1_0_0_0 fullShare fv ∗ kPt d ![3, 1, 0, 0] inb_S4x2x128x256_S1x1x128x256_3_1_0_0 fullShare fk ∗ vPt d ![3, 1, 0, 0] inb_S4x2x128x256_S1x1x128x256_3_1_0_0 fullShare fv)
/-- The regions of device `d` that the transfers of `nxt d` going left write, at any contents. -/
def fromRight (d : Dev nD) : sProp 𝕄 := iprop(∃ fk, ∃ fv, kPt d ![2, 0, 0, 0] inb_S4x2x128x256_S1x1x128x256_2_0_0_0 fullShare fk ∗ vPt d ![2, 0, 0, 0] inb_S4x2x128x256_S1x1x128x256_2_0_0_0 fullShare fv ∗ kPt d ![2, 1, 0, 0] inb_S4x2x128x256_S1x1x128x256_2_1_0_0 fullShare fk ∗ vPt d ![2, 1, 0, 0] inb_S4x2x128x256_S1x1x128x256_2_1_0_0 fullShare fv ∗ kPt d ![3, 0, 0, 0] inb_S4x2x128x256_S1x1x128x256_3_0_0_0 fullShare fk ∗ vPt d ![3, 0, 0, 0] inb_S4x2x128x256_S1x1x128x256_3_0_0_0 fullShare fv)

/-- The schedule: every cell of the ring has one round. -/
def ringRd : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma _ => N
  payload g _ d := match g.2 with
    | .reg _ => if d then fromLeft (nxt g.1.1) else fromRight (prv g.1.1)
    | .dma q => if q.val < 18 then sPay m ρ g.1.1 (q.val - 6) else rPay m ρ g.1.1 (q.val - 18)
  amount_pos g _ _ _ := by
    split
    · exact Nat.one_pos
    · exact N_pos

omit [FloatOps F] in
instance fromLeft_storable (d : Dev nD) : BI.Storable (upEmb : UEmb _ 𝕄) (fromLeft (F := F) d) := by unfold fromLeft; infer_instance
omit [FloatOps F] in
instance fromRight_storable (d : Dev nD) : BI.Storable (upEmb : UEmb _ 𝕄) (fromRight (F := F) d) := by unfold fromRight; infer_instance
instance sPay_storable (c : Dev nD) (i : ℕ) : BI.Storable (upEmb : UEmb _ 𝕄) (sPay (F := F) m ρ c i) := by
  unfold sPay; split <;> infer_instance
instance rPay_storable (c : Dev nD) (i : ℕ) : BI.Storable (upEmb : UEmb _ 𝕄) (rPay (F := F) m ρ c i) := by
  unfold rPay; split <;> infer_instance
instance ringRd_payload_storable (g : GSem nD τ sig) (r : ℕ) (d : Bool) :
    BI.Storable (upEmb : UEmb _ 𝕄) ((ringRd (F := F) m ρ).payload g r d) := by
  dsimp only [ringRd]
  (repeat' split) <;> infer_instance

section Sched
variable (c : Dev nD)

theorem duties_bar : (ringRd (F := F) m ρ).duties (barCell c) 0 = Finset.univ := by dsimp only [ringRd]; exact if_pos ⟨rfl, rfl⟩
theorem duties_dma (q : DmaSem sig) : (ringRd (F := F) m ρ).duties ((c : Thread nD τ), .dma q) 0 = {false} := by dsimp only [ringRd]; exact if_pos ⟨rfl, rfl⟩
theorem duties_later (g : GSem nD τ sig) : ∀ r, 1 ≤ r → (ringRd (F := F) m ρ).duties g r = ∅ :=
  fun r hr => by dsimp only [ringRd]; rw [if_neg fun h => by omega]
theorem amount_bar (d : Bool) : (ringRd (F := F) m ρ).amount (barCell c) 0 d = 1 := rfl
theorem amount_dma (q : DmaSem sig) (d : Bool) : (ringRd (F := F) m ρ).amount ((c : Thread nD τ), .dma q) 0 d = N := rfl
theorem payload_bar_true : (ringRd (F := F) m ρ).payload (barCell c) 0 true = fromLeft (nxt c) := rfl
theorem payload_bar_false : (ringRd (F := F) m ρ).payload (barCell c) 0 false = fromRight (prv c) := rfl
theorem payload_dma (q : DmaSem sig) (d : Bool) : (ringRd (F := F) m ρ).payload ((c : Thread nD τ), .dma q) 0 d
    = if q.val < 18 then sPay m ρ c (q.val - 6) else rPay m ρ c (q.val - 18) := rfl
theorem expect_bar : (ringRd (F := F) m ρ).expect (barCell c) 0 = 2 := by
  unfold Rounds.Schedule.expect; rw [duties_bar]; rfl
theorem expect_dma (q : DmaSem sig) : (ringRd (F := F) m ρ).expect ((c : Thread nD τ), .dma q) 0 = N := by
  unfold Rounds.Schedule.expect Rounds.Schedule.amountOf; rw [duties_dma, Finset.sum_singleton]; rfl
theorem rest_bar : bigSep ((ringRd (F := F) m ρ).duties (barCell c) 0 \ ∅) (fun d => (ringRd (F := F) m ρ).payload (barCell c) 0 d)
    = iprop(fromRight (prv c) ∗ fromLeft (nxt c)) := by
  rw [Finset.sdiff_empty, duties_bar, bigSep_univ_eq_bigSepL [false, true] (by decide) (by decide), bigSepL_cons_cons, bigSepL_singleton,
    payload_bar_false, payload_bar_true]
  rfl
theorem rest_dma (q : DmaSem sig) : bigSep ((ringRd (F := F) m ρ).duties ((c : Thread nD τ), .dma q) 0 \ ∅) (fun d => (ringRd (F := F) m ρ).payload ((c : Thread nD τ), .dma q) 0 d)
    = if q.val < 18 then sPay m ρ c (q.val - 6) else rPay m ρ c (q.val - 18) := by
  rw [Finset.sdiff_empty, duties_dma, bigSep_singleton, payload_dma]

end Sched

/-! ## What a device owes; the levels -/

/-- The cell of a device's due number `n`, counted from the last one it pays: 0 to 11 the receive cells 11 down to 0 of the neighbours it
    sends to, 12 the right barrier, 13 the left barrier. -/
def dueCell (c : Dev nD) : ℕ → GSem nD τ sig
  | 0 => rCell (prv c) 11
  | 1 => rCell (nxt c) 10
  | 2 => rCell (prv c) 9
  | 3 => rCell (nxt c) 8
  | 4 => rCell (prv c) 7
  | 5 => rCell (nxt c) 6
  | 6 => rCell (prv c) 5
  | 7 => rCell (nxt c) 4
  | 8 => rCell (prv c) 3
  | 9 => rCell (nxt c) 2
  | 10 => rCell (prv c) 1
  | 11 => rCell (nxt c) 0
  | 12 => barCell (nxt c)
  | _ => barCell (prv c)
def dueAmt (n : ℕ) : ℕ := if n < 12 then N else 1
/-- The last `n` dues. -/
def owe (c : Dev nD) : ℕ → CellTallies nD τ sig Unit
  | 0 => 0
  | n + 1 => owe c n + tallyAt (dueCell c n) () (dueAmt n)
abbrev O₀ (c : Dev nD) : CellTallies nD τ sig Unit := owe c 14

theorem owe_apply (c : Dev nD) (g : GSem nD τ sig) (n : ℕ) :
    owe c n g () = ∑ j ∈ Finset.range n, if g = dueCell c j then dueAmt j else 0 := by
  induction n with
  | zero => rfl
  | succ n ih =>
    rw [Finset.sum_range_succ, ← ih]
    show (owe c n + tallyAt (dueCell c n) () (dueAmt n)) g () = _
    rw [Pi.add_apply, Finsupp.add_apply, tallyAt_apply]
    congr 1
    by_cases h : g = dueCell c n
    · rw [if_pos ⟨h, rfl⟩, if_pos h]
    · rw [if_neg (fun h' => h h'.1), if_neg h]

theorem owe_pos {c : Dev nD} {n : ℕ} {g : GSem nD τ sig} {u : Unit} (h : 0 < owe c n g u) : ∃ j, j < n ∧ g = dueCell c j := by
  cases u
  rw [owe_apply] at h
  by_contra hn
  push Not at hn
  rw [Finset.sum_eq_zero fun j hj => if_neg (hn j (Finset.mem_range.mp hj))] at h
  exact Nat.lt_irrefl 0 h

def L (g : GSem nD τ sig) : Finset Unit := if g.1.2 = .tc then {()} else ∅
def lv (g : GSem nD τ sig) (_ : Unit) : ℕ := match g.2 with
  | .reg _ => 1
  | .dma q => if q.val < 18 then 0 else if q.val < 26 then 2 else 3

theorem L_of_ne (g : GSem nD τ sig) (h : g.1.2 ≠ .tc) : L g = ∅ := if_neg h
theorem L_tc (c : Dev nD) (sm : SemLoc sig) : L ((c : Thread nD τ), sm) = {()} := if_pos rfl

theorem due_tc (c : Dev nD) (j : ℕ) : (dueCell c j).1.2 = .tc := by
  unfold dueCell; split <;> rfl
theorem lv_due : ∀ (c : Dev nD) (j : Fin 14), (if j.val < 4 then 3 else if j.val < 12 then 2 else 1) ≤ lv (dueCell c j.val) () := by
  decide +kernel

omit [FloatOps F] in
/-- A wait at a cell of level below every due still owed. -/
theorem mayWait (c : Dev nD) (sm : SemLoc sig) (n k : ℕ) (hn : n ≤ 14) (hk : lv ((c : Thread nD τ), sm) () ≤ k)
    (hd : ∀ j : Fin 14, j.val < n → k < lv (dueCell c j.val) ()) :
    (levAts L lv : sProp 𝕄) ⊢ MayWait (c : Thread nD τ) sm () (owe c n) :=
  MayOwe.of_cut (L := L) (lev := lv) k (fun p hp => by rw [Finset.mem_singleton.mp hp, L_tc]; exact Finset.mem_singleton_self _)
    (fun g u hg => by
      obtain ⟨j, _, rfl⟩ := owe_pos hg
      rw [show L (dueCell c j) = {()} from if_pos (due_tc c j)]; exact Finset.mem_singleton_self _)
    (fun p hp => by rw [Finset.mem_singleton.mp hp]; exact hk)
    (fun g u hg => by
      obtain ⟨j, hj, rfl⟩ := owe_pos hg
      exact hd ⟨j, by omega⟩ hj)

omit [FloatOps F] in
theorem mayWait_bar (c : Dev nD) : (levAts L lv : sProp 𝕄) ⊢ MayWait (c : Thread nD τ) (.reg barS) () (owe c 12) :=
  mayWait c _ 12 1 (by decide) (le_refl _) (fun j hj => by have := lv_due c j; rw [if_pos hj] at this; split at this <;> omega)
omit [FloatOps F] in
/-- The waits on the receive cells below 8 while at most the last four dues are owed. -/
theorem mayWait_recv (c : Dev nD) (q : DmaSem sig) (hq : q.val < 26) (n : ℕ) (hn : n ≤ 4) :
    (levAts L lv : sProp 𝕄) ⊢ MayWait (c : Thread nD τ) (.dma q) () (owe c n) :=
  mayWait c _ n 2 (by omega) (by dsimp only [lv]; (repeat' split) <;> omega)
    (fun j hj => by have := lv_due c j; rw [if_pos (by omega)] at this; omega)
omit [FloatOps F] in
theorem mayWait_stage (c : Dev nD) (q : DmaSem sig) (hq : q.val < 18) (O : CellTallies nD τ sig Unit) (hO : O = O₀ c ∨ O = 0) :
    (levAts L lv : sProp 𝕄) ⊢ MayWait (c : Thread nD τ) (.dma q) () O := by
  rcases hO with rfl | rfl
  · exact mayWait c _ 14 0 (le_refl _) (by dsimp only [lv]; rw [if_pos hq])
      (fun j _ => by have := lv_due c j; split at this <;> [omega; (split at this <;> omega)])
  · rw [MayWait_zero]; iintro -; iempintro

end Cert.KernelIdealRing

end
-- ==== Proof.Steps.lean ====
/-
One step of the kernel at a time: a signal, a transfer, a wait, a load from a block, each from the resources it takes to
those it leaves.
-/
module

public import proofs.«01_k».proof.Proof.Common

@[expose] public section

set_option maxRecDepth 16384

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The invariants of all cells, and that each has reached its round 0. -/
def records (K : Dev nD × Fin 25 → ℕ) : sProp 𝕄 :=
  iprop((bigSep Finset.univ fun ck : Dev nD × Fin 25 => cellInv ER (ringRd m ρ) (K ck) (kcell ck))
    ∗ bigSep Finset.univ fun ck : Dev nD × Fin 25 => reached ER (kcell ck) 0)

instance records_persistent (K : Dev nD × Fin 25 → ℕ) : BI.Persistent (records m ρ K) := by unfold records; infer_instance

/-- The index of a transfer's semaphore among the ring's. -/
def ixOf (q : DmaSem sig) : Fin 25 := ⟨q.val - 5, by have : q.val < 30 := q.isLt; omega⟩
theorem csem_ixOf_all : ∀ q : Fin 30, 6 ≤ q.val → csem ⟨q.val - 5, by have := q.isLt; omega⟩ = .dma (q : DmaSem sig) := by decide
theorem csem_ixOf (q : DmaSem sig) (hq : 6 ≤ q.val) : csem (ixOf q) = .dma q := csem_ixOf_all q hq

theorem inv_bar (K : Dev nD × Fin 25 → ℕ) (c : Dev nD) :
    records m ρ K ⊢ cellInv ER (ringRd m ρ) (K (c, 0)) (barCell c) := by
  unfold records
  exact sep_elim_left.trans (bigSep_elim (Finset.mem_univ ((c, 0) : Dev nD × Fin 25)))
theorem reached_bar (K : Dev nD × Fin 25 → ℕ) (c : Dev nD) :
    records m ρ K ⊢ reached ER (barCell c) 0 := by
  unfold records
  exact sep_elim_right.trans (bigSep_elim (Finset.mem_univ ((c, 0) : Dev nD × Fin 25)))
theorem inv_dma (K : Dev nD × Fin 25 → ℕ) (c : Dev nD) (q : DmaSem sig) (hq : 6 ≤ q.val) :
    records m ρ K ⊢ cellInv ER (ringRd m ρ) (K (c, ixOf q)) ((c : Thread nD τ), .dma q) := by
  have h : kcell (c, ixOf q) = ((c : Thread nD τ), .dma q) := by unfold kcell; rw [csem_ixOf q hq]
  rw [← h]
  unfold records
  exact sep_elim_left.trans (bigSep_elim (Finset.mem_univ ((c, ixOf q) : Dev nD × Fin 25)))
theorem reached_dma (K : Dev nD × Fin 25 → ℕ) (c : Dev nD) (q : DmaSem sig) (hq : 6 ≤ q.val) :
    records m ρ K ⊢ reached ER ((c : Thread nD τ), .dma q) 0 := by
  have h : kcell (c, ixOf q) = ((c : Thread nD τ), .dma q) := by unfold kcell; rw [csem_ixOf q hq]
  rw [← h]
  unfold records
  exact sep_elim_right.trans (bigSep_elim (Finset.mem_univ ((c, ixOf q) : Dev nD × Fin 25)))

section Steps

variable (K : Dev nD × Fin 25 → ℕ)

/-- The signal to the left neighbour's barrier: the landing regions of the transfers from the left are handed to it. -/
theorem sigLeft {α : Type} {Q : α → sProp 𝕄} {k : PUnit → Prog (TpuEff nD τ sig (Elt F) Λ₀ .tc) α} (c n : Dev nD) (hn : n = prv c) (W : Waits sig Unit) {k' : ℕ} (hk' : k' = 1) :
    iprop(records m ρ K ∗ owes (c : Thread nD τ) (owe c 14) W ∗ dutyTok ER (barCell (prv c)) 0 true ∗ fromLeft (F := F) c)
      ⊢ iprop((owes (c : Thread nD τ) (owe c 13) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn hk'
  iintro ⟨#HR, HO, Ht, Hp⟩
  iapply (Rounds.wp_signal 𝒱₀ ER (ringRd m ρ) (c : Thread nD τ) none (dst := (prv c : Thread nD τ)) (κ := K (prv c, 0))
      (d := true) (by rw [duties_bar]; exact Finset.mem_univ _) (amount_bar m ρ (prv c) true) () (owe c 13) rfl) $$ [HO Ht Hp]
  isplitr; · iapply (inv_bar m ρ K (prv c)); iexact HR
  isplitl [HO]; · iexact HO
  isplitl [Ht]; · iexact Ht
  isplitl [Hp]; · rw [payload_bar_true, nxt_prv]; iexact Hp
  iapply (reached_bar m ρ K (prv c)); iexact HR

/-- The signal to the right neighbour's barrier. -/
theorem sigRight {α : Type} {Q : α → sProp 𝕄} {k : PUnit → Prog (TpuEff nD τ sig (Elt F) Λ₀ .tc) α} (c n : Dev nD) (hn : n = nxt c) (W : Waits sig Unit) {k' : ℕ} (hk' : k' = 1) :
    iprop(records m ρ K ∗ owes (c : Thread nD τ) (owe c 13) W ∗ dutyTok ER (barCell (nxt c)) 0 false ∗ fromRight (F := F) c)
      ⊢ iprop((owes (c : Thread nD τ) (owe c 12) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn hk'
  iintro ⟨#HR, HO, Ht, Hp⟩
  iapply (Rounds.wp_signal 𝒱₀ ER (ringRd m ρ) (c : Thread nD τ) none (dst := (nxt c : Thread nD τ)) (κ := K (nxt c, 0))
      (d := false) (by rw [duties_bar]; exact Finset.mem_univ _) (amount_bar m ρ (nxt c) false) () (owe c 12) rfl) $$ [HO Ht Hp]
  isplitr; · iapply (inv_bar m ρ K (nxt c)); iexact HR
  isplitl [HO]; · iexact HO
  isplitl [Ht]; · iexact Ht
  isplitl [Hp]; · rw [payload_bar_false, prv_nxt]; iexact Hp
  iapply (reached_bar m ρ K (nxt c)); iexact HR

/-- The wait for both neighbours. -/
theorem barWait {α : Type} {Q : α → sProp 𝕄} {k : PUnit → Prog (TpuEff nD τ sig (Elt F) Λ₀ .tc) α} (c : Dev nD) (W : Waits sig Unit) {k' : ℕ} (hk' : k' = 2) :
    iprop(records m ρ K ∗ levAts L lv ∗ cred (tallyAt (barCell c) () 2) ∗ owes (c : Thread nD τ) (owe c 12) W ∗ atPos ER (barCell c) 0 ∅ 0)
      ⊢ iprop(((owes (c : Thread nD τ) (owe c 12) (insert (SemLoc.reg barS, ()) W) ∗ atPos ER (barCell c) (0 + 1) ∅ 0
              ∗ fromRight (F := F) (prv c) ∗ fromLeft (F := F) (nxt c)) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  iintro ⟨#HR, #Hlev, Hc, HO, Hat⟩ Hk
  iapply (Rounds.wp_wait_rest_token 𝒱₀ ER (ringRd m ρ) (c : Thread nD τ) none (κ := K (c, 0))
      (wpE_semWait_eq 𝒱₀ (c : Thread nD τ) none Set.univ) (Set.mem_univ _) () (O := owe c 12) (W := W) (R := 0) (m := 0) (T := ∅)
      (by rw [expect_bar])) $$ [Hc HO Hat]
  · isplitr; · iapply (inv_bar m ρ K c); iexact HR
    isplitl [Hc]; · iexact Hc
    isplitl [HO]; · iexact HO
    isplitr; · iapply (mayWait_bar c); iexact Hlev
    iexact Hat
  iintro ⟨HO, Hat, -, Hp⟩
  ihave Hp := (Entails.of_eq (rest_bar m ρ c)) $$ Hp
  iapply Hk
  isplitl [HO]; · iexact HO
  isplitl [Hat]; · iexact Hat
  iexact Hp

/-- A wait on one of the transfers' semaphores: its payload, its cell at the next round. -/
theorem dmaWait {α : Type} {Q : α → sProp 𝕄} {k : PUnit → Prog (TpuEff nD τ sig (Elt F) Λ₀ .tc) α} (c : Dev nD) (q : DmaSem sig) (hq : 6 ≤ q.val) (O : CellTallies nD τ sig Unit) (W : Waits sig Unit)
    (hO : (levAts L lv : sProp 𝕄) ⊢ MayWait (c : Thread nD τ) (.dma q) () O)
    {P : sProp 𝕄} (hP : (if q.val < 18 then sPay m ρ c (q.val - 6) else rPay m ρ c (q.val - 18)) = P)
    {sp sp' : Space} {s s' : Shape} {e e' : EltTy} {src : Memref sig .tc sp' s' e'} {dst : Memref sig .tc sp s e}
    {hsrc : src.view.WordExact} {hdst : dst.view.WordExact} (hN : dst.view.dmaCredit = N) :
    iprop(records m ρ K ∗ levAts L lv ∗ cred (tallyAt ((c : Thread nD τ), .dma q) () N) ∗ owes (c : Thread nD τ) O W ∗ atPos ER ((c : Thread nD τ), .dma q) 0 ∅ 0)
      ⊢ iprop(((owes (c : Thread nD τ) O (insert (SemLoc.dma q, ()) W) ∗ atPos ER ((c : Thread nD τ), .dma q) (0 + 1) ∅ 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hP
  iintro ⟨#HR, #Hlev, Hc, HO, Hat⟩ Hk
  iapply (Rounds.wp_wait_rest_token 𝒱₀ ER (ringRd m ρ) (c : Thread nD τ) none (κ := K (c, ixOf q))
      (wpE_waitDma2_eq 𝒱₀ (c : Thread nD τ) none Set.univ) (Set.mem_univ _) () (O := O) (W := W) (R := 0) (m := 0) (T := ∅)
      (by rw [expect_dma, hN, Nat.zero_add])) $$ [Hc HO Hat]
  · isplitr; · iapply (inv_dma m ρ K c q hq); iexact HR
    isplitl [Hc]; · rw [hN]; iexact Hc
    isplitl [HO]; · iexact HO
    isplitr; · iapply hO; iexact Hlev
    iexact Hat
  iintro ⟨HO, Hat, -, Hp⟩
  ihave Hp := (Entails.of_eq (rest_dma m ρ c q)) $$ Hp
  iapply Hk
  isplitl [HO]; · iexact HO
  isplitl [Hat]; · iexact Hat
  iexact Hp

theorem kP_amount (o : Fin 4 → ℕ) (h) (q : DmaSem sig) : (kP o h).view.amount (.dma q) = N := rfl

/-- Transfer of a block of the key buffer to a neighbour `n`: the sender's due number `j` is paid. -/
theorem kSend {α : Type} {Q : α → sProp 𝕄} {k : PUnit → Prog (TpuEff nD τ sig (Elt F) Λ₀ .tc) α} (c n n' : Dev nD) (hn : n' = n) (qs qr : DmaSem sig) (hqs : 6 ≤ qs.val) (hqr : 6 ≤ qr.val) (s s' b : ℕ) (h h') (q : PosShare TreeShare)
    (hs : srcDev c s = srcDev n s') (j : ℕ) (hj : j < 12) (hdue : dueCell c j = ((n : Thread nD τ), .dma qr))
    (hps : (if qs.val < 18 then sPay m ρ c (qs.val - 6) else rPay m ρ c (qs.val - 18)) = kPt c ![s, b, 0, 0] h q (kAll m ρ c))
    (hpr : (if qr.val < 18 then sPay m ρ n (qr.val - 6) else rPay m ρ n (qr.val - 18)) = kPt n ![s', b, 0, 0] h' fullShare (kAll m ρ n))
    {hsc : (kP ![s', b, 0, 0] h' : Memref sig (Dev.tc n' : Thread nD τ).2.kind .vmem S128x256 .bf16).view.ref.isScScratch = false}
    {hsrc : (kP ![s, b, 0, 0] h).view.WordExact} {hdst : (kP ![s', b, 0, 0] h').view.WordExact}
    {hsem : DmaTarget.Typed .vmem (.dma qr) (.remote (Dev.tc n' : Thread nD τ) (kP ![s', b, 0, 0] h') (.dma qs) hsc)}
    (fd : Buf (Elt F) ((n : Thread nD τ).loc cc0_scratch0)) (W : Waits sig Unit) :
    iprop(records m ρ K ∗ kPt c ![s, b, 0, 0] h q (kAll m ρ c) ∗ kPt n ![s', b, 0, 0] h' fullShare fd
        ∗ owes (c : Thread nD τ) (owe c (j + 1)) W ∗ dutyTok ER ((c : Thread nD τ), .dma qs) 0 false ∗ dutyTok ER ((n : Thread nD τ), .dma qr) 0 false)
      ⊢ iprop(((cred (tallyAt ((c : Thread nD τ), .dma qs) () N) ∗ owes (c : Thread nD τ) (owe c j) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (kP ![s, b, 0, 0] h) (.remote (Dev.tc n' : Thread nD τ) (kP ![s', b, 0, 0] h') (.dma qs) hsc) (.dma qr) hsrc hdst hsem) k) Q) := by
  subst hn
  have hN : (kP ![s', b, 0, 0] h').view.amount (.dma qr) = N := kP_amount _ _ _
  have hO : owe c (j + 1) = owe c j + tallyAt ((n' : Thread nD τ), .dma qr) () N := by
    show owe c j + tallyAt (dueCell c j) () (dueAmt j) = _
    rw [hdue, dueAmt, if_pos hj]
  have hp1 : ((kP ![s, b, 0, 0] h).view.loc (c : Thread nD τ) ↦[(kP ![s, b, 0, 0] h).view.set]{q} kAll m ρ c : sProp 𝕄)
      ⊢ (ringRd (F := F) m ρ).payload ((c : Thread nD τ), .dma qs) 0 false := by
    rw [payload_dma, hps]; exact BI.Entails.refl _
  have hp2 : ((kP ![s', b, 0, 0] h').view.loc (n' : Thread nD τ) ↦[(kP ![s', b, 0, 0] h').view.set]{fullShare}
        (kP ![s', b, 0, 0] h').view.write (Elt F) fd ((kP ![s, b, 0, 0] h).view.read (Elt F) (kAll m ρ c)) Finset.univ : sProp 𝕄)
      ⊢ (ringRd (F := F) m ρ).payload ((n' : Thread nD τ), .dma qr) 0 false := by
    rw [payload_dma, hpr]; exact Entails.of_eq (k_land m ρ c n' s s' b h h' hs fd)
  have key := Rounds.wp_send_pointsTo 𝒱₀ ER (ringRd m ρ) (c : Thread nD τ) none (Γ := PendingWaitsCtx.empty) (Q := Q) (k := k) (defs := defs₀) (c' := (Dev.tc n' : Thread nD τ))
    (src := kP ![s, b, 0, 0] h) (dst := kP ![s', b, 0, 0] h') (hsc := hsc) (hsrc := hsrc) (hdst := hdst) (hsem := hsem) (κ₁ := K (c, ixOf qs)) (κ₂ := K (n', ixOf qr))
    (r₁ := 0) (r₂ := 0) (d₁ := false) (d₂ := false) (fd := fd) (fs := kAll m ρ c) (q := q)
    (by rw [duties_dma]; exact Finset.mem_singleton_self _) (by rw [duties_dma]; exact Finset.mem_singleton_self _)
    () () N hN (amount_dma m ρ c qs false) (amount_dma m ρ n' qr false) (owe c j) hO (W := W) hp1 hp2 (Es := Set.univ)
  iintro ⟨#HR, Hs, Hd, HO, Hts, Htr⟩
  iapply key $$ [Hs Hd HO Hts Htr]
  isplitr; · iapply (inv_dma m ρ K c qs hqs); iexact HR
  isplitr; · iapply (inv_dma m ρ K n' qr hqr); iexact HR
  isplitl [Hs]; · unfold kPt; iexact Hs
  isplitl [Hd]; · unfold kPt; iexact Hd
  isplitl [HO]; · iexact HO
  isplitl [Hts]; · iexact Hts
  isplitr; · iapply (reached_dma m ρ K c qs hqs); iexact HR
  isplitl [Htr]; · iexact Htr
  iapply (reached_dma m ρ K n' qr hqr); iexact HR

/-- A load from a held block. -/
theorem kLoad {α : Type} {Q : α → sProp 𝕄} (c : Dev nD) (o : Fin 4 → ℕ) (h) (q : PosShare TreeShare) (f : Buf (Elt F) ((c : Thread nD τ).loc cc0_scratch0))
    (o' sz : Fin 4 → ℕ) (h' : ∀ a, o' a + sz a ≤ S4x2x128x256.size a) (hin : ∀ a, o a ≤ o' a ∧ o' a + sz a ≤ o a + S1x1x128x256.size a)
    {hl : kM.view.LoadsAt (Rect.unit (s := S4x2x128x256) o' sz h').toLoadRect}
    {k : ((Rect.unit (s := S4x2x128x256) o' sz h').toLoadRect.shape.Idx → Elt F .bf16) → Prog (TpuEff nD τ sig (Elt F) Λ₀ .tc) α} :
    kPt c o h q f
      ⊢ iprop((kPt c o h q f -∗ wp frame (wpE (defs₀ (F := F)) 𝒱₀ (c : Thread nD τ) none) Set.univ (k (kM.view.readAt (Elt F) (Rect.unit (s := S4x2x128x256) o' sz h').toLoadRect f)) Q)
          -∗ wp frame (wpE (defs₀ (F := F)) 𝒱₀ (c : Thread nD τ) none) Set.univ (.op (.load kM (Rect.unit (s := S4x2x128x256) o' sz h').toLoadRect hl) k) Q) := by
  unfold kPt
  refine wp_load 𝒱₀ (c : Thread nD τ) none Set.univ (m := kM) (S := (kP o h).view.set) ?_
  intro i hi
  rw [kP_set]
  have hi' : i ∈ (Rect.unit (s := S4x2x128x256) o' sz h').set := by
    rw [View.setOn] at hi
    obtain ⟨x, hx, rfl⟩ := Finset.mem_map.mp hi
    exact hx
  rw [Rect.mem_set_unit] at hi' ⊢
  intro a
  have := hi' a; have := hin a
  omega

/-- The store of a device's own block. -/
theorem kStore {α : Type} {Q : α → sProp 𝕄} {k : PUnit → Prog (TpuEff nD τ sig (Elt F) Λ₀ .tc) α} (c : Dev nD) (b : ℕ) (h) (p : S1x1x128x256.Idx → Elt F .bf16) (hp : p = if b = 0 then kOwn0 m ρ c else kOwn1 m ρ c)
    (fd : Buf (Elt F) ((c : Thread nD τ).loc cc0_scratch0))
    {hx : (kM.access (Rect.unit (s := S4x2x128x256) ![0, b, 0, 0] S1x1x128x256.size h)).Stores Finset.univ}
    {hm : (Finset.univ : Finset (Rect.unit (s := S4x2x128x256) ![0, b, 0, 0] S1x1x128x256.size h).shape.Idx) = Finset.univ ∨ ∀ a, (Rect.unit (s := S4x2x128x256) ![0, b, 0, 0] S1x1x128x256.size h).stride a = 1} :
    kPt c ![0, b, 0, 0] h fullShare fd
      ⊢ iprop((kPt c ![0, b, 0, 0] h fullShare (kAll m ρ c) -∗ wp frame (wpE (defs₀ (F := F)) 𝒱₀ (c : Thread nD τ) none) Set.univ (k ⟨⟩) Q)
          -∗ wp frame (wpE (defs₀ (F := F)) 𝒱₀ (c : Thread nD τ) none) Set.univ
            (.op (.store kM (Rect.unit (s := S4x2x128x256) ![0, b, 0, 0] S1x1x128x256.size h) p Finset.univ hx hm) k) Q) := by
  rw [← k_store m ρ c b h p hp fd]
  unfold kPt
  refine wp_store 𝒱₀ (c : Thread nD τ) none Set.univ (m := kM) (r := Rect.unit (s := S4x2x128x256) ![0, b, 0, 0] S1x1x128x256.size h)
    (Mk := Finset.univ) (S := (kP ![0, b, 0, 0] h).view.set) ?_
  rw [kP_set]
  exact (View.set_slice_whole _ _).le

theorem vP_amount (o : Fin 4 → ℕ) (h) (q : DmaSem sig) : (vP o h).view.amount (.dma q) = N := rfl

/-- Transfer of a block of the value buffer to a neighbour `n`: the sender's due number `j` is paid. -/
theorem vSend {α : Type} {Q : α → sProp 𝕄} {k : PUnit → Prog (TpuEff nD τ sig (Elt F) Λ₀ .tc) α} (c n n' : Dev nD) (hn : n' = n) (qs qr : DmaSem sig) (hqs : 6 ≤ qs.val) (hqr : 6 ≤ qr.val) (s s' b : ℕ) (h h') (q : PosShare TreeShare)
    (hs : srcDev c s = srcDev n s') (j : ℕ) (hj : j < 12) (hdue : dueCell c j = ((n : Thread nD τ), .dma qr))
    (hps : (if qs.val < 18 then sPay m ρ c (qs.val - 6) else rPay m ρ c (qs.val - 18)) = vPt c ![s, b, 0, 0] h q (vAll m ρ c))
    (hpr : (if qr.val < 18 then sPay m ρ n (qr.val - 6) else rPay m ρ n (qr.val - 18)) = vPt n ![s', b, 0, 0] h' fullShare (vAll m ρ n))
    {hsc : (vP ![s', b, 0, 0] h' : Memref sig (Dev.tc n' : Thread nD τ).2.kind .vmem S128x256 .bf16).view.ref.isScScratch = false}
    {hsrc : (vP ![s, b, 0, 0] h).view.WordExact} {hdst : (vP ![s', b, 0, 0] h').view.WordExact}
    {hsem : DmaTarget.Typed .vmem (.dma qr) (.remote (Dev.tc n' : Thread nD τ) (vP ![s', b, 0, 0] h') (.dma qs) hsc)}
    (fd : Buf (Elt F) ((n : Thread nD τ).loc cc0_scratch1)) (W : Waits sig Unit) :
    iprop(records m ρ K ∗ vPt c ![s, b, 0, 0] h q (vAll m ρ c) ∗ vPt n ![s', b, 0, 0] h' fullShare fd
        ∗ owes (c : Thread nD τ) (owe c (j + 1)) W ∗ dutyTok ER ((c : Thread nD τ), .dma qs) 0 false ∗ dutyTok ER ((n : Thread nD τ), .dma qr) 0 false)
      ⊢ iprop(((cred (tallyAt ((c : Thread nD τ), .dma qs) () N) ∗ owes (c : Thread nD τ) (owe c j) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (vP ![s, b, 0, 0] h) (.remote (Dev.tc n' : Thread nD τ) (vP ![s', b, 0, 0] h') (.dma qs) hsc) (.dma qr) hsrc hdst hsem) k) Q) := by
  subst hn
  have hN : (vP ![s', b, 0, 0] h').view.amount (.dma qr) = N := vP_amount _ _ _
  have hO : owe c (j + 1) = owe c j + tallyAt ((n' : Thread nD τ), .dma qr) () N := by
    show owe c j + tallyAt (dueCell c j) () (dueAmt j) = _
    rw [hdue, dueAmt, if_pos hj]
  have hp1 : ((vP ![s, b, 0, 0] h).view.loc (c : Thread nD τ) ↦[(vP ![s, b, 0, 0] h).view.set]{q} vAll m ρ c : sProp 𝕄)
      ⊢ (ringRd (F := F) m ρ).payload ((c : Thread nD τ), .dma qs) 0 false := by
    rw [payload_dma, hps]; exact BI.Entails.refl _
  have hp2 : ((vP ![s', b, 0, 0] h').view.loc (n' : Thread nD τ) ↦[(vP ![s', b, 0, 0] h').view.set]{fullShare}
        (vP ![s', b, 0, 0] h').view.write (Elt F) fd ((vP ![s, b, 0, 0] h).view.read (Elt F) (vAll m ρ c)) Finset.univ : sProp 𝕄)
      ⊢ (ringRd (F := F) m ρ).payload ((n' : Thread nD τ), .dma qr) 0 false := by
    rw [payload_dma, hpr]; exact Entails.of_eq (v_land m ρ c n' s s' b h h' hs fd)
  have key := Rounds.wp_send_pointsTo 𝒱₀ ER (ringRd m ρ) (c : Thread nD τ) none (Γ := PendingWaitsCtx.empty) (Q := Q) (k := k) (defs := defs₀) (c' := (Dev.tc n' : Thread nD τ))
    (src := vP ![s, b, 0, 0] h) (dst := vP ![s', b, 0, 0] h') (hsc := hsc) (hsrc := hsrc) (hdst := hdst) (hsem := hsem) (κ₁ := K (c, ixOf qs)) (κ₂ := K (n', ixOf qr))
    (r₁ := 0) (r₂ := 0) (d₁ := false) (d₂ := false) (fd := fd) (fs := vAll m ρ c) (q := q)
    (by rw [duties_dma]; exact Finset.mem_singleton_self _) (by rw [duties_dma]; exact Finset.mem_singleton_self _)
    () () N hN (amount_dma m ρ c qs false) (amount_dma m ρ n' qr false) (owe c j) hO (W := W) hp1 hp2 (Es := Set.univ)
  iintro ⟨#HR, Hs, Hd, HO, Hts, Htr⟩
  iapply key $$ [Hs Hd HO Hts Htr]
  isplitr; · iapply (inv_dma m ρ K c qs hqs); iexact HR
  isplitr; · iapply (inv_dma m ρ K n' qr hqr); iexact HR
  isplitl [Hs]; · unfold vPt; iexact Hs
  isplitl [Hd]; · unfold vPt; iexact Hd
  isplitl [HO]; · iexact HO
  isplitl [Hts]; · iexact Hts
  isplitr; · iapply (reached_dma m ρ K c qs hqs); iexact HR
  isplitl [Htr]; · iexact Htr
  iapply (reached_dma m ρ K n' qr hqr); iexact HR

/-- A load from a held block. -/
theorem vLoad {α : Type} {Q : α → sProp 𝕄} (c : Dev nD) (o : Fin 4 → ℕ) (h) (q : PosShare TreeShare) (f : Buf (Elt F) ((c : Thread nD τ).loc cc0_scratch1))
    (o' sz : Fin 4 → ℕ) (h' : ∀ a, o' a + sz a ≤ S4x2x128x256.size a) (hin : ∀ a, o a ≤ o' a ∧ o' a + sz a ≤ o a + S1x1x128x256.size a)
    {hl : vM.view.LoadsAt (Rect.unit (s := S4x2x128x256) o' sz h').toLoadRect}
    {k : ((Rect.unit (s := S4x2x128x256) o' sz h').toLoadRect.shape.Idx → Elt F .bf16) → Prog (TpuEff nD τ sig (Elt F) Λ₀ .tc) α} :
    vPt c o h q f
      ⊢ iprop((vPt c o h q f -∗ wp frame (wpE (defs₀ (F := F)) 𝒱₀ (c : Thread nD τ) none) Set.univ (k (vM.view.readAt (Elt F) (Rect.unit (s := S4x2x128x256) o' sz h').toLoadRect f)) Q)
          -∗ wp frame (wpE (defs₀ (F := F)) 𝒱₀ (c : Thread nD τ) none) Set.univ (.op (.load vM (Rect.unit (s := S4x2x128x256) o' sz h').toLoadRect hl) k) Q) := by
  unfold vPt
  refine wp_load 𝒱₀ (c : Thread nD τ) none Set.univ (m := vM) (S := (vP o h).view.set) ?_
  intro i hi
  rw [vP_set]
  have hi' : i ∈ (Rect.unit (s := S4x2x128x256) o' sz h').set := by
    rw [View.setOn] at hi
    obtain ⟨x, hx, rfl⟩ := Finset.mem_map.mp hi
    exact hx
  rw [Rect.mem_set_unit] at hi' ⊢
  intro a
  have := hi' a; have := hin a
  omega

/-- The store of a device's own block. -/
theorem vStore {α : Type} {Q : α → sProp 𝕄} {k : PUnit → Prog (TpuEff nD τ sig (Elt F) Λ₀ .tc) α} (c : Dev nD) (b : ℕ) (h) (p : S1x1x128x256.Idx → Elt F .bf16) (hp : p = if b = 0 then vOwn0 m ρ c else vOwn1 m ρ c)
    (fd : Buf (Elt F) ((c : Thread nD τ).loc cc0_scratch1))
    {hx : (vM.access (Rect.unit (s := S4x2x128x256) ![0, b, 0, 0] S1x1x128x256.size h)).Stores Finset.univ}
    {hm : (Finset.univ : Finset (Rect.unit (s := S4x2x128x256) ![0, b, 0, 0] S1x1x128x256.size h).shape.Idx) = Finset.univ ∨ ∀ a, (Rect.unit (s := S4x2x128x256) ![0, b, 0, 0] S1x1x128x256.size h).stride a = 1} :
    vPt c ![0, b, 0, 0] h fullShare fd
      ⊢ iprop((vPt c ![0, b, 0, 0] h fullShare (vAll m ρ c) -∗ wp frame (wpE (defs₀ (F := F)) 𝒱₀ (c : Thread nD τ) none) Set.univ (k ⟨⟩) Q)
          -∗ wp frame (wpE (defs₀ (F := F)) 𝒱₀ (c : Thread nD τ) none) Set.univ
            (.op (.store vM (Rect.unit (s := S4x2x128x256) ![0, b, 0, 0] S1x1x128x256.size h) p Finset.univ hx hm) k) Q) := by
  rw [← v_store m ρ c b h p hp fd]
  unfold vPt
  refine wp_store 𝒱₀ (c : Thread nD τ) none Set.univ (m := vM) (r := Rect.unit (s := S4x2x128x256) ![0, b, 0, 0] S1x1x128x256.size h)
    (Mk := Finset.univ) (S := (vP ![0, b, 0, 0] h).view.set) ?_
  rw [vP_set]
  exact (View.set_slice_whole _ _).le

end Steps

end Cert.KernelIdealRing

end
-- ==== Proof.Values.lean ====
/-
The values of one device's run, one definition per result of the program text, and the contents of its result.
-/
module

public import proofs.«01_k».proof.Proof.Steps

@[expose] public section

set_option maxRecDepth 16384

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def w119 (c : Dev nD) : FVec F S512x256 .bf16 := k0_pay12 (wkL m ρ c)
def w122 (c : Dev nD) : FVec F S512x256 .bf16 := k0_pay13 (wvL m ρ c)
def w125 (c : Dev nD) : FVec F S512x256 .bf16 := k0_pay14 (wqL m ρ c)
def w128 (c : Dev nD) : FVec F S256x512 .bf16 := k0_pay15 (woL m ρ c)
def w131 (c : Dev nD) : FVec F S128x512 .bf16 := k0_pay16 (x0L m ρ c)
def w134 (c : Dev nD) : FVec F S128x512 .bf16 := k0_pay17 (x1L m ρ c)
def l264 (c : Dev nD) : Vec F S1x1x128x64 .bf16 := kM.view.readAt (Elt F) (Rect.unit (s := S4x2x128x256) ![0, 0, 0, 0] S1x1x128x64.size inb_S4x2x128x256_S1x1x128x64_0_0_0_0).toLoadRect (kAll m ρ c)
def w253 (c : Dev nD) : FVec F S128x256 .bf16 := k0_pay22 (cosA (F := F) c) (sinA (F := F) c) (rotA (F := F)) (w125 m ρ c) (w131 m ρ c)
def w262 (c : Dev nD) : FVec F S128x256 .bf16 := k0_pay23 (cosA (F := F) c) (sinA (F := F) c) (rotA (F := F)) (w125 m ρ c) (w134 m ρ c)
def w269 (c : Dev nD) : FVec F S128x1 .f32 := k0_pay25 (cosA (F := F) c) (sinA (F := F) c) (rotA (F := F)) (w125 m ρ c) (w131 m ρ c) (l264 m ρ c)
def w270 (c : Dev nD) : FVec F S128x128 .bf16 := k0_pay26 (cosA (F := F) c) (sinA (F := F) c) (rotA (F := F)) (w125 m ρ c) (w131 m ρ c) (l264 m ρ c)
def w271 (c : Dev nD) : FVec F S128x64 .bf16 := k0_pay27 (cosA (F := F) c) (sinA (F := F) c) (rotA (F := F)) (w125 m ρ c) (w131 m ρ c)
def l272 (c : Dev nD) : Vec F S1x1x128x64 .bf16 := kM.view.readAt (Elt F) (Rect.unit (s := S4x2x128x256) ![0, 0, 0, 64] S1x1x128x64.size inb_S4x2x128x256_S1x1x128x64_0_0_0_64).toLoadRect (kAll m ρ c)
def l280 (c : Dev nD) : Vec F S1x1x128x64 .bf16 := kM.view.readAt (Elt F) (Rect.unit (s := S4x2x128x256) ![0, 0, 0, 128] S1x1x128x64.size inb_S4x2x128x256_S1x1x128x64_0_0_0_128).toLoadRect (kAll m ρ c)
def l288 (c : Dev nD) : Vec F S1x1x128x64 .bf16 := kM.view.readAt (Elt F) (Rect.unit (s := S4x2x128x256) ![0, 0, 0, 192] S1x1x128x64.size inb_S4x2x128x256_S1x1x128x64_0_0_0_192).toLoadRect (kAll m ρ c)
def l296 (c : Dev nD) : Vec F S1x1x128x64 .bf16 := kM.view.readAt (Elt F) (Rect.unit (s := S4x2x128x256) ![0, 1, 0, 0] S1x1x128x64.size inb_S4x2x128x256_S1x1x128x64_0_1_0_0).toLoadRect (kAll m ρ c)
def l304 (c : Dev nD) : Vec F S1x1x128x64 .bf16 := kM.view.readAt (Elt F) (Rect.unit (s := S4x2x128x256) ![0, 1, 0, 64] S1x1x128x64.size inb_S4x2x128x256_S1x1x128x64_0_1_0_64).toLoadRect (kAll m ρ c)
def w277 (c : Dev nD) : FVec F S128x1 .f32 := k0_pay29 (w271 m ρ c) (l272 m ρ c)
def w278 (c : Dev nD) : FVec F S128x128 .bf16 := k0_pay30 (w271 m ρ c) (l272 m ρ c)
def w285 (c : Dev nD) : FVec F S128x1 .f32 := k0_pay32 (w253 m ρ c) (l280 m ρ c)
def w286 (c : Dev nD) : FVec F S128x128 .bf16 := k0_pay33 (w253 m ρ c) (l280 m ρ c)
def w293 (c : Dev nD) : FVec F S128x1 .f32 := k0_pay35 (w253 m ρ c) (l288 m ρ c)
def w294 (c : Dev nD) : FVec F S128x128 .bf16 := k0_pay36 (w253 m ρ c) (l288 m ρ c)
def w301 (c : Dev nD) : FVec F S128x1 .f32 := k0_pay38 (w262 m ρ c) (l296 m ρ c)
def w302 (c : Dev nD) : FVec F S128x128 .bf16 := k0_pay39 (w262 m ρ c) (l296 m ρ c)
def w303 (c : Dev nD) : FVec F S128x64 .bf16 := k0_pay40 (w262 m ρ c)
def l312 (c : Dev nD) : Vec F S1x1x128x64 .bf16 := kM.view.readAt (Elt F) (Rect.unit (s := S4x2x128x256) ![0, 1, 0, 128] S1x1x128x64.size inb_S4x2x128x256_S1x1x128x64_0_1_0_128).toLoadRect (kAll m ρ c)
def l320 (c : Dev nD) : Vec F S1x1x128x64 .bf16 := kM.view.readAt (Elt F) (Rect.unit (s := S4x2x128x256) ![0, 1, 0, 192] S1x1x128x64.size inb_S4x2x128x256_S1x1x128x64_0_1_0_192).toLoadRect (kAll m ρ c)
def l327 (c : Dev nD) : Vec F S1x1x128x64 .bf16 := vM.view.readAt (Elt F) (Rect.unit (s := S4x2x128x256) ![0, 0, 0, 0] S1x1x128x64.size inb_S4x2x128x256_S1x1x128x64_0_0_0_0).toLoadRect (vAll m ρ c)
def l330 (c : Dev nD) : Vec F S1x1x128x64 .bf16 := vM.view.readAt (Elt F) (Rect.unit (s := S4x2x128x256) ![0, 0, 0, 64] S1x1x128x64.size inb_S4x2x128x256_S1x1x128x64_0_0_0_64).toLoadRect (vAll m ρ c)
def l333 (c : Dev nD) : Vec F S1x1x128x64 .bf16 := vM.view.readAt (Elt F) (Rect.unit (s := S4x2x128x256) ![0, 0, 0, 128] S1x1x128x64.size inb_S4x2x128x256_S1x1x128x64_0_0_0_128).toLoadRect (vAll m ρ c)
def w309 (c : Dev nD) : FVec F S128x1 .f32 := k0_pay42 (w303 m ρ c) (l304 m ρ c)
def w310 (c : Dev nD) : FVec F S128x128 .bf16 := k0_pay43 (w303 m ρ c) (l304 m ρ c)
def w317 (c : Dev nD) : FVec F S128x1 .f32 := k0_pay45 (w262 m ρ c) (l312 m ρ c)
def w318 (c : Dev nD) : FVec F S128x128 .bf16 := k0_pay46 (w262 m ρ c) (l312 m ρ c)
def w325 (c : Dev nD) : FVec F S128x1 .f32 := k0_pay48 (w262 m ρ c) (l320 m ρ c)
def w326 (c : Dev nD) : FVec F S128x128 .bf16 := k0_pay49 (w262 m ρ c) (l320 m ρ c)
def w329 (c : Dev nD) : FVec F S128x64 .f32 := k0_pay50 (w270 m ρ c) (l327 m ρ c)
def w332 (c : Dev nD) : FVec F S128x64 .f32 := k0_pay51 (w278 m ρ c) (l330 m ρ c)
def w335 (c : Dev nD) : FVec F S128x64 .f32 := k0_pay52 (w286 m ρ c) (l333 m ρ c)
def l336 (c : Dev nD) : Vec F S1x1x128x64 .bf16 := vM.view.readAt (Elt F) (Rect.unit (s := S4x2x128x256) ![0, 0, 0, 192] S1x1x128x64.size inb_S4x2x128x256_S1x1x128x64_0_0_0_192).toLoadRect (vAll m ρ c)
def l339 (c : Dev nD) : Vec F S1x1x128x64 .bf16 := vM.view.readAt (Elt F) (Rect.unit (s := S4x2x128x256) ![0, 1, 0, 0] S1x1x128x64.size inb_S4x2x128x256_S1x1x128x64_0_1_0_0).toLoadRect (vAll m ρ c)
def l342 (c : Dev nD) : Vec F S1x1x128x64 .bf16 := vM.view.readAt (Elt F) (Rect.unit (s := S4x2x128x256) ![0, 1, 0, 64] S1x1x128x64.size inb_S4x2x128x256_S1x1x128x64_0_1_0_64).toLoadRect (vAll m ρ c)
def l345 (c : Dev nD) : Vec F S1x1x128x64 .bf16 := vM.view.readAt (Elt F) (Rect.unit (s := S4x2x128x256) ![0, 1, 0, 128] S1x1x128x64.size inb_S4x2x128x256_S1x1x128x64_0_1_0_128).toLoadRect (vAll m ρ c)
def l348 (c : Dev nD) : Vec F S1x1x128x64 .bf16 := vM.view.readAt (Elt F) (Rect.unit (s := S4x2x128x256) ![0, 1, 0, 192] S1x1x128x64.size inb_S4x2x128x256_S1x1x128x64_0_1_0_192).toLoadRect (vAll m ρ c)
def w338 (c : Dev nD) : FVec F S128x64 .f32 := k0_pay53 (w294 m ρ c) (l336 m ρ c)
def w341 (c : Dev nD) : FVec F S128x64 .f32 := k0_pay54 (w302 m ρ c) (l339 m ρ c)
def w344 (c : Dev nD) : FVec F S128x64 .f32 := k0_pay55 (w310 m ρ c) (l342 m ρ c)
def w347 (c : Dev nD) : FVec F S128x64 .f32 := k0_pay56 (w318 m ρ c) (l345 m ρ c)
def w350 (c : Dev nD) : FVec F S128x64 .f32 := k0_pay57 (w326 m ρ c) (l348 m ρ c)
def l370 (c : Dev nD) : Vec F S1x1x128x64 .bf16 := kM.view.readAt (Elt F) (Rect.unit (s := S4x2x128x256) ![1, 1, 0, 0] S1x1x128x64.size inb_S4x2x128x256_S1x1x128x64_1_1_0_0).toLoadRect (kAll m ρ c)
def l378 (c : Dev nD) : Vec F S1x1x128x64 .bf16 := kM.view.readAt (Elt F) (Rect.unit (s := S4x2x128x256) ![1, 1, 0, 64] S1x1x128x64.size inb_S4x2x128x256_S1x1x128x64_1_1_0_64).toLoadRect (kAll m ρ c)
def l386 (c : Dev nD) : Vec F S1x1x128x64 .bf16 := kM.view.readAt (Elt F) (Rect.unit (s := S4x2x128x256) ![1, 1, 0, 128] S1x1x128x64.size inb_S4x2x128x256_S1x1x128x64_1_1_0_128).toLoadRect (kAll m ρ c)
def w375 (c : Dev nD) : FVec F S128x1 .f32 := k0_pay59 (w262 m ρ c) (l370 m ρ c)
def w376 (c : Dev nD) : FVec F S128x128 .bf16 := k0_pay60 (w262 m ρ c) (l370 m ρ c)
def w383 (c : Dev nD) : FVec F S128x1 .f32 := k0_pay62 (w262 m ρ c) (l378 m ρ c)
def w384 (c : Dev nD) : FVec F S128x128 .bf16 := k0_pay63 (w262 m ρ c) (l378 m ρ c)
def w385 (c : Dev nD) : FVec F S128x64 .bf16 := k0_pay64 (w262 m ρ c)
def w387 (c : Dev nD) : FVec F S128x64 .bf16 := k0_pay65 (l386 m ρ c)
def l394 (c : Dev nD) : Vec F S1x1x128x64 .bf16 := kM.view.readAt (Elt F) (Rect.unit (s := S4x2x128x256) ![1, 1, 0, 192] S1x1x128x64.size inb_S4x2x128x256_S1x1x128x64_1_1_0_192).toLoadRect (kAll m ρ c)
def w391 (c : Dev nD) : FVec F S128x1 .f32 := k0_pay67 (w385 m ρ c) (w387 m ρ c) (constant S128x128 .f32 0x00000000#32)
def w392 (c : Dev nD) : FVec F S128x128 .bf16 := k0_pay68 (w385 m ρ c) (w387 m ρ c) (constant S128x128 .f32 0x00000000#32)
def w399 (c : Dev nD) : FVec F S128x1 .f32 := k0_pay70 (w262 m ρ c) (l394 m ρ c)
def w400 (c : Dev nD) : FVec F S128x128 .bf16 := k0_pay71 (w262 m ρ c) (l394 m ρ c)
def l420 (c : Dev nD) : Vec F S1x1x128x64 .bf16 := kM.view.readAt (Elt F) (Rect.unit (s := S4x2x128x256) ![2, 0, 0, 0] S1x1x128x64.size inb_S4x2x128x256_S1x1x128x64_2_0_0_0).toLoadRect (kAll m ρ c)
def l428 (c : Dev nD) : Vec F S1x1x128x64 .bf16 := kM.view.readAt (Elt F) (Rect.unit (s := S4x2x128x256) ![2, 0, 0, 64] S1x1x128x64.size inb_S4x2x128x256_S1x1x128x64_2_0_0_64).toLoadRect (kAll m ρ c)
def l436 (c : Dev nD) : Vec F S1x1x128x64 .bf16 := kM.view.readAt (Elt F) (Rect.unit (s := S4x2x128x256) ![2, 0, 0, 128] S1x1x128x64.size inb_S4x2x128x256_S1x1x128x64_2_0_0_128).toLoadRect (kAll m ρ c)
def l444 (c : Dev nD) : Vec F S1x1x128x64 .bf16 := kM.view.readAt (Elt F) (Rect.unit (s := S4x2x128x256) ![2, 0, 0, 192] S1x1x128x64.size inb_S4x2x128x256_S1x1x128x64_2_0_0_192).toLoadRect (kAll m ρ c)
def w425 (c : Dev nD) : FVec F S128x1 .f32 := k0_pay73 (w253 m ρ c) (l420 m ρ c)
def w426 (c : Dev nD) : FVec F S128x128 .bf16 := k0_pay74 (w253 m ρ c) (l420 m ρ c)
def w433 (c : Dev nD) : FVec F S128x1 .f32 := k0_pay76 (w253 m ρ c) (l428 m ρ c)
def w434 (c : Dev nD) : FVec F S128x128 .bf16 := k0_pay77 (w253 m ρ c) (l428 m ρ c)
def w441 (c : Dev nD) : FVec F S128x1 .f32 := k0_pay79 (w253 m ρ c) (l436 m ρ c)
def w442 (c : Dev nD) : FVec F S128x128 .bf16 := k0_pay80 (w253 m ρ c) (l436 m ρ c)
def w449 (c : Dev nD) : FVec F S128x1 .f32 := k0_pay82 (w253 m ρ c) (l444 m ρ c)
def w450 (c : Dev nD) : FVec F S128x128 .bf16 := k0_pay83 (w253 m ρ c) (l444 m ρ c)
def l469 (c : Dev nD) : Vec F S1x1x128x64 .bf16 := vM.view.readAt (Elt F) (Rect.unit (s := S4x2x128x256) ![1, 1, 0, 0] S1x1x128x64.size inb_S4x2x128x256_S1x1x128x64_1_1_0_0).toLoadRect (vAll m ρ c)
def l472 (c : Dev nD) : Vec F S1x1x128x64 .bf16 := vM.view.readAt (Elt F) (Rect.unit (s := S4x2x128x256) ![1, 1, 0, 64] S1x1x128x64.size inb_S4x2x128x256_S1x1x128x64_1_1_0_64).toLoadRect (vAll m ρ c)
def w471 (c : Dev nD) : FVec F S128x64 .f32 := k0_pay84 (w376 m ρ c) (l469 m ρ c)
def w474 (c : Dev nD) : FVec F S128x64 .f32 := k0_pay85 (w384 m ρ c) (l472 m ρ c)
def l475 (c : Dev nD) : Vec F S1x1x128x64 .bf16 := vM.view.readAt (Elt F) (Rect.unit (s := S4x2x128x256) ![1, 1, 0, 128] S1x1x128x64.size inb_S4x2x128x256_S1x1x128x64_1_1_0_128).toLoadRect (vAll m ρ c)
def l478 (c : Dev nD) : Vec F S1x1x128x64 .bf16 := vM.view.readAt (Elt F) (Rect.unit (s := S4x2x128x256) ![1, 1, 0, 192] S1x1x128x64.size inb_S4x2x128x256_S1x1x128x64_1_1_0_192).toLoadRect (vAll m ρ c)
def w477 (c : Dev nD) : FVec F S128x64 .f32 := k0_pay86 (w392 m ρ c) (l475 m ρ c)
def w480 (c : Dev nD) : FVec F S128x64 .f32 := k0_pay87 (w400 m ρ c) (l478 m ρ c)
def l499 (c : Dev nD) : Vec F S1x1x128x64 .bf16 := vM.view.readAt (Elt F) (Rect.unit (s := S4x2x128x256) ![2, 0, 0, 0] S1x1x128x64.size inb_S4x2x128x256_S1x1x128x64_2_0_0_0).toLoadRect (vAll m ρ c)
def l502 (c : Dev nD) : Vec F S1x1x128x64 .bf16 := vM.view.readAt (Elt F) (Rect.unit (s := S4x2x128x256) ![2, 0, 0, 64] S1x1x128x64.size inb_S4x2x128x256_S1x1x128x64_2_0_0_64).toLoadRect (vAll m ρ c)
def l505 (c : Dev nD) : Vec F S1x1x128x64 .bf16 := vM.view.readAt (Elt F) (Rect.unit (s := S4x2x128x256) ![2, 0, 0, 128] S1x1x128x64.size inb_S4x2x128x256_S1x1x128x64_2_0_0_128).toLoadRect (vAll m ρ c)
def l508 (c : Dev nD) : Vec F S1x1x128x64 .bf16 := vM.view.readAt (Elt F) (Rect.unit (s := S4x2x128x256) ![2, 0, 0, 192] S1x1x128x64.size inb_S4x2x128x256_S1x1x128x64_2_0_0_192).toLoadRect (vAll m ρ c)
def l520 (c : Dev nD) : Vec F S1x1x128x64 .bf16 := kM.view.readAt (Elt F) (Rect.unit (s := S4x2x128x256) ![1, 0, 0, 0] S1x1x128x64.size inb_S4x2x128x256_S1x1x128x64_1_0_0_0).toLoadRect (kAll m ρ c)
def w501 (c : Dev nD) : FVec F S128x64 .f32 := k0_pay88 (w426 m ρ c) (l499 m ρ c)
def w504 (c : Dev nD) : FVec F S128x64 .f32 := k0_pay89 (w434 m ρ c) (l502 m ρ c)
def w507 (c : Dev nD) : FVec F S128x64 .f32 := k0_pay90 (w442 m ρ c) (l505 m ρ c)
def w510 (c : Dev nD) : FVec F S128x64 .f32 := k0_pay91 (w450 m ρ c) (l508 m ρ c)
def w519 (c : Dev nD) : FVec F S128x64 .bf16 := k0_pay92 (w253 m ρ c)
def w521 (c : Dev nD) : FVec F S128x64 .bf16 := k0_pay93 (l520 m ρ c)
def l528 (c : Dev nD) : Vec F S1x1x128x64 .bf16 := kM.view.readAt (Elt F) (Rect.unit (s := S4x2x128x256) ![1, 0, 0, 64] S1x1x128x64.size inb_S4x2x128x256_S1x1x128x64_1_0_0_64).toLoadRect (kAll m ρ c)
def l536 (c : Dev nD) : Vec F S1x1x128x64 .bf16 := kM.view.readAt (Elt F) (Rect.unit (s := S4x2x128x256) ![1, 0, 0, 128] S1x1x128x64.size inb_S4x2x128x256_S1x1x128x64_1_0_0_128).toLoadRect (kAll m ρ c)
def l544 (c : Dev nD) : Vec F S1x1x128x64 .bf16 := kM.view.readAt (Elt F) (Rect.unit (s := S4x2x128x256) ![1, 0, 0, 192] S1x1x128x64.size inb_S4x2x128x256_S1x1x128x64_1_0_0_192).toLoadRect (kAll m ρ c)
def w525 (c : Dev nD) : FVec F S128x1 .f32 := k0_pay95 (w519 m ρ c) (w521 m ρ c)
def w526 (c : Dev nD) : FVec F S128x128 .bf16 := k0_pay96 (w519 m ρ c) (w521 m ρ c)
def w533 (c : Dev nD) : FVec F S128x1 .f32 := k0_pay98 (w253 m ρ c) (l528 m ρ c)
def w534 (c : Dev nD) : FVec F S128x128 .bf16 := k0_pay99 (w253 m ρ c) (l528 m ρ c)
def w541 (c : Dev nD) : FVec F S128x1 .f32 := k0_pay101 (w253 m ρ c) (l536 m ρ c)
def w542 (c : Dev nD) : FVec F S128x128 .bf16 := k0_pay102 (w253 m ρ c) (l536 m ρ c)
def w549 (c : Dev nD) : FVec F S128x1 .f32 := k0_pay104 (w253 m ρ c) (l544 m ρ c)
def w550 (c : Dev nD) : FVec F S128x128 .bf16 := k0_pay105 (w253 m ρ c) (l544 m ρ c)
def l560 (c : Dev nD) : Vec F S1x1x128x64 .bf16 := kM.view.readAt (Elt F) (Rect.unit (s := S4x2x128x256) ![2, 1, 0, 0] S1x1x128x64.size inb_S4x2x128x256_S1x1x128x64_2_1_0_0).toLoadRect (kAll m ρ c)
def l568 (c : Dev nD) : Vec F S1x1x128x64 .bf16 := kM.view.readAt (Elt F) (Rect.unit (s := S4x2x128x256) ![2, 1, 0, 64] S1x1x128x64.size inb_S4x2x128x256_S1x1x128x64_2_1_0_64).toLoadRect (kAll m ρ c)
def l576 (c : Dev nD) : Vec F S1x1x128x64 .bf16 := kM.view.readAt (Elt F) (Rect.unit (s := S4x2x128x256) ![2, 1, 0, 128] S1x1x128x64.size inb_S4x2x128x256_S1x1x128x64_2_1_0_128).toLoadRect (kAll m ρ c)
def l584 (c : Dev nD) : Vec F S1x1x128x64 .bf16 := kM.view.readAt (Elt F) (Rect.unit (s := S4x2x128x256) ![2, 1, 0, 192] S1x1x128x64.size inb_S4x2x128x256_S1x1x128x64_2_1_0_192).toLoadRect (kAll m ρ c)
def w565 (c : Dev nD) : FVec F S128x1 .f32 := k0_pay107 (w262 m ρ c) (l560 m ρ c)
def w566 (c : Dev nD) : FVec F S128x128 .bf16 := k0_pay108 (w262 m ρ c) (l560 m ρ c)
def w573 (c : Dev nD) : FVec F S128x1 .f32 := k0_pay110 (w262 m ρ c) (l568 m ρ c)
def w574 (c : Dev nD) : FVec F S128x128 .bf16 := k0_pay111 (w262 m ρ c) (l568 m ρ c)
def w581 (c : Dev nD) : FVec F S128x1 .f32 := k0_pay113 (w262 m ρ c) (l576 m ρ c)
def w582 (c : Dev nD) : FVec F S128x128 .bf16 := k0_pay114 (w262 m ρ c) (l576 m ρ c)
def w583 (c : Dev nD) : FVec F S128x64 .bf16 := k0_pay115 (w262 m ρ c)
def w585 (c : Dev nD) : FVec F S128x64 .bf16 := k0_pay116 (l584 m ρ c)
def l599 (c : Dev nD) : Vec F S1x1x128x64 .bf16 := vM.view.readAt (Elt F) (Rect.unit (s := S4x2x128x256) ![1, 0, 0, 0] S1x1x128x64.size inb_S4x2x128x256_S1x1x128x64_1_0_0_0).toLoadRect (vAll m ρ c)
def l602 (c : Dev nD) : Vec F S1x1x128x64 .bf16 := vM.view.readAt (Elt F) (Rect.unit (s := S4x2x128x256) ![1, 0, 0, 64] S1x1x128x64.size inb_S4x2x128x256_S1x1x128x64_1_0_0_64).toLoadRect (vAll m ρ c)
def l605 (c : Dev nD) : Vec F S1x1x128x64 .bf16 := vM.view.readAt (Elt F) (Rect.unit (s := S4x2x128x256) ![1, 0, 0, 128] S1x1x128x64.size inb_S4x2x128x256_S1x1x128x64_1_0_0_128).toLoadRect (vAll m ρ c)
def l608 (c : Dev nD) : Vec F S1x1x128x64 .bf16 := vM.view.readAt (Elt F) (Rect.unit (s := S4x2x128x256) ![1, 0, 0, 192] S1x1x128x64.size inb_S4x2x128x256_S1x1x128x64_1_0_0_192).toLoadRect (vAll m ρ c)
def w589 (c : Dev nD) : FVec F S128x1 .f32 := k0_pay118 (w583 m ρ c) (w585 m ρ c) (constant S128x128 .f32 0x00000000#32)
def w590 (c : Dev nD) : FVec F S128x128 .bf16 := k0_pay119 (w583 m ρ c) (w585 m ρ c) (constant S128x128 .f32 0x00000000#32)
def w601 (c : Dev nD) : FVec F S128x64 .f32 := k0_pay120 (w526 m ρ c) (l599 m ρ c)
def w604 (c : Dev nD) : FVec F S128x64 .f32 := k0_pay121 (w534 m ρ c) (l602 m ρ c)
def w607 (c : Dev nD) : FVec F S128x64 .f32 := k0_pay122 (w542 m ρ c) (l605 m ρ c)
def w610 (c : Dev nD) : FVec F S128x64 .f32 := k0_pay123 (w550 m ρ c) (l608 m ρ c)
def l619 (c : Dev nD) : Vec F S1x1x128x64 .bf16 := vM.view.readAt (Elt F) (Rect.unit (s := S4x2x128x256) ![2, 1, 0, 0] S1x1x128x64.size inb_S4x2x128x256_S1x1x128x64_2_1_0_0).toLoadRect (vAll m ρ c)
def l622 (c : Dev nD) : Vec F S1x1x128x64 .bf16 := vM.view.readAt (Elt F) (Rect.unit (s := S4x2x128x256) ![2, 1, 0, 64] S1x1x128x64.size inb_S4x2x128x256_S1x1x128x64_2_1_0_64).toLoadRect (vAll m ρ c)
def l625 (c : Dev nD) : Vec F S1x1x128x64 .bf16 := vM.view.readAt (Elt F) (Rect.unit (s := S4x2x128x256) ![2, 1, 0, 128] S1x1x128x64.size inb_S4x2x128x256_S1x1x128x64_2_1_0_128).toLoadRect (vAll m ρ c)
def l628 (c : Dev nD) : Vec F S1x1x128x64 .bf16 := vM.view.readAt (Elt F) (Rect.unit (s := S4x2x128x256) ![2, 1, 0, 192] S1x1x128x64.size inb_S4x2x128x256_S1x1x128x64_2_1_0_192).toLoadRect (vAll m ρ c)
def w621 (c : Dev nD) : FVec F S128x64 .f32 := k0_pay124 (w566 m ρ c) (l619 m ρ c)
def w624 (c : Dev nD) : FVec F S128x64 .f32 := k0_pay125 (w574 m ρ c) (l622 m ρ c)
def w627 (c : Dev nD) : FVec F S128x64 .f32 := k0_pay126 (w582 m ρ c) (l625 m ρ c)
def w630 (c : Dev nD) : FVec F S128x64 .f32 := k0_pay127 (w590 m ρ c) (l628 m ρ c)
def l640 (c : Dev nD) : Vec F S1x1x128x64 .bf16 := kM.view.readAt (Elt F) (Rect.unit (s := S4x2x128x256) ![3, 1, 0, 0] S1x1x128x64.size inb_S4x2x128x256_S1x1x128x64_3_1_0_0).toLoadRect (kAll m ρ c)
def l648 (c : Dev nD) : Vec F S1x1x128x64 .bf16 := kM.view.readAt (Elt F) (Rect.unit (s := S4x2x128x256) ![3, 1, 0, 64] S1x1x128x64.size inb_S4x2x128x256_S1x1x128x64_3_1_0_64).toLoadRect (kAll m ρ c)
def l656 (c : Dev nD) : Vec F S1x1x128x64 .bf16 := kM.view.readAt (Elt F) (Rect.unit (s := S4x2x128x256) ![3, 1, 0, 128] S1x1x128x64.size inb_S4x2x128x256_S1x1x128x64_3_1_0_128).toLoadRect (kAll m ρ c)
def w645 (c : Dev nD) : FVec F S128x1 .f32 := k0_pay129 (w262 m ρ c) (l640 m ρ c)
def w646 (c : Dev nD) : FVec F S128x128 .bf16 := k0_pay130 (w262 m ρ c) (l640 m ρ c)
def w653 (c : Dev nD) : FVec F S128x1 .f32 := k0_pay132 (w262 m ρ c) (l648 m ρ c)
def w654 (c : Dev nD) : FVec F S128x128 .bf16 := k0_pay133 (w262 m ρ c) (l648 m ρ c)
def w661 (c : Dev nD) : FVec F S128x1 .f32 := k0_pay135 (w262 m ρ c) (l656 m ρ c)
def w662 (c : Dev nD) : FVec F S128x128 .bf16 := k0_pay136 (w262 m ρ c) (l656 m ρ c)
def w663 (c : Dev nD) : FVec F S128x64 .bf16 := k0_pay137 (w262 m ρ c)
def l664 (c : Dev nD) : Vec F S1x1x128x64 .bf16 := kM.view.readAt (Elt F) (Rect.unit (s := S4x2x128x256) ![3, 1, 0, 192] S1x1x128x64.size inb_S4x2x128x256_S1x1x128x64_3_1_0_192).toLoadRect (kAll m ρ c)
def l680 (c : Dev nD) : Vec F S1x1x128x64 .bf16 := kM.view.readAt (Elt F) (Rect.unit (s := S4x2x128x256) ![3, 0, 0, 0] S1x1x128x64.size inb_S4x2x128x256_S1x1x128x64_3_0_0_0).toLoadRect (kAll m ρ c)
def l688 (c : Dev nD) : Vec F S1x1x128x64 .bf16 := kM.view.readAt (Elt F) (Rect.unit (s := S4x2x128x256) ![3, 0, 0, 64] S1x1x128x64.size inb_S4x2x128x256_S1x1x128x64_3_0_0_64).toLoadRect (kAll m ρ c)
def w669 (c : Dev nD) : FVec F S128x1 .f32 := k0_pay139 (w663 m ρ c) (l664 m ρ c)
def w670 (c : Dev nD) : FVec F S128x128 .bf16 := k0_pay140 (w663 m ρ c) (l664 m ρ c)
def w685 (c : Dev nD) : FVec F S128x1 .f32 := k0_pay142 (w253 m ρ c) (l680 m ρ c)
def w686 (c : Dev nD) : FVec F S128x128 .bf16 := k0_pay143 (w253 m ρ c) (l680 m ρ c)
def w693 (c : Dev nD) : FVec F S128x1 .f32 := k0_pay145 (w253 m ρ c) (l688 m ρ c)
def w694 (c : Dev nD) : FVec F S128x128 .bf16 := k0_pay146 (w253 m ρ c) (l688 m ρ c)
def w695 (c : Dev nD) : FVec F S128x64 .bf16 := k0_pay147 (w253 m ρ c)
def l696 (c : Dev nD) : Vec F S1x1x128x64 .bf16 := kM.view.readAt (Elt F) (Rect.unit (s := S4x2x128x256) ![3, 0, 0, 128] S1x1x128x64.size inb_S4x2x128x256_S1x1x128x64_3_0_0_128).toLoadRect (kAll m ρ c)
def l704 (c : Dev nD) : Vec F S1x1x128x64 .bf16 := kM.view.readAt (Elt F) (Rect.unit (s := S4x2x128x256) ![3, 0, 0, 192] S1x1x128x64.size inb_S4x2x128x256_S1x1x128x64_3_0_0_192).toLoadRect (kAll m ρ c)
def l719 (c : Dev nD) : Vec F S1x1x128x64 .bf16 := vM.view.readAt (Elt F) (Rect.unit (s := S4x2x128x256) ![3, 1, 0, 0] S1x1x128x64.size inb_S4x2x128x256_S1x1x128x64_3_1_0_0).toLoadRect (vAll m ρ c)
def l722 (c : Dev nD) : Vec F S1x1x128x64 .bf16 := vM.view.readAt (Elt F) (Rect.unit (s := S4x2x128x256) ![3, 1, 0, 64] S1x1x128x64.size inb_S4x2x128x256_S1x1x128x64_3_1_0_64).toLoadRect (vAll m ρ c)
def w701 (c : Dev nD) : FVec F S128x1 .f32 := k0_pay149 (w695 m ρ c) (l696 m ρ c)
def w702 (c : Dev nD) : FVec F S128x128 .bf16 := k0_pay150 (w695 m ρ c) (l696 m ρ c)
def w709 (c : Dev nD) : FVec F S128x1 .f32 := k0_pay152 (w253 m ρ c) (l704 m ρ c)
def w710 (c : Dev nD) : FVec F S128x128 .bf16 := k0_pay153 (w253 m ρ c) (l704 m ρ c)
def w721 (c : Dev nD) : FVec F S128x64 .f32 := k0_pay154 (w646 m ρ c) (l719 m ρ c)
def l725 (c : Dev nD) : Vec F S1x1x128x64 .bf16 := vM.view.readAt (Elt F) (Rect.unit (s := S4x2x128x256) ![3, 1, 0, 128] S1x1x128x64.size inb_S4x2x128x256_S1x1x128x64_3_1_0_128).toLoadRect (vAll m ρ c)
def l728 (c : Dev nD) : Vec F S1x1x128x64 .bf16 := vM.view.readAt (Elt F) (Rect.unit (s := S4x2x128x256) ![3, 1, 0, 192] S1x1x128x64.size inb_S4x2x128x256_S1x1x128x64_3_1_0_192).toLoadRect (vAll m ρ c)
def l739 (c : Dev nD) : Vec F S1x1x128x64 .bf16 := vM.view.readAt (Elt F) (Rect.unit (s := S4x2x128x256) ![3, 0, 0, 0] S1x1x128x64.size inb_S4x2x128x256_S1x1x128x64_3_0_0_0).toLoadRect (vAll m ρ c)
def l742 (c : Dev nD) : Vec F S1x1x128x64 .bf16 := vM.view.readAt (Elt F) (Rect.unit (s := S4x2x128x256) ![3, 0, 0, 64] S1x1x128x64.size inb_S4x2x128x256_S1x1x128x64_3_0_0_64).toLoadRect (vAll m ρ c)
def w724 (c : Dev nD) : FVec F S128x64 .f32 := k0_pay155 (w654 m ρ c) (l722 m ρ c)
def w727 (c : Dev nD) : FVec F S128x64 .f32 := k0_pay156 (w662 m ρ c) (l725 m ρ c)
def w730 (c : Dev nD) : FVec F S128x64 .f32 := k0_pay157 (w670 m ρ c) (l728 m ρ c)
def w741 (c : Dev nD) : FVec F S128x64 .f32 := k0_pay158 (w686 m ρ c) (l739 m ρ c)
def w744 (c : Dev nD) : FVec F S128x64 .f32 := k0_pay159 (w694 m ρ c) (l742 m ρ c)
def l745 (c : Dev nD) : Vec F S1x1x128x64 .bf16 := vM.view.readAt (Elt F) (Rect.unit (s := S4x2x128x256) ![3, 0, 0, 128] S1x1x128x64.size inb_S4x2x128x256_S1x1x128x64_3_0_0_128).toLoadRect (vAll m ρ c)
def l748 (c : Dev nD) : Vec F S1x1x128x64 .bf16 := vM.view.readAt (Elt F) (Rect.unit (s := S4x2x128x256) ![3, 0, 0, 192] S1x1x128x64.size inb_S4x2x128x256_S1x1x128x64_3_0_0_192).toLoadRect (vAll m ρ c)
def w747 (c : Dev nD) : FVec F S128x64 .f32 := k0_pay160 (w702 m ρ c) (l745 m ρ c)
def w750 (c : Dev nD) : FVec F S128x64 .f32 := k0_pay161 (w710 m ρ c) (l748 m ρ c)
def w827 (c : Dev nD) : FVec F S128x1 .f32 := k0_pay162 (w269 m ρ c) (w425 m ρ c) (w525 m ρ c) (w685 m ρ c)
def w832 (c : Dev nD) : FVec F S128x64 .f32 := k0_pay163 (w329 m ρ c) (w501 m ρ c) (w601 m ρ c) (w741 m ρ c)
def w880 (c : Dev nD) : FVec F S128x1 .f32 := (k0_pay165 (w301 m ρ c) (w375 m ρ c) (w565 m ρ c))
def w927 (c : Dev nD) : FVec F S128x512 .f32 := (k0_pay166 (w128 m ρ c) (w309 m ρ c) (w317 m ρ c) (w325 m ρ c) (w341 m ρ c) (w344 m ρ c) (w347 m ρ c) (w350 m ρ c) (w383 m ρ c) (w391 m ρ c) (w399 m ρ c) (w471 m ρ c) (w474 m ρ c) (w477 m ρ c) (w480 m ρ c) (w573 m ρ c) (w581 m ρ c) (w589 m ρ c) (w621 m ρ c) (w624 m ρ c) (w627 m ρ c) (w630 m ρ c) (w645 m ρ c) (w653 m ρ c) (w661 m ρ c) (w669 m ρ c) (w721 m ρ c) (w724 m ρ c) (w727 m ρ c) (w730 m ρ c) (w880 m ρ c))
/-- The two batches of the result of device `c`. -/
def out0 (c : Dev nD) : FVec F S1x128x512 .f32 := k0_pay164 (w128 m ρ c) (w277 m ρ c) (w285 m ρ c) (w293 m ρ c) (w332 m ρ c) (w335 m ρ c) (w338 m ρ c) (w433 m ρ c) (w441 m ρ c) (w449 m ρ c) (w504 m ρ c) (w507 m ρ c) (w510 m ρ c) (w533 m ρ c) (w541 m ρ c) (w549 m ρ c) (w604 m ρ c) (w607 m ρ c) (w610 m ρ c) (w693 m ρ c) (w701 m ρ c) (w709 m ρ c) (w744 m ρ c) (w747 m ρ c) (w750 m ρ c) (w827 m ρ c) (w832 m ρ c)
def out1 (c : Dev nD) : FVec F S1x128x512 .f32 := k0_pay1 (w927 m ρ c)

/-- The index inside one batch of an index of the result. -/
def outIdx (i : S2x128x512.Idx) : S1x128x512.Idx
  | ⟨0, _⟩ => (⟨0, Nat.one_pos⟩ : Fin 1)
  | ⟨1, _⟩ => ⟨(i 1).val, (i 1).isLt⟩
  | ⟨2, _⟩ => ⟨(i 2).val, (i 2).isLt⟩
  | ⟨n + 3, h⟩ => absurd h (by show ¬ n + 3 < 3; omega)
/-- The result of device `c`: batch 0 and batch 1. -/
def outAt (c : Dev nD) : (cc0_stg5_0 : Ref sig .tc).ty.Contents (Elt F) := fun (i : S2x128x512.Idx) =>
  (if (i 0).val = 0 then out0 m ρ c else out1 m ρ c) (outIdx i)

end Cert.KernelIdealRing

end
-- ==== Proof.Parts.lean ====
/-
The body of the kernel, part by part: what each part of the text takes and leaves, and its results.
-/
module

public import proofs.«01_k».proof.Proof.Values

@[expose] public section

set_option maxRecDepth 16384

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a device owes, at some set of waits. -/
abbrev Ow (c : Dev nD) (n : ℕ) : sProp 𝕄 := iprop(∃ W, owes (c : Thread nD τ) (owe c n) W)
/-- A block of a buffer at any contents. -/
abbrev kAny (c : Dev nD) (o : Fin 4 → ℕ) (h : ∀ a, o a + S1x1x128x256.size a ≤ S4x2x128x256.size a) : sProp 𝕄 := iprop(∃ f, kPt (F := F) c o h fullShare f)
abbrev vAny (c : Dev nD) (o : Fin 4 → ℕ) (h : ∀ a, o a + S1x1x128x256.size a ≤ S4x2x128x256.size a) : sProp 𝕄 := iprop(∃ f, vPt (F := F) c o h fullShare f)
/-- A staging buffer whole at contents `f`. -/
abbrev stP (c : Dev nD) (b : Ref sig .tc) (f : Buf (Elt F) ((c : Thread nD τ).loc b)) : sProp 𝕄 := ((c : Thread nD τ).loc b) ↦{fullShare} f
/-- The result's staging buffer, at any contents. -/
abbrev stA (c : Dev nD) (b : Ref sig .tc) : sProp 𝕄 := iprop(∃ f : Buf (Elt F) ((c : Thread nD τ).loc b), ((c : Thread nD τ).loc b) ↦{fullShare} f)

abbrev oM : Memref sig .tc .vmem S2x128x512 .f32 := Memref.whole cc0_stg5_0
abbrev oR0 : Rect S2x128x512 := Rect.unit (s := S2x128x512) ![0, 0, 0] S1x128x512.size inb_S2x128x512_S1x128x512_0_0_0
abbrev oR1 : Rect S2x128x512 := Rect.unit (s := S2x128x512) ![1, 0, 0] S1x128x512.size inb_S2x128x512_S1x128x512_1_0_0
/-- The result's staging buffer with its first batch stored. -/
abbrev stO (c : Dev nD) : sProp 𝕄 := iprop(∃ f : Buf (Elt F) ((c : Thread nD τ).loc cc0_stg5_0),
  ((c : Thread nD τ).loc cc0_stg5_0) ↦{fullShare} (oM.access oR0).write (Elt F) f (out0 m ρ c) Finset.univ)

omit [FloatOps F] in
theorem mayWait_none (c : Dev nD) (q : DmaSem sig) : (levAts L lv : sProp 𝕄) ⊢ MayWait (c : Thread nD τ) (.dma q) () (owe c 0) :=
  MayOwe.of_cut (L := L) (lev := lv) 3 (fun p hp => by rw [Finset.mem_singleton.mp hp, L_tc]; exact Finset.mem_singleton_self _)
    (fun g u hg => absurd hg (Nat.lt_irrefl 0))
    (fun p hp => by rw [Finset.mem_singleton.mp hp]; dsimp only [lv]; split <;> (try split) <;> omega)
    (fun g u hg => absurd hg (Nat.lt_irrefl 0))

theorem src13 (c : Dev nD) : srcDev c 1 = srcDev (nxt c) 3 := by revert c; decide
theorem src23 (c : Dev nD) : srcDev c 2 = srcDev (prv c) 3 := by revert c; decide

/-- A block's share in three: two to lend, one to keep. -/
theorem kCut3 (c : Dev nD) (o : Fin 4 → ℕ) (h) : kPt c o h fullShare (kAll m ρ c)
    ⊢ iprop(kPt c o h fullShare.left (kAll m ρ c) ∗ kPt c o h fullShare.right.left (kAll m ρ c) ∗ kPt c o h fullShare.right.right (kAll m ρ c)) := by
  unfold kPt
  exact (pointsTo_share (PosShare.mem_left_op_right fullShare)).1.trans (sep_mono_right (pointsTo_share (PosShare.mem_left_op_right fullShare.right)).1)
theorem kCut2 (c : Dev nD) (o : Fin 4 → ℕ) (h) : kPt c o h fullShare (kAll m ρ c)
    ⊢ iprop(kPt c o h fullShare.left (kAll m ρ c) ∗ kPt c o h fullShare.right (kAll m ρ c)) := by
  unfold kPt
  exact (pointsTo_share (PosShare.mem_left_op_right fullShare)).1
theorem vCut3 (c : Dev nD) (o : Fin 4 → ℕ) (h) : vPt c o h fullShare (vAll m ρ c)
    ⊢ iprop(vPt c o h fullShare.left (vAll m ρ c) ∗ vPt c o h fullShare.right.left (vAll m ρ c) ∗ vPt c o h fullShare.right.right (vAll m ρ c)) := by
  unfold vPt
  exact (pointsTo_share (PosShare.mem_left_op_right fullShare)).1.trans (sep_mono_right (pointsTo_share (PosShare.mem_left_op_right fullShare.right)).1)
theorem vCut2 (c : Dev nD) (o : Fin 4 → ℕ) (h) : vPt c o h fullShare (vAll m ρ c)
    ⊢ iprop(vPt c o h fullShare.left (vAll m ρ c) ∗ vPt c o h fullShare.right (vAll m ρ c)) := by
  unfold vPt
  exact (pointsTo_share (PosShare.mem_left_op_right fullShare)).1

/-- A head's 64 columns lie within the 256 of a slot's batch. -/
theorem hin (s b h : ℕ) (hh : h ≤ 192) : ∀ a, (![s, b, 0, 0] : Fin 4 → ℕ) a ≤ (![s, b, 0, h] : Fin 4 → ℕ) a
    ∧ (![s, b, 0, h] : Fin 4 → ℕ) a + S1x1x128x64.size a ≤ (![s, b, 0, 0] : Fin 4 → ℕ) a + S1x1x128x256.size a := fun a => match a with
  | ⟨0, _⟩ => ⟨le_rfl, le_rfl⟩
  | ⟨1, _⟩ => ⟨le_rfl, le_rfl⟩
  | ⟨2, _⟩ => ⟨le_rfl, le_rfl⟩
  | ⟨3, _⟩ => ⟨Nat.zero_le h, (Nat.add_le_add_right hh 64).trans_eq rfl⟩

section Parts

variable (K : Dev nD × Fin 25 → ℕ)

/-- Part 1 of the body. -/
theorem part1 {Q : (Σ' (d0 : Dev nD) (v5 : BitVec 32) (v7 : BitVec 32) (v8 : Sems sig S_) (v18 : FVec F S128x256 .f32) (v35 : IVec S128x256 32), BitVec 32) → sProp 𝕄} (c : Dev nD) :
    iprop(records m ρ K ∗ levAts L lv ∗ Ow (F := F) c 14 ∗ dutyTok ER (barCell (prv c)) 0 true ∗ fromLeft (F := F) c ∗ dutyTok ER (barCell (nxt c)) 0 false ∗ fromRight (F := F) c)
      ⊢ iprop(((Ow (F := F) c 12) -∗ Q ⟨c, (Scalar.remsi (Scalar.addi (Scalar.subi (Scalar.remsi (Scalar.divsi (Dev.word c) 1#32) 4#32) 1#32) 4#32) 4#32), (Scalar.remsi (Scalar.addi (Scalar.remsi (Scalar.divsi (Dev.word c) 1#32) 4#32) 1#32) 4#32), (SemArray.scalar (sig.barrier 0 rfl) : Sems sig S_), (k0_pay2 (F := F) c), (k0_pay3), (2#32)⟩) -∗ wp frame (wpE (defs₀ (F := F)) 𝒱₀ (c : Thread nD τ) none) Set.univ (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 ) Q) := by
  simp only [k0_part1_eq_skeleton]; unfold k0_part1_skel
  simp only [semSignalWord, semWaitWord, Prog.lift, Prog.bind_op, Prog.bind_ret, Prog.pure_eq_ret, Prog.bind_assoc, wp_deviceId]
  simp only [dev1_eq c, dev2_eq c]
  iintro ⟨#HR, #Hlev, HO, Htb, Hfl, Htc, Hfr⟩ Hk
  icases HO with ⟨%W, HO⟩
  iapply (sigLeft m ρ K c (prv c) rfl W (by decide)) $$ [HO Htb Hfl]
  · isplitr; · iexact HR
    isplitl [HO]; · iexact HO
    isplitl [Htb]; · iexact Htb
    iexact Hfl
  iintro HO
  iapply (sigRight m ρ K c (nxt c) rfl W (by decide)) $$ [HO Htc Hfr]
  · isplitr; · iexact HR
    isplitl [HO]; · iexact HO
    isplitl [Htc]; · iexact Htc
    iexact Hfr
  iintro HO
  rw [wp_ret]
  imodintro
  iapply Hk
  iexists _; iexact HO

/-- Part 2 of the body. -/
theorem part2 {Q : (Σ' (v62 : FVec F S128x256 .f32) (v63 : FVec F S128x256 .f32) (v64 : IVec S256x256 32) (v65 : IVec S256x256 32) (v68 : IVec S256x256 1) (v70 : BitVec 32) (v72 : IVec S256x256 32) (v74 : IVec S256x256 1), IVec S256x256 1) → sProp 𝕄} (c : Dev nD) :
    iprop(records m ρ K ∗ levAts L lv)
      ⊢ iprop(((emp) -∗ Q ⟨(cosA (F := F) c), (sinA (F := F) c), (iota .tc S256x256 32 [0] iota_S256x256_d0_w32), (iota .tc S256x256 32 [1] iota_S256x256_d1_w32), (k0_pay7), (Scalar.select (Scalar.cmpi .eq 2#32 0#32) 1#32 2#32), (k0_pay8), (k0_pay9), (k0_pay10)⟩) -∗ wp frame (wpE (defs₀ (F := F)) 𝒱₀ (c : Thread nD τ) none) Set.univ (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 (k0_pay2 (F := F) c) (k0_pay3) (2#32)) Q) := by
  simp only [k0_part2_eq_skeleton]; unfold k0_part2_skel
  simp only [semSignalWord, semWaitWord, Prog.lift, Prog.bind_op, Prog.bind_ret, Prog.pure_eq_ret, Prog.bind_assoc, wp_deviceId]
  unfold cosA sinA
  iintro ⟨#HR, #Hlev⟩ Hk
  rw [wp_ret]
  imodintro
  iapply Hk
  iempintro

/-- Part 3 of the body. -/
theorem part3 {Q : (Σ' (v116 : FVec F S256x256 .bf16) (v119 : FVec F S512x256 .bf16) (v122 : FVec F S512x256 .bf16), FVec F S512x256 .bf16) → sProp 𝕄} (c : Dev nD) :
    iprop(records m ρ K ∗ levAts L lv ∗ stP c cc0_stg2_0 (wkstg m ρ c) ∗ stP c cc0_stg3_0 (wvstg m ρ c) ∗ stP c cc0_stg1_0 (wqstg m ρ c))
      ⊢ iprop(((stP c cc0_stg2_0 (wkstg m ρ c) ∗ stP c cc0_stg3_0 (wvstg m ρ c) ∗ stP c cc0_stg1_0 (wqstg m ρ c)) -∗ Q ⟨(rotA (F := F)), (w119 m ρ c), (w122 m ρ c), (w125 m ρ c)⟩) -∗ wp frame (wpE (defs₀ (F := F)) 𝒱₀ (c : Thread nD τ) none) Set.univ (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 (iota .tc S256x256 32 [0] iota_S256x256_d0_w32) (iota .tc S256x256 32 [1] iota_S256x256_d1_w32) (k0_pay7) (Scalar.select (Scalar.cmpi .eq 2#32 0#32) 1#32 2#32) (k0_pay8) (k0_pay9) (k0_pay10)) Q) := by
  simp only [k0_part3_eq_skeleton]; unfold k0_part3_skel
  simp only [semSignalWord, semWaitWord, Prog.lift, Prog.bind_op, Prog.bind_ret, Prog.pure_eq_ret, Prog.bind_assoc, wp_deviceId]
  unfold rotA w119 w122 w125 wkL wvL wqL
  iintro ⟨#HR, #Hlev, Hwk, Hwv, Hwq⟩ Hk
  iapply (wp_load 𝒱₀ (c : Thread nD τ) none Set.univ (m := Memref.whole cc0_stg2_0) (Finset.subset_univ _)) $$ Hwk
  iintro Hwk
  iapply (wp_load 𝒱₀ (c : Thread nD τ) none Set.univ (m := Memref.whole cc0_stg3_0) (Finset.subset_univ _)) $$ Hwv
  iintro Hwv
  iapply (wp_load 𝒱₀ (c : Thread nD τ) none Set.univ (m := Memref.whole cc0_stg1_0) (Finset.subset_univ _)) $$ Hwq
  iintro Hwq
  rw [wp_ret]
  imodintro
  iapply Hk
  isplitl [Hwk]; · iexact Hwk
  isplitl [Hwv]; · iexact Hwv
  iexact Hwq

/-- Part 4 of the body. -/
theorem part4 {Q : (Σ' (v128 : FVec F S256x512 .bf16) (v131 : FVec F S128x512 .bf16), FVec F S128x512 .bf16) → sProp 𝕄} (c : Dev nD) :
    iprop(records m ρ K ∗ levAts L lv ∗ stP c cc0_stg4_0 (wostg m ρ c) ∗ stP c cc0_stg0_0 (xstg m ρ c) ∗ kAny c ![0, 0, 0, 0] inb_S4x2x128x256_S1x1x128x256_0_0_0_0 ∗ kAny c ![0, 1, 0, 0] inb_S4x2x128x256_S1x1x128x256_0_1_0_0 ∗ Ow (F := F) c 12 ∗ cred (tallyAt (barCell c) () 2) ∗ atPos ER (barCell c) 0 ∅ 0)
      ⊢ iprop(((stP c cc0_stg4_0 (wostg m ρ c) ∗ stP c cc0_stg0_0 (xstg m ρ c) ∗ kPt c ![0, 0, 0, 0] inb_S4x2x128x256_S1x1x128x256_0_0_0_0 fullShare.left (kAll m ρ c) ∗ kPt c ![0, 0, 0, 0] inb_S4x2x128x256_S1x1x128x256_0_0_0_0 fullShare.right.left (kAll m ρ c) ∗ kPt c ![0, 0, 0, 0] inb_S4x2x128x256_S1x1x128x256_0_0_0_0 fullShare.right.right (kAll m ρ c) ∗ kPt c ![0, 1, 0, 0] inb_S4x2x128x256_S1x1x128x256_0_1_0_0 fullShare.left (kAll m ρ c) ∗ kPt c ![0, 1, 0, 0] inb_S4x2x128x256_S1x1x128x256_0_1_0_0 fullShare.right.left (kAll m ρ c) ∗ kPt c ![0, 1, 0, 0] inb_S4x2x128x256_S1x1x128x256_0_1_0_0 fullShare.right.right (kAll m ρ c) ∗ Ow (F := F) c 12 ∗ atPos ER (barCell c) (0 + 1) ∅ 0 ∗ kAny (nxt c) ![1, 1, 0, 0] inb_S4x2x128x256_S1x1x128x256_1_1_0_0 ∗ kAny (prv c) ![2, 0, 0, 0] inb_S4x2x128x256_S1x1x128x256_2_0_0_0 ∗ vAny (nxt c) ![1, 1, 0, 0] inb_S4x2x128x256_S1x1x128x256_1_1_0_0 ∗ vAny (prv c) ![2, 0, 0, 0] inb_S4x2x128x256_S1x1x128x256_2_0_0_0 ∗ kAny (nxt c) ![1, 0, 0, 0] inb_S4x2x128x256_S1x1x128x256_1_0_0_0 ∗ kAny (prv c) ![2, 1, 0, 0] inb_S4x2x128x256_S1x1x128x256_2_1_0_0 ∗ vAny (nxt c) ![1, 0, 0, 0] inb_S4x2x128x256_S1x1x128x256_1_0_0_0 ∗ vAny (prv c) ![2, 1, 0, 0] inb_S4x2x128x256_S1x1x128x256_2_1_0_0 ∗ kAny (nxt c) ![3, 1, 0, 0] inb_S4x2x128x256_S1x1x128x256_3_1_0_0 ∗ kAny (prv c) ![3, 0, 0, 0] inb_S4x2x128x256_S1x1x128x256_3_0_0_0 ∗ vAny (nxt c) ![3, 1, 0, 0] inb_S4x2x128x256_S1x1x128x256_3_1_0_0 ∗ vAny (prv c) ![3, 0, 0, 0] inb_S4x2x128x256_S1x1x128x256_3_0_0_0) -∗ Q ⟨(w128 m ρ c), (w131 m ρ c), (w134 m ρ c)⟩) -∗ wp frame (wpE (defs₀ (F := F)) 𝒱₀ (c : Thread nD τ) none) Set.univ (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 (SemArray.scalar (sig.barrier 0 rfl) : Sems sig S_) (cosA (F := F) c) (sinA (F := F) c) (rotA (F := F)) (w119 m ρ c)) Q) := by
  simp only [k0_part4_eq_skeleton]; unfold k0_part4_skel
  simp only [semSignalWord, semWaitWord, Prog.lift, Prog.bind_op, Prog.bind_ret, Prog.pure_eq_ret, Prog.bind_assoc, wp_deviceId]
  unfold w128 w131 w134 woL x0L x1L
  iintro ⟨#HR, #Hlev, Hwo, Hx, Hk00, Hk01, HO, Hcb, Hab⟩ Hk
  iapply (wp_load 𝒱₀ (c : Thread nD τ) none Set.univ (m := Memref.whole cc0_stg4_0) (Finset.subset_univ _)) $$ Hwo
  iintro Hwo
  iapply (wp_load 𝒱₀ (c : Thread nD τ) none Set.univ (m := Memref.whole cc0_stg0_0) (Finset.subset_univ _)) $$ Hx
  iintro Hx
  iapply (wp_load 𝒱₀ (c : Thread nD τ) none Set.univ (m := Memref.whole cc0_stg0_0) (Finset.subset_univ _)) $$ Hx
  iintro Hx
  icases Hk00 with ⟨%fk00, Hk00⟩
  iapply (kLoad c ![0, 0, 0, 0] inb_S4x2x128x256_S1x1x128x256_0_0_0_0 fullShare fk00 ![0, 0, 0, 0] S1x1x128x256.size inb_S4x2x128x256_S1x1x128x256_0_0_0_0 (fun a => ⟨le_refl _, le_refl _⟩)) $$ Hk00
  iintro Hk00
  iapply (kStore m ρ c 0 inb_S4x2x128x256_S1x1x128x256_0_0_0_0 _ rfl fk00) $$ Hk00
  iintro Hk00
  ihave Hk00 := (kCut3 m ρ c ![0, 0, 0, 0] inb_S4x2x128x256_S1x1x128x256_0_0_0_0) $$ Hk00
  icases Hk00 with ⟨Hk00L, Hk00RL, Hk00RR⟩
  icases Hk01 with ⟨%fk01, Hk01⟩
  iapply (kLoad c ![0, 1, 0, 0] inb_S4x2x128x256_S1x1x128x256_0_1_0_0 fullShare fk01 ![0, 1, 0, 0] S1x1x128x256.size inb_S4x2x128x256_S1x1x128x256_0_1_0_0 (fun a => ⟨le_refl _, le_refl _⟩)) $$ Hk01
  iintro Hk01
  iapply (kStore m ρ c 1 inb_S4x2x128x256_S1x1x128x256_0_1_0_0 _ rfl fk01) $$ Hk01
  iintro Hk01
  ihave Hk01 := (kCut3 m ρ c ![0, 1, 0, 0] inb_S4x2x128x256_S1x1x128x256_0_1_0_0) $$ Hk01
  icases Hk01 with ⟨Hk01L, Hk01RL, Hk01RR⟩
  icases HO with ⟨%W, HO⟩
  iapply (barWait m ρ K c _ (by decide)) $$ [Hcb HO Hab]
  · isplitr; · iexact HR
    isplitr; · iexact Hlev
    isplitl [Hcb]; · iexact Hcb
    isplitl [HO]; · iexact HO
    iexact Hab
  iintro ⟨HO, Hab, Hgr, Hgl⟩
  unfold fromRight fromLeft
  icases Hgr with ⟨%gk, %gv, HD1, HD3, HD5, HD7, HD9, HD11⟩
  icases Hgl with ⟨%fk, %fv, HD0, HD2, HD4, HD6, HD8, HD10⟩
  rw [wp_ret]
  imodintro
  iapply Hk
  isplitl [Hwo]; · iexact Hwo
  isplitl [Hx]; · iexact Hx
  isplitl [Hk00L]; · iexact Hk00L
  isplitl [Hk00RL]; · iexact Hk00RL
  isplitl [Hk00RR]; · iexact Hk00RR
  isplitl [Hk01L]; · iexact Hk01L
  isplitl [Hk01RL]; · iexact Hk01RL
  isplitl [Hk01RR]; · iexact Hk01RR
  isplitl [HO]; · iexists _; iexact HO
  isplitl [Hab]; · iexact Hab
  isplitl [HD0]; · iexists _; iexact HD0
  isplitl [HD1]; · iexists _; iexact HD1
  isplitl [HD2]; · iexists _; iexact HD2
  isplitl [HD3]; · iexists _; iexact HD3
  isplitl [HD4]; · iexists _; iexact HD4
  isplitl [HD5]; · iexists _; iexact HD5
  isplitl [HD6]; · iexists _; iexact HD6
  isplitl [HD7]; · iexists _; iexact HD7
  isplitl [HD8]; · iexists _; iexact HD8
  isplitl [HD9]; · iexists _; iexact HD9
  isplitl [HD10]; · iexists _; iexact HD10
  iexists _; iexact HD11

/-- Part 5 of the body. -/
theorem part5 {Q : (Σ' (v180 : BitVec 32), BitVec 32) → sProp 𝕄} (c : Dev nD) (v5 v7 : BitVec 32) :
    iprop(records m ρ K ∗ levAts L lv ∗ Ow (F := F) c 12 ∗ kPt c ![0, 1, 0, 0] inb_S4x2x128x256_S1x1x128x256_0_1_0_0 fullShare.left (kAll m ρ c) ∗ kAny (nxt c) ![1, 1, 0, 0] inb_S4x2x128x256_S1x1x128x256_1_1_0_0 ∗ dutyTok ER ((c : Thread nD τ), .dma sS0) 0 false ∗ dutyTok ER (((nxt c) : Thread nD τ), .dma rS0) 0 false ∗ kPt c ![0, 0, 0, 0] inb_S4x2x128x256_S1x1x128x256_0_0_0_0 fullShare.left (kAll m ρ c) ∗ kAny (prv c) ![2, 0, 0, 0] inb_S4x2x128x256_S1x1x128x256_2_0_0_0 ∗ dutyTok ER ((c : Thread nD τ), .dma sS1) 0 false ∗ dutyTok ER (((prv c) : Thread nD τ), .dma rS1) 0 false ∗ vAny c ![0, 1, 0, 0] inb_S4x2x128x256_S1x1x128x256_0_1_0_0)
      ⊢ iprop(((Ow (F := F) c 10 ∗ cred (tallyAt ((c : Thread nD τ), .dma sS0) () N) ∗ cred (tallyAt ((c : Thread nD τ), .dma sS1) () N) ∗ vPt c ![0, 1, 0, 0] inb_S4x2x128x256_S1x1x128x256_0_1_0_0 fullShare.left (vAll m ρ c) ∗ vPt c ![0, 1, 0, 0] inb_S4x2x128x256_S1x1x128x256_0_1_0_0 fullShare.right.left (vAll m ρ c) ∗ vPt c ![0, 1, 0, 0] inb_S4x2x128x256_S1x1x128x256_0_1_0_0 fullShare.right.right (vAll m ρ c)) -∗ Q ⟨Scalar.muli v7 1#32, 0#32⟩) -∗ wp frame (wpE (defs₀ (F := F)) 𝒱₀ (c : Thread nD τ) none) Set.univ (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 c v5 v7 (w122 m ρ c) (w134 m ρ c)) Q) := by
  simp only [k0_part5_eq_skeleton]; unfold k0_part5_skel
  simp only [semSignalWord, semWaitWord, Prog.lift, Prog.bind_op, Prog.bind_ret, Prog.pure_eq_ret, Prog.bind_assoc, wp_deviceId]
  simp only [sSem0, rSem0, sSem1, rSem1]
  iintro ⟨#HR, #Hlev, HO, Hk01L, HD0, Hts0, Htr0, Hk00L, HD1, Hts1, Htr1, Hv01⟩ Hk
  icases HO with ⟨%W, HO⟩
  icases HD0 with ⟨%fD0, HD0⟩
  iapply (kSend m ρ K c (nxt c) (⟨k0_dev3 c, k0_dev3_lt c⟩ : Dev nD) (dev3_eq c) sS0 rS0 (by decide) (by decide) 0 1 1 inb_S4x2x128x256_S1x1x128x256_0_1_0_0 inb_S4x2x128x256_S1x1x128x256_1_1_0_0 fullShare.left (prv_nxt c).symm 11 (by decide) rfl rfl rfl _ _) $$ [Hk01L HD0 HO Hts0 Htr0]
  · isplitr; · iexact HR
    isplitl [Hk01L]; · iexact Hk01L
    isplitl [HD0]; · iexact HD0
    isplitl [HO]; · iexact HO
    isplitl [Hts0]; · iexact Hts0
    iexact Htr0
  iintro ⟨Hcs0, HO⟩
  icases HD1 with ⟨%fD1, HD1⟩
  iapply (kSend m ρ K c (prv c) (⟨k0_dev4 c, k0_dev4_lt c⟩ : Dev nD) (dev4_eq c) sS1 rS1 (by decide) (by decide) 0 2 0 inb_S4x2x128x256_S1x1x128x256_0_0_0_0 inb_S4x2x128x256_S1x1x128x256_2_0_0_0 fullShare.left (nxt_prv c).symm 10 (by decide) rfl rfl rfl _ _) $$ [Hk00L HD1 HO Hts1 Htr1]
  · isplitr; · iexact HR
    isplitl [Hk00L]; · iexact Hk00L
    isplitl [HD1]; · iexact HD1
    isplitl [HO]; · iexact HO
    isplitl [Hts1]; · iexact Hts1
    iexact Htr1
  iintro ⟨Hcs1, HO⟩
  icases Hv01 with ⟨%fv01, Hv01⟩
  iapply (vLoad c ![0, 1, 0, 0] inb_S4x2x128x256_S1x1x128x256_0_1_0_0 fullShare fv01 ![0, 1, 0, 0] S1x1x128x256.size inb_S4x2x128x256_S1x1x128x256_0_1_0_0 (fun a => ⟨le_refl _, le_refl _⟩)) $$ Hv01
  iintro Hv01
  iapply (vStore m ρ c 1 inb_S4x2x128x256_S1x1x128x256_0_1_0_0 _ rfl fv01) $$ Hv01
  iintro Hv01
  ihave Hv01 := (vCut3 m ρ c ![0, 1, 0, 0] inb_S4x2x128x256_S1x1x128x256_0_1_0_0) $$ Hv01
  icases Hv01 with ⟨Hv01L, Hv01RL, Hv01RR⟩
  rw [wp_ret]
  imodintro
  iapply Hk
  isplitl [HO]; · iexists _; iexact HO
  isplitl [Hcs0]; · iexact Hcs0
  isplitl [Hcs1]; · iexact Hcs1
  isplitl [Hv01L]; · iexact Hv01L
  isplitl [Hv01RL]; · iexact Hv01RL
  iexact Hv01RR

/-- Part 6 of the body. -/
theorem part6 {Q : (PUnit) → sProp 𝕄} (c : Dev nD) (v5 v7 v180 c0_i32_99 : BitVec 32) :
    iprop(records m ρ K ∗ levAts L lv ∗ Ow (F := F) c 10 ∗ vPt c ![0, 1, 0, 0] inb_S4x2x128x256_S1x1x128x256_0_1_0_0 fullShare.left (vAll m ρ c) ∗ vAny (nxt c) ![1, 1, 0, 0] inb_S4x2x128x256_S1x1x128x256_1_1_0_0 ∗ dutyTok ER ((c : Thread nD τ), .dma sS2) 0 false ∗ dutyTok ER (((nxt c) : Thread nD τ), .dma rS2) 0 false ∗ vAny c ![0, 0, 0, 0] inb_S4x2x128x256_S1x1x128x256_0_0_0_0 ∗ vAny (prv c) ![2, 0, 0, 0] inb_S4x2x128x256_S1x1x128x256_2_0_0_0 ∗ dutyTok ER ((c : Thread nD τ), .dma sS3) 0 false ∗ dutyTok ER (((prv c) : Thread nD τ), .dma rS3) 0 false)
      ⊢ iprop(((Ow (F := F) c 8 ∗ cred (tallyAt ((c : Thread nD τ), .dma sS2) () N) ∗ vPt c ![0, 0, 0, 0] inb_S4x2x128x256_S1x1x128x256_0_0_0_0 fullShare.right.left (vAll m ρ c) ∗ vPt c ![0, 0, 0, 0] inb_S4x2x128x256_S1x1x128x256_0_0_0_0 fullShare.right.right (vAll m ρ c) ∗ cred (tallyAt ((c : Thread nD τ), .dma sS3) () N)) -∗ Q ⟨⟩) -∗ wp frame (wpE (defs₀ (F := F)) 𝒱₀ (c : Thread nD τ) none) Set.univ (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 c v5 v7 (w122 m ρ c) (w131 m ρ c) v180 c0_i32_99) Q) := by
  simp only [k0_part6_eq_skeleton]; unfold k0_part6_skel
  simp only [semSignalWord, semWaitWord, Prog.lift, Prog.bind_op, Prog.bind_ret, Prog.pure_eq_ret, Prog.bind_assoc, wp_deviceId]
  simp only [sSem2, rSem2, sSem3, rSem3]
  iintro ⟨#HR, #Hlev, HO, Hv01L, HD2, Hts2, Htr2, Hv00, HD3, Hts3, Htr3⟩ Hk
  icases HO with ⟨%W, HO⟩
  icases HD2 with ⟨%fD2, HD2⟩
  iapply (vSend m ρ K c (nxt c) (⟨k0_dev5 c, k0_dev5_lt c⟩ : Dev nD) (dev5_eq c) sS2 rS2 (by decide) (by decide) 0 1 1 inb_S4x2x128x256_S1x1x128x256_0_1_0_0 inb_S4x2x128x256_S1x1x128x256_1_1_0_0 fullShare.left (prv_nxt c).symm 9 (by decide) rfl rfl rfl _ _) $$ [Hv01L HD2 HO Hts2 Htr2]
  · isplitr; · iexact HR
    isplitl [Hv01L]; · iexact Hv01L
    isplitl [HD2]; · iexact HD2
    isplitl [HO]; · iexact HO
    isplitl [Hts2]; · iexact Hts2
    iexact Htr2
  iintro ⟨Hcs2, HO⟩
  icases Hv00 with ⟨%fv00, Hv00⟩
  iapply (vLoad c ![0, 0, 0, 0] inb_S4x2x128x256_S1x1x128x256_0_0_0_0 fullShare fv00 ![0, 0, 0, 0] S1x1x128x256.size inb_S4x2x128x256_S1x1x128x256_0_0_0_0 (fun a => ⟨le_refl _, le_refl _⟩)) $$ Hv00
  iintro Hv00
  iapply (vStore m ρ c 0 inb_S4x2x128x256_S1x1x128x256_0_0_0_0 _ rfl fv00) $$ Hv00
  iintro Hv00
  ihave Hv00 := (vCut3 m ρ c ![0, 0, 0, 0] inb_S4x2x128x256_S1x1x128x256_0_0_0_0) $$ Hv00
  icases Hv00 with ⟨Hv00L, Hv00RL, Hv00RR⟩
  icases HD3 with ⟨%fD3, HD3⟩
  iapply (vSend m ρ K c (prv c) (⟨k0_dev6 c, k0_dev6_lt c⟩ : Dev nD) (dev6_eq c) sS3 rS3 (by decide) (by decide) 0 2 0 inb_S4x2x128x256_S1x1x128x256_0_0_0_0 inb_S4x2x128x256_S1x1x128x256_2_0_0_0 fullShare.left (nxt_prv c).symm 8 (by decide) rfl rfl rfl _ _) $$ [Hv00L HD3 HO Hts3 Htr3]
  · isplitr; · iexact HR
    isplitl [Hv00L]; · iexact Hv00L
    isplitl [HD3]; · iexact HD3
    isplitl [HO]; · iexact HO
    isplitl [Hts3]; · iexact Hts3
    iexact Htr3
  iintro ⟨Hcs3, HO⟩
  rw [wp_ret]
  imodintro
  iapply Hk
  isplitl [HO]; · iexists _; iexact HO
  isplitl [Hcs2]; · iexact Hcs2
  isplitl [Hv00RL]; · iexact Hv00RL
  isplitl [Hv00RR]; · iexact Hv00RR
  iexact Hcs3

/-- Part 7 of the body. -/
theorem part7 {Q : (PUnit) → sProp 𝕄} (c : Dev nD) (v5 v7 : BitVec 32) :
    iprop(records m ρ K ∗ levAts L lv ∗ Ow (F := F) c 8 ∗ kPt c ![0, 0, 0, 0] inb_S4x2x128x256_S1x1x128x256_0_0_0_0 fullShare.right.left (kAll m ρ c) ∗ kAny (nxt c) ![1, 0, 0, 0] inb_S4x2x128x256_S1x1x128x256_1_0_0_0 ∗ dutyTok ER ((c : Thread nD τ), .dma sS4) 0 false ∗ dutyTok ER (((nxt c) : Thread nD τ), .dma rS4) 0 false ∗ kPt c ![0, 1, 0, 0] inb_S4x2x128x256_S1x1x128x256_0_1_0_0 fullShare.right.left (kAll m ρ c) ∗ kAny (prv c) ![2, 1, 0, 0] inb_S4x2x128x256_S1x1x128x256_2_1_0_0 ∗ dutyTok ER ((c : Thread nD τ), .dma sS5) 0 false ∗ dutyTok ER (((prv c) : Thread nD τ), .dma rS5) 0 false ∗ vPt c ![0, 0, 0, 0] inb_S4x2x128x256_S1x1x128x256_0_0_0_0 fullShare.right.left (vAll m ρ c) ∗ vAny (nxt c) ![1, 0, 0, 0] inb_S4x2x128x256_S1x1x128x256_1_0_0_0 ∗ dutyTok ER ((c : Thread nD τ), .dma sS6) 0 false ∗ dutyTok ER (((nxt c) : Thread nD τ), .dma rS6) 0 false)
      ⊢ iprop(((Ow (F := F) c 5 ∗ cred (tallyAt ((c : Thread nD τ), .dma sS4) () N) ∗ cred (tallyAt ((c : Thread nD τ), .dma sS5) () N) ∗ cred (tallyAt ((c : Thread nD τ), .dma sS6) () N)) -∗ Q ⟨⟩) -∗ wp frame (wpE (defs₀ (F := F)) 𝒱₀ (c : Thread nD τ) none) Set.univ (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 c v5 v7) Q) := by
  simp only [k0_part7_eq_skeleton]; unfold k0_part7_skel
  simp only [semSignalWord, semWaitWord, Prog.lift, Prog.bind_op, Prog.bind_ret, Prog.pure_eq_ret, Prog.bind_assoc, wp_deviceId]
  simp only [sSem4, rSem4, sSem5, rSem5, sSem6, rSem6]
  iintro ⟨#HR, #Hlev, HO, Hk00RL, HD4, Hts4, Htr4, Hk01RL, HD5, Hts5, Htr5, Hv00RL, HD6, Hts6, Htr6⟩ Hk
  icases HO with ⟨%W, HO⟩
  icases HD4 with ⟨%fD4, HD4⟩
  iapply (kSend m ρ K c (nxt c) (⟨k0_dev7 c, k0_dev7_lt c⟩ : Dev nD) (dev7_eq c) sS4 rS4 (by decide) (by decide) 0 1 0 inb_S4x2x128x256_S1x1x128x256_0_0_0_0 inb_S4x2x128x256_S1x1x128x256_1_0_0_0 fullShare.right.left (prv_nxt c).symm 7 (by decide) rfl rfl rfl _ _) $$ [Hk00RL HD4 HO Hts4 Htr4]
  · isplitr; · iexact HR
    isplitl [Hk00RL]; · iexact Hk00RL
    isplitl [HD4]; · iexact HD4
    isplitl [HO]; · iexact HO
    isplitl [Hts4]; · iexact Hts4
    iexact Htr4
  iintro ⟨Hcs4, HO⟩
  icases HD5 with ⟨%fD5, HD5⟩
  iapply (kSend m ρ K c (prv c) (⟨k0_dev8 c, k0_dev8_lt c⟩ : Dev nD) (dev8_eq c) sS5 rS5 (by decide) (by decide) 0 2 1 inb_S4x2x128x256_S1x1x128x256_0_1_0_0 inb_S4x2x128x256_S1x1x128x256_2_1_0_0 fullShare.right.left (nxt_prv c).symm 6 (by decide) rfl rfl rfl _ _) $$ [Hk01RL HD5 HO Hts5 Htr5]
  · isplitr; · iexact HR
    isplitl [Hk01RL]; · iexact Hk01RL
    isplitl [HD5]; · iexact HD5
    isplitl [HO]; · iexact HO
    isplitl [Hts5]; · iexact Hts5
    iexact Htr5
  iintro ⟨Hcs5, HO⟩
  icases HD6 with ⟨%fD6, HD6⟩
  iapply (vSend m ρ K c (nxt c) (⟨k0_dev9 c, k0_dev9_lt c⟩ : Dev nD) (dev9_eq c) sS6 rS6 (by decide) (by decide) 0 1 0 inb_S4x2x128x256_S1x1x128x256_0_0_0_0 inb_S4x2x128x256_S1x1x128x256_1_0_0_0 fullShare.right.left (prv_nxt c).symm 5 (by decide) rfl rfl rfl _ _) $$ [Hv00RL HD6 HO Hts6 Htr6]
  · isplitr; · iexact HR
    isplitl [Hv00RL]; · iexact Hv00RL
    isplitl [HD6]; · iexact HD6
    isplitl [HO]; · iexact HO
    isplitl [Hts6]; · iexact Hts6
    iexact Htr6
  iintro ⟨Hcs6, HO⟩
  rw [wp_ret]
  imodintro
  iapply Hk
  isplitl [HO]; · iexists _; iexact HO
  isplitl [Hcs4]; · iexact Hcs4
  isplitl [Hcs5]; · iexact Hcs5
  iexact Hcs6

/-- Part 8 of the body. -/
theorem part8 {Q : (Σ' (v253 : FVec F S128x256 .bf16) (v262 : FVec F S128x256 .bf16) (v269 : FVec F S128x1 .f32) (v270 : FVec F S128x128 .bf16), FVec F S128x64 .bf16) → sProp 𝕄} (c : Dev nD) (v5 : BitVec 32) :
    iprop(records m ρ K ∗ levAts L lv ∗ Ow (F := F) c 5 ∗ vPt c ![0, 1, 0, 0] inb_S4x2x128x256_S1x1x128x256_0_1_0_0 fullShare.right.left (vAll m ρ c) ∗ vAny (prv c) ![2, 1, 0, 0] inb_S4x2x128x256_S1x1x128x256_2_1_0_0 ∗ dutyTok ER ((c : Thread nD τ), .dma sS7) 0 false ∗ dutyTok ER (((prv c) : Thread nD τ), .dma rS7) 0 false ∗ kPt c ![0, 0, 0, 0] inb_S4x2x128x256_S1x1x128x256_0_0_0_0 fullShare.right.right (kAll m ρ c))
      ⊢ iprop(((Ow (F := F) c 4 ∗ cred (tallyAt ((c : Thread nD τ), .dma sS7) () N) ∗ kPt c ![0, 0, 0, 0] inb_S4x2x128x256_S1x1x128x256_0_0_0_0 fullShare.right.right (kAll m ρ c)) -∗ Q ⟨(w253 m ρ c), (w262 m ρ c), (w269 m ρ c), (w270 m ρ c), (w271 m ρ c)⟩) -∗ wp frame (wpE (defs₀ (F := F)) 𝒱₀ (c : Thread nD τ) none) Set.univ (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 c v5 (cosA (F := F) c) (sinA (F := F) c) (rotA (F := F)) (w125 m ρ c) (w131 m ρ c) (w134 m ρ c)) Q) := by
  simp only [k0_part8_eq_skeleton]; unfold k0_part8_skel
  simp only [semSignalWord, semWaitWord, Prog.lift, Prog.bind_op, Prog.bind_ret, Prog.pure_eq_ret, Prog.bind_assoc, wp_deviceId]
  simp only [sSem7, rSem7]
  unfold w253 w262 w269 w270 w271 l264
  iintro ⟨#HR, #Hlev, HO, Hv01RL, HD7, Hts7, Htr7, Hk00RR⟩ Hk
  icases HO with ⟨%W, HO⟩
  icases HD7 with ⟨%fD7, HD7⟩
  iapply (vSend m ρ K c (prv c) (⟨k0_dev10 c, k0_dev10_lt c⟩ : Dev nD) (dev10_eq c) sS7 rS7 (by decide) (by decide) 0 2 1 inb_S4x2x128x256_S1x1x128x256_0_1_0_0 inb_S4x2x128x256_S1x1x128x256_2_1_0_0 fullShare.right.left (nxt_prv c).symm 4 (by decide) rfl rfl rfl _ _) $$ [Hv01RL HD7 HO Hts7 Htr7]
  · isplitr; · iexact HR
    isplitl [Hv01RL]; · iexact Hv01RL
    isplitl [HD7]; · iexact HD7
    isplitl [HO]; · iexact HO
    isplitl [Hts7]; · iexact Hts7
    iexact Htr7
  iintro ⟨Hcs7, HO⟩
  iapply (kLoad c ![0, 0, 0, 0] inb_S4x2x128x256_S1x1x128x256_0_0_0_0 fullShare.right.right (kAll m ρ c) ![0, 0, 0, 0] S1x1x128x64.size inb_S4x2x128x256_S1x1x128x64_0_0_0_0 (hin 0 0 0 (by decide))) $$ Hk00RR
  iintro Hk00RR
  rw [wp_ret]
  imodintro
  iapply Hk
  isplitl [HO]; · iexists _; iexact HO
  isplitl [Hcs7]; · iexact Hcs7
  iexact Hk00RR

/-- Part 9 of the body. -/
theorem part9 {Q : (Σ' (v277 : FVec F S128x1 .f32) (v278 : FVec F S128x128 .bf16) (v285 : FVec F S128x1 .f32) (v286 : FVec F S128x128 .bf16) (v293 : FVec F S128x1 .f32) (v294 : FVec F S128x128 .bf16) (v301 : FVec F S128x1 .f32) (v302 : FVec F S128x128 .bf16) (v303 : FVec F S128x64 .bf16), Vec F S1x1x128x64 .bf16) → sProp 𝕄} (c : Dev nD) :
    iprop(records m ρ K ∗ levAts L lv ∗ kPt c ![0, 0, 0, 0] inb_S4x2x128x256_S1x1x128x256_0_0_0_0 fullShare.right.right (kAll m ρ c) ∗ kPt c ![0, 1, 0, 0] inb_S4x2x128x256_S1x1x128x256_0_1_0_0 fullShare.right.right (kAll m ρ c))
      ⊢ iprop(((kPt c ![0, 0, 0, 0] inb_S4x2x128x256_S1x1x128x256_0_0_0_0 fullShare.right.right (kAll m ρ c) ∗ kPt c ![0, 1, 0, 0] inb_S4x2x128x256_S1x1x128x256_0_1_0_0 fullShare.right.right (kAll m ρ c)) -∗ Q ⟨(w277 m ρ c), (w278 m ρ c), (w285 m ρ c), (w286 m ρ c), (w293 m ρ c), (w294 m ρ c), (w301 m ρ c), (w302 m ρ c), (w303 m ρ c), (l304 m ρ c)⟩) -∗ wp frame (wpE (defs₀ (F := F)) 𝒱₀ (c : Thread nD τ) none) Set.univ (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 (w253 m ρ c) (w262 m ρ c) (w271 m ρ c)) Q) := by
  simp only [k0_part9_eq_skeleton]; unfold k0_part9_skel
  simp only [semSignalWord, semWaitWord, Prog.lift, Prog.bind_op, Prog.bind_ret, Prog.pure_eq_ret, Prog.bind_assoc, wp_deviceId]
  unfold w277 w278 w285 w286 w293 w294 w301 w302 w303 l272 l280 l288 l296 l304
  iintro ⟨#HR, #Hlev, Hk00RR, Hk01RR⟩ Hk
  iapply (kLoad c ![0, 0, 0, 0] inb_S4x2x128x256_S1x1x128x256_0_0_0_0 fullShare.right.right (kAll m ρ c) ![0, 0, 0, 64] S1x1x128x64.size inb_S4x2x128x256_S1x1x128x64_0_0_0_64 (hin 0 0 64 (by decide))) $$ Hk00RR
  iintro Hk00RR
  iapply (kLoad c ![0, 0, 0, 0] inb_S4x2x128x256_S1x1x128x256_0_0_0_0 fullShare.right.right (kAll m ρ c) ![0, 0, 0, 128] S1x1x128x64.size inb_S4x2x128x256_S1x1x128x64_0_0_0_128 (hin 0 0 128 (by decide))) $$ Hk00RR
  iintro Hk00RR
  iapply (kLoad c ![0, 0, 0, 0] inb_S4x2x128x256_S1x1x128x256_0_0_0_0 fullShare.right.right (kAll m ρ c) ![0, 0, 0, 192] S1x1x128x64.size inb_S4x2x128x256_S1x1x128x64_0_0_0_192 (hin 0 0 192 (by decide))) $$ Hk00RR
  iintro Hk00RR
  iapply (kLoad c ![0, 1, 0, 0] inb_S4x2x128x256_S1x1x128x256_0_1_0_0 fullShare.right.right (kAll m ρ c) ![0, 1, 0, 0] S1x1x128x64.size inb_S4x2x128x256_S1x1x128x64_0_1_0_0 (hin 0 1 0 (by decide))) $$ Hk01RR
  iintro Hk01RR
  iapply (kLoad c ![0, 1, 0, 0] inb_S4x2x128x256_S1x1x128x256_0_1_0_0 fullShare.right.right (kAll m ρ c) ![0, 1, 0, 64] S1x1x128x64.size inb_S4x2x128x256_S1x1x128x64_0_1_0_64 (hin 0 1 64 (by decide))) $$ Hk01RR
  iintro Hk01RR
  rw [wp_ret]
  imodintro
  iapply Hk
  isplitl [Hk00RR]; · iexact Hk00RR
  iexact Hk01RR

/-- Part 10 of the body. -/
theorem part10 {Q : (Σ' (v309 : FVec F S128x1 .f32) (v310 : FVec F S128x128 .bf16) (v317 : FVec F S128x1 .f32) (v318 : FVec F S128x128 .bf16) (v325 : FVec F S128x1 .f32) (v326 : FVec F S128x128 .bf16) (v329 : FVec F S128x64 .f32) (v332 : FVec F S128x64 .f32), FVec F S128x64 .f32) → sProp 𝕄} (c : Dev nD) :
    iprop(records m ρ K ∗ levAts L lv ∗ kPt c ![0, 1, 0, 0] inb_S4x2x128x256_S1x1x128x256_0_1_0_0 fullShare.right.right (kAll m ρ c) ∗ vPt c ![0, 0, 0, 0] inb_S4x2x128x256_S1x1x128x256_0_0_0_0 fullShare.right.right (vAll m ρ c))
      ⊢ iprop(((kPt c ![0, 1, 0, 0] inb_S4x2x128x256_S1x1x128x256_0_1_0_0 fullShare.right.right (kAll m ρ c) ∗ vPt c ![0, 0, 0, 0] inb_S4x2x128x256_S1x1x128x256_0_0_0_0 fullShare.right.right (vAll m ρ c)) -∗ Q ⟨(w309 m ρ c), (w310 m ρ c), (w317 m ρ c), (w318 m ρ c), (w325 m ρ c), (w326 m ρ c), (w329 m ρ c), (w332 m ρ c), (w335 m ρ c)⟩) -∗ wp frame (wpE (defs₀ (F := F)) 𝒱₀ (c : Thread nD τ) none) Set.univ (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 (w262 m ρ c) (w270 m ρ c) (w278 m ρ c) (w286 m ρ c) (w303 m ρ c) (l304 m ρ c)) Q) := by
  simp only [k0_part10_eq_skeleton]; unfold k0_part10_skel
  simp only [semSignalWord, semWaitWord, Prog.lift, Prog.bind_op, Prog.bind_ret, Prog.pure_eq_ret, Prog.bind_assoc, wp_deviceId]
  unfold w309 w310 w317 w318 w325 w326 w329 w332 w335 l312 l320 l327 l330 l333
  iintro ⟨#HR, #Hlev, Hk01RR, Hv00RR⟩ Hk
  iapply (kLoad c ![0, 1, 0, 0] inb_S4x2x128x256_S1x1x128x256_0_1_0_0 fullShare.right.right (kAll m ρ c) ![0, 1, 0, 128] S1x1x128x64.size inb_S4x2x128x256_S1x1x128x64_0_1_0_128 (hin 0 1 128 (by decide))) $$ Hk01RR
  iintro Hk01RR
  iapply (kLoad c ![0, 1, 0, 0] inb_S4x2x128x256_S1x1x128x256_0_1_0_0 fullShare.right.right (kAll m ρ c) ![0, 1, 0, 192] S1x1x128x64.size inb_S4x2x128x256_S1x1x128x64_0_1_0_192 (hin 0 1 192 (by decide))) $$ Hk01RR
  iintro Hk01RR
  iapply (vLoad c ![0, 0, 0, 0] inb_S4x2x128x256_S1x1x128x256_0_0_0_0 fullShare.right.right (vAll m ρ c) ![0, 0, 0, 0] S1x1x128x64.size inb_S4x2x128x256_S1x1x128x64_0_0_0_0 (hin 0 0 0 (by decide))) $$ Hv00RR
  iintro Hv00RR
  iapply (vLoad c ![0, 0, 0, 0] inb_S4x2x128x256_S1x1x128x256_0_0_0_0 fullShare.right.right (vAll m ρ c) ![0, 0, 0, 64] S1x1x128x64.size inb_S4x2x128x256_S1x1x128x64_0_0_0_64 (hin 0 0 64 (by decide))) $$ Hv00RR
  iintro Hv00RR
  iapply (vLoad c ![0, 0, 0, 0] inb_S4x2x128x256_S1x1x128x256_0_0_0_0 fullShare.right.right (vAll m ρ c) ![0, 0, 0, 128] S1x1x128x64.size inb_S4x2x128x256_S1x1x128x64_0_0_0_128 (hin 0 0 128 (by decide))) $$ Hv00RR
  iintro Hv00RR
  rw [wp_ret]
  imodintro
  iapply Hk
  isplitl [Hk01RR]; · iexact Hk01RR
  iexact Hv00RR

/-- Part 11 of the body. -/
theorem part11 {Q : (Σ' (v338 : FVec F S128x64 .f32) (v341 : FVec F S128x64 .f32) (v344 : FVec F S128x64 .f32) (v347 : FVec F S128x64 .f32), FVec F S128x64 .f32) → sProp 𝕄} (c : Dev nD) (v7 : BitVec 32) :
    iprop(records m ρ K ∗ levAts L lv ∗ vPt c ![0, 0, 0, 0] inb_S4x2x128x256_S1x1x128x256_0_0_0_0 fullShare.right.right (vAll m ρ c) ∗ vPt c ![0, 1, 0, 0] inb_S4x2x128x256_S1x1x128x256_0_1_0_0 fullShare.right.right (vAll m ρ c))
      ⊢ iprop(((vPt c ![0, 0, 0, 0] inb_S4x2x128x256_S1x1x128x256_0_0_0_0 fullShare.right.right (vAll m ρ c) ∗ vPt c ![0, 1, 0, 0] inb_S4x2x128x256_S1x1x128x256_0_1_0_0 fullShare.right.right (vAll m ρ c)) -∗ Q ⟨(w338 m ρ c), (w341 m ρ c), (w344 m ρ c), (w347 m ρ c), (w350 m ρ c)⟩) -∗ wp frame (wpE (defs₀ (F := F)) 𝒱₀ (c : Thread nD τ) none) Set.univ (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 v7 (w294 m ρ c) (w302 m ρ c) (w310 m ρ c) (w318 m ρ c) (w326 m ρ c)) Q) := by
  simp only [k0_part11_eq_skeleton]; unfold k0_part11_skel
  simp only [semSignalWord, semWaitWord, Prog.lift, Prog.bind_op, Prog.bind_ret, Prog.pure_eq_ret, Prog.bind_assoc, wp_deviceId]
  unfold w338 w341 w344 w347 w350 l336 l339 l342 l345 l348
  iintro ⟨#HR, #Hlev, Hv00RR, Hv01RR⟩ Hk
  iapply (vLoad c ![0, 0, 0, 0] inb_S4x2x128x256_S1x1x128x256_0_0_0_0 fullShare.right.right (vAll m ρ c) ![0, 0, 0, 192] S1x1x128x64.size inb_S4x2x128x256_S1x1x128x64_0_0_0_192 (hin 0 0 192 (by decide))) $$ Hv00RR
  iintro Hv00RR
  iapply (vLoad c ![0, 1, 0, 0] inb_S4x2x128x256_S1x1x128x256_0_1_0_0 fullShare.right.right (vAll m ρ c) ![0, 1, 0, 0] S1x1x128x64.size inb_S4x2x128x256_S1x1x128x64_0_1_0_0 (hin 0 1 0 (by decide))) $$ Hv01RR
  iintro Hv01RR
  iapply (vLoad c ![0, 1, 0, 0] inb_S4x2x128x256_S1x1x128x256_0_1_0_0 fullShare.right.right (vAll m ρ c) ![0, 1, 0, 64] S1x1x128x64.size inb_S4x2x128x256_S1x1x128x64_0_1_0_64 (hin 0 1 64 (by decide))) $$ Hv01RR
  iintro Hv01RR
  iapply (vLoad c ![0, 1, 0, 0] inb_S4x2x128x256_S1x1x128x256_0_1_0_0 fullShare.right.right (vAll m ρ c) ![0, 1, 0, 128] S1x1x128x64.size inb_S4x2x128x256_S1x1x128x64_0_1_0_128 (hin 0 1 128 (by decide))) $$ Hv01RR
  iintro Hv01RR
  iapply (vLoad c ![0, 1, 0, 0] inb_S4x2x128x256_S1x1x128x256_0_1_0_0 fullShare.right.right (vAll m ρ c) ![0, 1, 0, 192] S1x1x128x64.size inb_S4x2x128x256_S1x1x128x64_0_1_0_192 (hin 0 1 192 (by decide))) $$ Hv01RR
  iintro Hv01RR
  rw [wp_ret]
  imodintro
  iapply Hk
  isplitl [Hv00RR]; · iexact Hv00RR
  iexact Hv01RR

/-- Part 12 of the body. -/
theorem part12 {Q : (Σ' (v375 : FVec F S128x1 .f32) (v376 : FVec F S128x128 .bf16) (v383 : FVec F S128x1 .f32) (v384 : FVec F S128x128 .bf16) (v385 : FVec F S128x64 .bf16) (v387 : FVec F S128x64 .bf16), FVec F S128x128 .f32) → sProp 𝕄} (c : Dev nD) (v7 : BitVec 32) :
    iprop(records m ρ K ∗ levAts L lv ∗ Ow (F := F) c 4 ∗ cred (tallyAt ((c : Thread nD τ), .dma rS0) () N) ∗ atPos ER ((c : Thread nD τ), .dma rS0) 0 ∅ 0 ∗ kAny (nxt c) ![3, 1, 0, 0] inb_S4x2x128x256_S1x1x128x256_3_1_0_0 ∗ dutyTok ER ((c : Thread nD τ), .dma sS8) 0 false ∗ dutyTok ER (((nxt c) : Thread nD τ), .dma rS8) 0 false)
      ⊢ iprop(((Ow (F := F) c 3 ∗ atPos ER ((c : Thread nD τ), .dma rS0) (0 + 1) ∅ 0 ∗ kPt c ![1, 1, 0, 0] inb_S4x2x128x256_S1x1x128x256_1_1_0_0 fullShare.right (kAll m ρ c) ∗ cred (tallyAt ((c : Thread nD τ), .dma sS8) () N)) -∗ Q ⟨(w375 m ρ c), (w376 m ρ c), (w383 m ρ c), (w384 m ρ c), (w385 m ρ c), (w387 m ρ c), (constant S128x128 .f32 0x00000000#32)⟩) -∗ wp frame (wpE (defs₀ (F := F)) 𝒱₀ (c : Thread nD τ) none) Set.univ (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 c v7 (w262 m ρ c)) Q) := by
  simp only [k0_part12_eq_skeleton]; unfold k0_part12_skel
  simp only [semSignalWord, semWaitWord, Prog.lift, Prog.bind_op, Prog.bind_ret, Prog.pure_eq_ret, Prog.bind_assoc, wp_deviceId]
  simp only [rSem0, sSem8, rSem8]
  unfold w375 w376 w383 w384 w385 w387 l370 l378 l386
  iintro ⟨#HR, #Hlev, HO, Hcr0, Har0, HD8, Hts8, Htr8⟩ Hk
  icases HO with ⟨%W, HO⟩
  iapply (dmaWait m ρ K c rS0 (by decide) (owe c 4) _ (mayWait_recv c rS0 (by decide) 4 (by decide)) (P := kPt c ![1, 1, 0, 0] inb_S4x2x128x256_S1x1x128x256_1_1_0_0 fullShare (kAll m ρ c)) rfl (src := kP ![1, 1, 0, 0] inb_S4x2x128x256_S1x1x128x256_1_1_0_0) (dst := kP ![1, 1, 0, 0] inb_S4x2x128x256_S1x1x128x256_1_1_0_0) rfl) $$ [Hcr0 HO Har0]
  · isplitr; · iexact HR
    isplitr; · iexact Hlev
    isplitl [Hcr0]; · iexact Hcr0
    isplitl [HO]; · iexact HO
    iexact Har0
  iintro ⟨HO, Har0, Hk11F⟩
  ihave Hk11F := (kCut2 m ρ c ![1, 1, 0, 0] inb_S4x2x128x256_S1x1x128x256_1_1_0_0) $$ Hk11F
  icases Hk11F with ⟨Hk11L, Hk11R⟩
  icases HD8 with ⟨%fD8, HD8⟩
  iapply (kSend m ρ K c (nxt c) (⟨k0_dev11 c, k0_dev11_lt c⟩ : Dev nD) (dev11_eq c) sS8 rS8 (by decide) (by decide) 1 3 1 inb_S4x2x128x256_S1x1x128x256_1_1_0_0 inb_S4x2x128x256_S1x1x128x256_3_1_0_0 fullShare.left (src13 c) 3 (by decide) rfl rfl rfl _ _) $$ [Hk11L HD8 HO Hts8 Htr8]
  · isplitr; · iexact HR
    isplitl [Hk11L]; · iexact Hk11L
    isplitl [HD8]; · iexact HD8
    isplitl [HO]; · iexact HO
    isplitl [Hts8]; · iexact Hts8
    iexact Htr8
  iintro ⟨Hcs8, HO⟩
  iapply (kLoad c ![1, 1, 0, 0] inb_S4x2x128x256_S1x1x128x256_1_1_0_0 fullShare.right (kAll m ρ c) ![1, 1, 0, 0] S1x1x128x64.size inb_S4x2x128x256_S1x1x128x64_1_1_0_0 (hin 1 1 0 (by decide))) $$ Hk11R
  iintro Hk11R
  iapply (kLoad c ![1, 1, 0, 0] inb_S4x2x128x256_S1x1x128x256_1_1_0_0 fullShare.right (kAll m ρ c) ![1, 1, 0, 64] S1x1x128x64.size inb_S4x2x128x256_S1x1x128x64_1_1_0_64 (hin 1 1 64 (by decide))) $$ Hk11R
  iintro Hk11R
  iapply (kLoad c ![1, 1, 0, 0] inb_S4x2x128x256_S1x1x128x256_1_1_0_0 fullShare.right (kAll m ρ c) ![1, 1, 0, 128] S1x1x128x64.size inb_S4x2x128x256_S1x1x128x64_1_1_0_128 (hin 1 1 128 (by decide))) $$ Hk11R
  iintro Hk11R
  rw [wp_ret]
  imodintro
  iapply Hk
  isplitl [HO]; · iexists _; iexact HO
  isplitl [Har0]; · iexact Har0
  isplitl [Hk11R]; · iexact Hk11R
  iexact Hcs8

/-- Part 13 of the body. -/
theorem part13 {Q : (Σ' (v391 : FVec F S128x1 .f32) (v392 : FVec F S128x128 .bf16) (v399 : FVec F S128x1 .f32), FVec F S128x128 .bf16) → sProp 𝕄} (c : Dev nD) (v5 v7 : BitVec 32) :
    iprop(records m ρ K ∗ levAts L lv ∗ kPt c ![1, 1, 0, 0] inb_S4x2x128x256_S1x1x128x256_1_1_0_0 fullShare.right (kAll m ρ c) ∗ Ow (F := F) c 3 ∗ cred (tallyAt ((c : Thread nD τ), .dma rS1) () N) ∗ atPos ER ((c : Thread nD τ), .dma rS1) 0 ∅ 0)
      ⊢ iprop(((kPt c ![1, 1, 0, 0] inb_S4x2x128x256_S1x1x128x256_1_1_0_0 fullShare.right (kAll m ρ c) ∗ Ow (F := F) c 3 ∗ atPos ER ((c : Thread nD τ), .dma rS1) (0 + 1) ∅ 0 ∗ kPt c ![2, 0, 0, 0] inb_S4x2x128x256_S1x1x128x256_2_0_0_0 fullShare (kAll m ρ c)) -∗ Q ⟨(w391 m ρ c), (w392 m ρ c), (w399 m ρ c), (w400 m ρ c)⟩) -∗ wp frame (wpE (defs₀ (F := F)) 𝒱₀ (c : Thread nD τ) none) Set.univ (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 v5 v7 (w262 m ρ c) (w385 m ρ c) (w387 m ρ c) (constant S128x128 .f32 0x00000000#32)) Q) := by
  simp only [k0_part13_eq_skeleton]; unfold k0_part13_skel
  simp only [semSignalWord, semWaitWord, Prog.lift, Prog.bind_op, Prog.bind_ret, Prog.pure_eq_ret, Prog.bind_assoc, wp_deviceId]
  simp only [rSem1]
  unfold w391 w392 w399 w400 l394
  iintro ⟨#HR, #Hlev, Hk11R, HO, Hcr1, Har1⟩ Hk
  iapply (kLoad c ![1, 1, 0, 0] inb_S4x2x128x256_S1x1x128x256_1_1_0_0 fullShare.right (kAll m ρ c) ![1, 1, 0, 192] S1x1x128x64.size inb_S4x2x128x256_S1x1x128x64_1_1_0_192 (hin 1 1 192 (by decide))) $$ Hk11R
  iintro Hk11R
  icases HO with ⟨%W, HO⟩
  iapply (dmaWait m ρ K c rS1 (by decide) (owe c 3) _ (mayWait_recv c rS1 (by decide) 3 (by decide)) (P := kPt c ![2, 0, 0, 0] inb_S4x2x128x256_S1x1x128x256_2_0_0_0 fullShare (kAll m ρ c)) rfl (src := kP ![2, 0, 0, 0] inb_S4x2x128x256_S1x1x128x256_2_0_0_0) (dst := kP ![2, 0, 0, 0] inb_S4x2x128x256_S1x1x128x256_2_0_0_0) rfl) $$ [Hcr1 HO Har1]
  · isplitr; · iexact HR
    isplitr; · iexact Hlev
    isplitl [Hcr1]; · iexact Hcr1
    isplitl [HO]; · iexact HO
    iexact Har1
  iintro ⟨HO, Har1, Hk20F⟩
  rw [wp_ret]
  imodintro
  iapply Hk
  isplitl [Hk11R]; · iexact Hk11R
  isplitl [HO]; · iexists _; iexact HO
  isplitl [Har1]; · iexact Har1
  iexact Hk20F

/-- Part 14 of the body. -/
theorem part14 {Q : (Σ' (v425 : FVec F S128x1 .f32) (v426 : FVec F S128x128 .bf16) (v433 : FVec F S128x1 .f32) (v434 : FVec F S128x128 .bf16) (v441 : FVec F S128x1 .f32) (v442 : FVec F S128x128 .bf16) (v449 : FVec F S128x1 .f32), FVec F S128x128 .bf16) → sProp 𝕄} (c : Dev nD) :
    iprop(records m ρ K ∗ levAts L lv ∗ Ow (F := F) c 3 ∗ kPt c ![2, 0, 0, 0] inb_S4x2x128x256_S1x1x128x256_2_0_0_0 fullShare (kAll m ρ c) ∗ kAny (prv c) ![3, 0, 0, 0] inb_S4x2x128x256_S1x1x128x256_3_0_0_0 ∗ dutyTok ER ((c : Thread nD τ), .dma sS9) 0 false ∗ dutyTok ER (((prv c) : Thread nD τ), .dma rS9) 0 false)
      ⊢ iprop(((Ow (F := F) c 2 ∗ kPt c ![2, 0, 0, 0] inb_S4x2x128x256_S1x1x128x256_2_0_0_0 fullShare.right (kAll m ρ c) ∗ cred (tallyAt ((c : Thread nD τ), .dma sS9) () N)) -∗ Q ⟨(w425 m ρ c), (w426 m ρ c), (w433 m ρ c), (w434 m ρ c), (w441 m ρ c), (w442 m ρ c), (w449 m ρ c), (w450 m ρ c)⟩) -∗ wp frame (wpE (defs₀ (F := F)) 𝒱₀ (c : Thread nD τ) none) Set.univ (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 c (w253 m ρ c)) Q) := by
  simp only [k0_part14_eq_skeleton]; unfold k0_part14_skel
  simp only [semSignalWord, semWaitWord, Prog.lift, Prog.bind_op, Prog.bind_ret, Prog.pure_eq_ret, Prog.bind_assoc, wp_deviceId]
  simp only [sSem9, rSem9]
  unfold w425 w426 w433 w434 w441 w442 w449 w450 l420 l428 l436 l444
  iintro ⟨#HR, #Hlev, HO, Hk20F, HD9, Hts9, Htr9⟩ Hk
  icases HO with ⟨%W, HO⟩
  ihave Hk20F := (kCut2 m ρ c ![2, 0, 0, 0] inb_S4x2x128x256_S1x1x128x256_2_0_0_0) $$ Hk20F
  icases Hk20F with ⟨Hk20L, Hk20R⟩
  icases HD9 with ⟨%fD9, HD9⟩
  iapply (kSend m ρ K c (prv c) (⟨k0_dev12 c, k0_dev12_lt c⟩ : Dev nD) (dev12_eq c) sS9 rS9 (by decide) (by decide) 2 3 0 inb_S4x2x128x256_S1x1x128x256_2_0_0_0 inb_S4x2x128x256_S1x1x128x256_3_0_0_0 fullShare.left (src23 c) 2 (by decide) rfl rfl rfl _ _) $$ [Hk20L HD9 HO Hts9 Htr9]
  · isplitr; · iexact HR
    isplitl [Hk20L]; · iexact Hk20L
    isplitl [HD9]; · iexact HD9
    isplitl [HO]; · iexact HO
    isplitl [Hts9]; · iexact Hts9
    iexact Htr9
  iintro ⟨Hcs9, HO⟩
  iapply (kLoad c ![2, 0, 0, 0] inb_S4x2x128x256_S1x1x128x256_2_0_0_0 fullShare.right (kAll m ρ c) ![2, 0, 0, 0] S1x1x128x64.size inb_S4x2x128x256_S1x1x128x64_2_0_0_0 (hin 2 0 0 (by decide))) $$ Hk20R
  iintro Hk20R
  iapply (kLoad c ![2, 0, 0, 0] inb_S4x2x128x256_S1x1x128x256_2_0_0_0 fullShare.right (kAll m ρ c) ![2, 0, 0, 64] S1x1x128x64.size inb_S4x2x128x256_S1x1x128x64_2_0_0_64 (hin 2 0 64 (by decide))) $$ Hk20R
  iintro Hk20R
  iapply (kLoad c ![2, 0, 0, 0] inb_S4x2x128x256_S1x1x128x256_2_0_0_0 fullShare.right (kAll m ρ c) ![2, 0, 0, 128] S1x1x128x64.size inb_S4x2x128x256_S1x1x128x64_2_0_0_128 (hin 2 0 128 (by decide))) $$ Hk20R
  iintro Hk20R
  iapply (kLoad c ![2, 0, 0, 0] inb_S4x2x128x256_S1x1x128x256_2_0_0_0 fullShare.right (kAll m ρ c) ![2, 0, 0, 192] S1x1x128x64.size inb_S4x2x128x256_S1x1x128x64_2_0_0_192 (hin 2 0 192 (by decide))) $$ Hk20R
  iintro Hk20R
  rw [wp_ret]
  imodintro
  iapply Hk
  isplitl [HO]; · iexists _; iexact HO
  isplitl [Hk20R]; · iexact Hk20R
  iexact Hcs9

/-- Part 15 of the body. -/
theorem part15 {Q : (Σ' (v471 : FVec F S128x64 .f32), FVec F S128x64 .f32) → sProp 𝕄} (c : Dev nD) (v7 : BitVec 32) :
    iprop(records m ρ K ∗ levAts L lv ∗ Ow (F := F) c 2 ∗ cred (tallyAt ((c : Thread nD τ), .dma rS2) () N) ∗ atPos ER ((c : Thread nD τ), .dma rS2) 0 ∅ 0 ∗ vAny (nxt c) ![3, 1, 0, 0] inb_S4x2x128x256_S1x1x128x256_3_1_0_0 ∗ dutyTok ER ((c : Thread nD τ), .dma sS10) 0 false ∗ dutyTok ER (((nxt c) : Thread nD τ), .dma rS10) 0 false)
      ⊢ iprop(((Ow (F := F) c 1 ∗ atPos ER ((c : Thread nD τ), .dma rS2) (0 + 1) ∅ 0 ∗ vPt c ![1, 1, 0, 0] inb_S4x2x128x256_S1x1x128x256_1_1_0_0 fullShare.right (vAll m ρ c) ∗ cred (tallyAt ((c : Thread nD τ), .dma sS10) () N)) -∗ Q ⟨(w471 m ρ c), (w474 m ρ c)⟩) -∗ wp frame (wpE (defs₀ (F := F)) 𝒱₀ (c : Thread nD τ) none) Set.univ (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 c v7 (w376 m ρ c) (w384 m ρ c)) Q) := by
  simp only [k0_part15_eq_skeleton]; unfold k0_part15_skel
  simp only [semSignalWord, semWaitWord, Prog.lift, Prog.bind_op, Prog.bind_ret, Prog.pure_eq_ret, Prog.bind_assoc, wp_deviceId]
  simp only [rSem2, sSem10, rSem10]
  unfold w471 w474 l469 l472
  iintro ⟨#HR, #Hlev, HO, Hcr2, Har2, HD10, Hts10, Htr10⟩ Hk
  icases HO with ⟨%W, HO⟩
  iapply (dmaWait m ρ K c rS2 (by decide) (owe c 2) _ (mayWait_recv c rS2 (by decide) 2 (by decide)) (P := vPt c ![1, 1, 0, 0] inb_S4x2x128x256_S1x1x128x256_1_1_0_0 fullShare (vAll m ρ c)) rfl (src := vP ![1, 1, 0, 0] inb_S4x2x128x256_S1x1x128x256_1_1_0_0) (dst := vP ![1, 1, 0, 0] inb_S4x2x128x256_S1x1x128x256_1_1_0_0) rfl) $$ [Hcr2 HO Har2]
  · isplitr; · iexact HR
    isplitr; · iexact Hlev
    isplitl [Hcr2]; · iexact Hcr2
    isplitl [HO]; · iexact HO
    iexact Har2
  iintro ⟨HO, Har2, Hv11F⟩
  ihave Hv11F := (vCut2 m ρ c ![1, 1, 0, 0] inb_S4x2x128x256_S1x1x128x256_1_1_0_0) $$ Hv11F
  icases Hv11F with ⟨Hv11L, Hv11R⟩
  icases HD10 with ⟨%fD10, HD10⟩
  iapply (vSend m ρ K c (nxt c) (⟨k0_dev13 c, k0_dev13_lt c⟩ : Dev nD) (dev13_eq c) sS10 rS10 (by decide) (by decide) 1 3 1 inb_S4x2x128x256_S1x1x128x256_1_1_0_0 inb_S4x2x128x256_S1x1x128x256_3_1_0_0 fullShare.left (src13 c) 1 (by decide) rfl rfl rfl _ _) $$ [Hv11L HD10 HO Hts10 Htr10]
  · isplitr; · iexact HR
    isplitl [Hv11L]; · iexact Hv11L
    isplitl [HD10]; · iexact HD10
    isplitl [HO]; · iexact HO
    isplitl [Hts10]; · iexact Hts10
    iexact Htr10
  iintro ⟨Hcs10, HO⟩
  iapply (vLoad c ![1, 1, 0, 0] inb_S4x2x128x256_S1x1x128x256_1_1_0_0 fullShare.right (vAll m ρ c) ![1, 1, 0, 0] S1x1x128x64.size inb_S4x2x128x256_S1x1x128x64_1_1_0_0 (hin 1 1 0 (by decide))) $$ Hv11R
  iintro Hv11R
  iapply (vLoad c ![1, 1, 0, 0] inb_S4x2x128x256_S1x1x128x256_1_1_0_0 fullShare.right (vAll m ρ c) ![1, 1, 0, 64] S1x1x128x64.size inb_S4x2x128x256_S1x1x128x64_1_1_0_64 (hin 1 1 64 (by decide))) $$ Hv11R
  iintro Hv11R
  rw [wp_ret]
  imodintro
  iapply Hk
  isplitl [HO]; · iexists _; iexact HO
  isplitl [Har2]; · iexact Har2
  isplitl [Hv11R]; · iexact Hv11R
  iexact Hcs10

/-- Part 16 of the body. -/
theorem part16 {Q : (Σ' (v477 : FVec F S128x64 .f32), FVec F S128x64 .f32) → sProp 𝕄} (c : Dev nD) (v5 v7 : BitVec 32) :
    iprop(records m ρ K ∗ levAts L lv ∗ vPt c ![1, 1, 0, 0] inb_S4x2x128x256_S1x1x128x256_1_1_0_0 fullShare.right (vAll m ρ c) ∗ Ow (F := F) c 1 ∗ cred (tallyAt ((c : Thread nD τ), .dma rS3) () N) ∗ atPos ER ((c : Thread nD τ), .dma rS3) 0 ∅ 0 ∗ vAny (prv c) ![3, 0, 0, 0] inb_S4x2x128x256_S1x1x128x256_3_0_0_0 ∗ dutyTok ER ((c : Thread nD τ), .dma sS11) 0 false ∗ dutyTok ER (((prv c) : Thread nD τ), .dma rS11) 0 false)
      ⊢ iprop(((vPt c ![1, 1, 0, 0] inb_S4x2x128x256_S1x1x128x256_1_1_0_0 fullShare.right (vAll m ρ c) ∗ Ow (F := F) c 0 ∗ atPos ER ((c : Thread nD τ), .dma rS3) (0 + 1) ∅ 0 ∗ vPt c ![2, 0, 0, 0] inb_S4x2x128x256_S1x1x128x256_2_0_0_0 fullShare.right (vAll m ρ c) ∗ cred (tallyAt ((c : Thread nD τ), .dma sS11) () N)) -∗ Q ⟨(w477 m ρ c), (w480 m ρ c)⟩) -∗ wp frame (wpE (defs₀ (F := F)) 𝒱₀ (c : Thread nD τ) none) Set.univ (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 c v5 v7 (w392 m ρ c) (w400 m ρ c)) Q) := by
  simp only [k0_part16_eq_skeleton]; unfold k0_part16_skel
  simp only [semSignalWord, semWaitWord, Prog.lift, Prog.bind_op, Prog.bind_ret, Prog.pure_eq_ret, Prog.bind_assoc, wp_deviceId]
  simp only [rSem3, sSem11, rSem11]
  unfold w477 w480 l475 l478
  iintro ⟨#HR, #Hlev, Hv11R, HO, Hcr3, Har3, HD11, Hts11, Htr11⟩ Hk
  iapply (vLoad c ![1, 1, 0, 0] inb_S4x2x128x256_S1x1x128x256_1_1_0_0 fullShare.right (vAll m ρ c) ![1, 1, 0, 128] S1x1x128x64.size inb_S4x2x128x256_S1x1x128x64_1_1_0_128 (hin 1 1 128 (by decide))) $$ Hv11R
  iintro Hv11R
  iapply (vLoad c ![1, 1, 0, 0] inb_S4x2x128x256_S1x1x128x256_1_1_0_0 fullShare.right (vAll m ρ c) ![1, 1, 0, 192] S1x1x128x64.size inb_S4x2x128x256_S1x1x128x64_1_1_0_192 (hin 1 1 192 (by decide))) $$ Hv11R
  iintro Hv11R
  icases HO with ⟨%W, HO⟩
  iapply (dmaWait m ρ K c rS3 (by decide) (owe c 1) _ (mayWait_recv c rS3 (by decide) 1 (by decide)) (P := vPt c ![2, 0, 0, 0] inb_S4x2x128x256_S1x1x128x256_2_0_0_0 fullShare (vAll m ρ c)) rfl (src := vP ![2, 0, 0, 0] inb_S4x2x128x256_S1x1x128x256_2_0_0_0) (dst := vP ![2, 0, 0, 0] inb_S4x2x128x256_S1x1x128x256_2_0_0_0) rfl) $$ [Hcr3 HO Har3]
  · isplitr; · iexact HR
    isplitr; · iexact Hlev
    isplitl [Hcr3]; · iexact Hcr3
    isplitl [HO]; · iexact HO
    iexact Har3
  iintro ⟨HO, Har3, Hv20F⟩
  ihave Hv20F := (vCut2 m ρ c ![2, 0, 0, 0] inb_S4x2x128x256_S1x1x128x256_2_0_0_0) $$ Hv20F
  icases Hv20F with ⟨Hv20L, Hv20R⟩
  icases HD11 with ⟨%fD11, HD11⟩
  iapply (vSend m ρ K c (prv c) (⟨k0_dev14 c, k0_dev14_lt c⟩ : Dev nD) (dev14_eq c) sS11 rS11 (by decide) (by decide) 2 3 0 inb_S4x2x128x256_S1x1x128x256_2_0_0_0 inb_S4x2x128x256_S1x1x128x256_3_0_0_0 fullShare.left (src23 c) 0 (by decide) rfl rfl rfl _ _) $$ [Hv20L HD11 HO Hts11 Htr11]
  · isplitr; · iexact HR
    isplitl [Hv20L]; · iexact Hv20L
    isplitl [HD11]; · iexact HD11
    isplitl [HO]; · iexact HO
    isplitl [Hts11]; · iexact Hts11
    iexact Htr11
  iintro ⟨Hcs11, HO⟩
  rw [wp_ret]
  imodintro
  iapply Hk
  isplitl [Hv11R]; · iexact Hv11R
  isplitl [HO]; · iexists _; iexact HO
  isplitl [Har3]; · iexact Har3
  isplitl [Hv20R]; · iexact Hv20R
  iexact Hcs11

/-- Part 17 of the body. -/
theorem part17 {Q : (Σ' (v501 : FVec F S128x64 .f32) (v504 : FVec F S128x64 .f32) (v507 : FVec F S128x64 .f32) (v510 : FVec F S128x64 .f32) (v519 : FVec F S128x64 .bf16), FVec F S128x64 .bf16) → sProp 𝕄} (c : Dev nD) (v7 : BitVec 32) :
    iprop(records m ρ K ∗ levAts L lv ∗ vPt c ![2, 0, 0, 0] inb_S4x2x128x256_S1x1x128x256_2_0_0_0 fullShare.right (vAll m ρ c) ∗ Ow (F := F) c 0 ∗ cred (tallyAt ((c : Thread nD τ), .dma rS4) () N) ∗ atPos ER ((c : Thread nD τ), .dma rS4) 0 ∅ 0)
      ⊢ iprop(((vPt c ![2, 0, 0, 0] inb_S4x2x128x256_S1x1x128x256_2_0_0_0 fullShare.right (vAll m ρ c) ∗ Ow (F := F) c 0 ∗ atPos ER ((c : Thread nD τ), .dma rS4) (0 + 1) ∅ 0 ∗ kPt c ![1, 0, 0, 0] inb_S4x2x128x256_S1x1x128x256_1_0_0_0 fullShare (kAll m ρ c)) -∗ Q ⟨(w501 m ρ c), (w504 m ρ c), (w507 m ρ c), (w510 m ρ c), (w519 m ρ c), (w521 m ρ c)⟩) -∗ wp frame (wpE (defs₀ (F := F)) 𝒱₀ (c : Thread nD τ) none) Set.univ (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 v7 (w253 m ρ c) (w426 m ρ c) (w434 m ρ c) (w442 m ρ c) (w450 m ρ c)) Q) := by
  simp only [k0_part17_eq_skeleton]; unfold k0_part17_skel
  simp only [semSignalWord, semWaitWord, Prog.lift, Prog.bind_op, Prog.bind_ret, Prog.pure_eq_ret, Prog.bind_assoc, wp_deviceId]
  simp only [rSem4]
  unfold w501 w504 w507 w510 w519 w521 l499 l502 l505 l508 l520
  iintro ⟨#HR, #Hlev, Hv20R, HO, Hcr4, Har4⟩ Hk
  iapply (vLoad c ![2, 0, 0, 0] inb_S4x2x128x256_S1x1x128x256_2_0_0_0 fullShare.right (vAll m ρ c) ![2, 0, 0, 0] S1x1x128x64.size inb_S4x2x128x256_S1x1x128x64_2_0_0_0 (hin 2 0 0 (by decide))) $$ Hv20R
  iintro Hv20R
  iapply (vLoad c ![2, 0, 0, 0] inb_S4x2x128x256_S1x1x128x256_2_0_0_0 fullShare.right (vAll m ρ c) ![2, 0, 0, 64] S1x1x128x64.size inb_S4x2x128x256_S1x1x128x64_2_0_0_64 (hin 2 0 64 (by decide))) $$ Hv20R
  iintro Hv20R
  iapply (vLoad c ![2, 0, 0, 0] inb_S4x2x128x256_S1x1x128x256_2_0_0_0 fullShare.right (vAll m ρ c) ![2, 0, 0, 128] S1x1x128x64.size inb_S4x2x128x256_S1x1x128x64_2_0_0_128 (hin 2 0 128 (by decide))) $$ Hv20R
  iintro Hv20R
  iapply (vLoad c ![2, 0, 0, 0] inb_S4x2x128x256_S1x1x128x256_2_0_0_0 fullShare.right (vAll m ρ c) ![2, 0, 0, 192] S1x1x128x64.size inb_S4x2x128x256_S1x1x128x64_2_0_0_192 (hin 2 0 192 (by decide))) $$ Hv20R
  iintro Hv20R
  icases HO with ⟨%W, HO⟩
  iapply (dmaWait m ρ K c rS4 (by decide) (owe c 0) _ (mayWait_none c rS4) (P := kPt c ![1, 0, 0, 0] inb_S4x2x128x256_S1x1x128x256_1_0_0_0 fullShare (kAll m ρ c)) rfl (src := kP ![1, 0, 0, 0] inb_S4x2x128x256_S1x1x128x256_1_0_0_0) (dst := kP ![1, 0, 0, 0] inb_S4x2x128x256_S1x1x128x256_1_0_0_0) rfl) $$ [Hcr4 HO Har4]
  · isplitr; · iexact HR
    isplitr; · iexact Hlev
    isplitl [Hcr4]; · iexact Hcr4
    isplitl [HO]; · iexact HO
    iexact Har4
  iintro ⟨HO, Har4, Hk10F⟩
  iapply (kLoad c ![1, 0, 0, 0] inb_S4x2x128x256_S1x1x128x256_1_0_0_0 fullShare (kAll m ρ c) ![1, 0, 0, 0] S1x1x128x64.size inb_S4x2x128x256_S1x1x128x64_1_0_0_0 (hin 1 0 0 (by decide))) $$ Hk10F
  iintro Hk10F
  rw [wp_ret]
  imodintro
  iapply Hk
  isplitl [Hv20R]; · iexact Hv20R
  isplitl [HO]; · iexists _; iexact HO
  isplitl [Har4]; · iexact Har4
  iexact Hk10F

/-- Part 18 of the body. -/
theorem part18 {Q : (Σ' (v525 : FVec F S128x1 .f32) (v526 : FVec F S128x128 .bf16) (v533 : FVec F S128x1 .f32) (v534 : FVec F S128x128 .bf16) (v541 : FVec F S128x1 .f32) (v542 : FVec F S128x128 .bf16) (v549 : FVec F S128x1 .f32), FVec F S128x128 .bf16) → sProp 𝕄} (c : Dev nD) (v7 : BitVec 32) :
    iprop(records m ρ K ∗ levAts L lv ∗ kPt c ![1, 0, 0, 0] inb_S4x2x128x256_S1x1x128x256_1_0_0_0 fullShare (kAll m ρ c))
      ⊢ iprop(((kPt c ![1, 0, 0, 0] inb_S4x2x128x256_S1x1x128x256_1_0_0_0 fullShare (kAll m ρ c)) -∗ Q ⟨(w525 m ρ c), (w526 m ρ c), (w533 m ρ c), (w534 m ρ c), (w541 m ρ c), (w542 m ρ c), (w549 m ρ c), (w550 m ρ c)⟩) -∗ wp frame (wpE (defs₀ (F := F)) 𝒱₀ (c : Thread nD τ) none) Set.univ (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 v7 (w253 m ρ c) (w519 m ρ c) (w521 m ρ c)) Q) := by
  simp only [k0_part18_eq_skeleton]; unfold k0_part18_skel
  simp only [semSignalWord, semWaitWord, Prog.lift, Prog.bind_op, Prog.bind_ret, Prog.pure_eq_ret, Prog.bind_assoc, wp_deviceId]
  unfold w525 w526 w533 w534 w541 w542 w549 w550 l528 l536 l544
  iintro ⟨#HR, #Hlev, Hk10F⟩ Hk
  iapply (kLoad c ![1, 0, 0, 0] inb_S4x2x128x256_S1x1x128x256_1_0_0_0 fullShare (kAll m ρ c) ![1, 0, 0, 64] S1x1x128x64.size inb_S4x2x128x256_S1x1x128x64_1_0_0_64 (hin 1 0 64 (by decide))) $$ Hk10F
  iintro Hk10F
  iapply (kLoad c ![1, 0, 0, 0] inb_S4x2x128x256_S1x1x128x256_1_0_0_0 fullShare (kAll m ρ c) ![1, 0, 0, 128] S1x1x128x64.size inb_S4x2x128x256_S1x1x128x64_1_0_0_128 (hin 1 0 128 (by decide))) $$ Hk10F
  iintro Hk10F
  iapply (kLoad c ![1, 0, 0, 0] inb_S4x2x128x256_S1x1x128x256_1_0_0_0 fullShare (kAll m ρ c) ![1, 0, 0, 192] S1x1x128x64.size inb_S4x2x128x256_S1x1x128x64_1_0_0_192 (hin 1 0 192 (by decide))) $$ Hk10F
  iintro Hk10F
  rw [wp_ret]
  imodintro
  iapply Hk
  iexact Hk10F

/-- Part 19 of the body. -/
theorem part19 {Q : (Σ' (v565 : FVec F S128x1 .f32) (v566 : FVec F S128x128 .bf16) (v573 : FVec F S128x1 .f32) (v574 : FVec F S128x128 .bf16) (v581 : FVec F S128x1 .f32) (v582 : FVec F S128x128 .bf16) (v583 : FVec F S128x64 .bf16) (v585 : FVec F S128x64 .bf16), FVec F S128x128 .f32) → sProp 𝕄} (c : Dev nD) :
    iprop(records m ρ K ∗ levAts L lv ∗ Ow (F := F) c 0 ∗ cred (tallyAt ((c : Thread nD τ), .dma rS5) () N) ∗ atPos ER ((c : Thread nD τ), .dma rS5) 0 ∅ 0)
      ⊢ iprop(((Ow (F := F) c 0 ∗ atPos ER ((c : Thread nD τ), .dma rS5) (0 + 1) ∅ 0 ∗ kPt c ![2, 1, 0, 0] inb_S4x2x128x256_S1x1x128x256_2_1_0_0 fullShare (kAll m ρ c)) -∗ Q ⟨(w565 m ρ c), (w566 m ρ c), (w573 m ρ c), (w574 m ρ c), (w581 m ρ c), (w582 m ρ c), (w583 m ρ c), (w585 m ρ c), (constant S128x128 .f32 0x00000000#32)⟩) -∗ wp frame (wpE (defs₀ (F := F)) 𝒱₀ (c : Thread nD τ) none) Set.univ (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 (w262 m ρ c)) Q) := by
  simp only [k0_part19_eq_skeleton]; unfold k0_part19_skel
  simp only [semSignalWord, semWaitWord, Prog.lift, Prog.bind_op, Prog.bind_ret, Prog.pure_eq_ret, Prog.bind_assoc, wp_deviceId]
  simp only [rSem5]
  unfold w565 w566 w573 w574 w581 w582 w583 w585 l560 l568 l576 l584
  iintro ⟨#HR, #Hlev, HO, Hcr5, Har5⟩ Hk
  icases HO with ⟨%W, HO⟩
  iapply (dmaWait m ρ K c rS5 (by decide) (owe c 0) _ (mayWait_none c rS5) (P := kPt c ![2, 1, 0, 0] inb_S4x2x128x256_S1x1x128x256_2_1_0_0 fullShare (kAll m ρ c)) rfl (src := kP ![2, 1, 0, 0] inb_S4x2x128x256_S1x1x128x256_2_1_0_0) (dst := kP ![2, 1, 0, 0] inb_S4x2x128x256_S1x1x128x256_2_1_0_0) rfl) $$ [Hcr5 HO Har5]
  · isplitr; · iexact HR
    isplitr; · iexact Hlev
    isplitl [Hcr5]; · iexact Hcr5
    isplitl [HO]; · iexact HO
    iexact Har5
  iintro ⟨HO, Har5, Hk21F⟩
  iapply (kLoad c ![2, 1, 0, 0] inb_S4x2x128x256_S1x1x128x256_2_1_0_0 fullShare (kAll m ρ c) ![2, 1, 0, 0] S1x1x128x64.size inb_S4x2x128x256_S1x1x128x64_2_1_0_0 (hin 2 1 0 (by decide))) $$ Hk21F
  iintro Hk21F
  iapply (kLoad c ![2, 1, 0, 0] inb_S4x2x128x256_S1x1x128x256_2_1_0_0 fullShare (kAll m ρ c) ![2, 1, 0, 64] S1x1x128x64.size inb_S4x2x128x256_S1x1x128x64_2_1_0_64 (hin 2 1 64 (by decide))) $$ Hk21F
  iintro Hk21F
  iapply (kLoad c ![2, 1, 0, 0] inb_S4x2x128x256_S1x1x128x256_2_1_0_0 fullShare (kAll m ρ c) ![2, 1, 0, 128] S1x1x128x64.size inb_S4x2x128x256_S1x1x128x64_2_1_0_128 (hin 2 1 128 (by decide))) $$ Hk21F
  iintro Hk21F
  iapply (kLoad c ![2, 1, 0, 0] inb_S4x2x128x256_S1x1x128x256_2_1_0_0 fullShare (kAll m ρ c) ![2, 1, 0, 192] S1x1x128x64.size inb_S4x2x128x256_S1x1x128x64_2_1_0_192 (hin 2 1 192 (by decide))) $$ Hk21F
  iintro Hk21F
  rw [wp_ret]
  imodintro
  iapply Hk
  isplitl [HO]; · iexists _; iexact HO
  isplitl [Har5]; · iexact Har5
  iexact Hk21F

/-- Part 20 of the body. -/
theorem part20 {Q : (Σ' (v589 : FVec F S128x1 .f32) (v590 : FVec F S128x128 .bf16) (v601 : FVec F S128x64 .f32) (v604 : FVec F S128x64 .f32) (v607 : FVec F S128x64 .f32), FVec F S128x64 .f32) → sProp 𝕄} (c : Dev nD) (v7 : BitVec 32) :
    iprop(records m ρ K ∗ levAts L lv ∗ Ow (F := F) c 0 ∗ cred (tallyAt ((c : Thread nD τ), .dma rS6) () N) ∗ atPos ER ((c : Thread nD τ), .dma rS6) 0 ∅ 0)
      ⊢ iprop(((Ow (F := F) c 0 ∗ atPos ER ((c : Thread nD τ), .dma rS6) (0 + 1) ∅ 0 ∗ vPt c ![1, 0, 0, 0] inb_S4x2x128x256_S1x1x128x256_1_0_0_0 fullShare (vAll m ρ c)) -∗ Q ⟨(w589 m ρ c), (w590 m ρ c), (w601 m ρ c), (w604 m ρ c), (w607 m ρ c), (w610 m ρ c)⟩) -∗ wp frame (wpE (defs₀ (F := F)) 𝒱₀ (c : Thread nD τ) none) Set.univ (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 v7 (w526 m ρ c) (w534 m ρ c) (w542 m ρ c) (w550 m ρ c) (w583 m ρ c) (w585 m ρ c) (constant S128x128 .f32 0x00000000#32)) Q) := by
  simp only [k0_part20_eq_skeleton]; unfold k0_part20_skel
  simp only [semSignalWord, semWaitWord, Prog.lift, Prog.bind_op, Prog.bind_ret, Prog.pure_eq_ret, Prog.bind_assoc, wp_deviceId]
  simp only [rSem6]
  unfold w589 w590 w601 w604 w607 w610 l599 l602 l605 l608
  iintro ⟨#HR, #Hlev, HO, Hcr6, Har6⟩ Hk
  icases HO with ⟨%W, HO⟩
  iapply (dmaWait m ρ K c rS6 (by decide) (owe c 0) _ (mayWait_none c rS6) (P := vPt c ![1, 0, 0, 0] inb_S4x2x128x256_S1x1x128x256_1_0_0_0 fullShare (vAll m ρ c)) rfl (src := vP ![1, 0, 0, 0] inb_S4x2x128x256_S1x1x128x256_1_0_0_0) (dst := vP ![1, 0, 0, 0] inb_S4x2x128x256_S1x1x128x256_1_0_0_0) rfl) $$ [Hcr6 HO Har6]
  · isplitr; · iexact HR
    isplitr; · iexact Hlev
    isplitl [Hcr6]; · iexact Hcr6
    isplitl [HO]; · iexact HO
    iexact Har6
  iintro ⟨HO, Har6, Hv10F⟩
  iapply (vLoad c ![1, 0, 0, 0] inb_S4x2x128x256_S1x1x128x256_1_0_0_0 fullShare (vAll m ρ c) ![1, 0, 0, 0] S1x1x128x64.size inb_S4x2x128x256_S1x1x128x64_1_0_0_0 (hin 1 0 0 (by decide))) $$ Hv10F
  iintro Hv10F
  iapply (vLoad c ![1, 0, 0, 0] inb_S4x2x128x256_S1x1x128x256_1_0_0_0 fullShare (vAll m ρ c) ![1, 0, 0, 64] S1x1x128x64.size inb_S4x2x128x256_S1x1x128x64_1_0_0_64 (hin 1 0 64 (by decide))) $$ Hv10F
  iintro Hv10F
  iapply (vLoad c ![1, 0, 0, 0] inb_S4x2x128x256_S1x1x128x256_1_0_0_0 fullShare (vAll m ρ c) ![1, 0, 0, 128] S1x1x128x64.size inb_S4x2x128x256_S1x1x128x64_1_0_0_128 (hin 1 0 128 (by decide))) $$ Hv10F
  iintro Hv10F
  iapply (vLoad c ![1, 0, 0, 0] inb_S4x2x128x256_S1x1x128x256_1_0_0_0 fullShare (vAll m ρ c) ![1, 0, 0, 192] S1x1x128x64.size inb_S4x2x128x256_S1x1x128x64_1_0_0_192 (hin 1 0 192 (by decide))) $$ Hv10F
  iintro Hv10F
  rw [wp_ret]
  imodintro
  iapply Hk
  isplitl [HO]; · iexists _; iexact HO
  isplitl [Har6]; · iexact Har6
  iexact Hv10F

/-- Part 21 of the body. -/
theorem part21 {Q : (Σ' (v621 : FVec F S128x64 .f32) (v624 : FVec F S128x64 .f32) (v627 : FVec F S128x64 .f32) (v630 : FVec F S128x64 .f32), BitVec 32) → sProp 𝕄} (c : Dev nD) (v7 : BitVec 32) :
    iprop(records m ρ K ∗ levAts L lv ∗ Ow (F := F) c 0 ∗ cred (tallyAt ((c : Thread nD τ), .dma rS7) () N) ∗ atPos ER ((c : Thread nD τ), .dma rS7) 0 ∅ 0)
      ⊢ iprop(((Ow (F := F) c 0 ∗ atPos ER ((c : Thread nD τ), .dma rS7) (0 + 1) ∅ 0 ∗ vPt c ![2, 1, 0, 0] inb_S4x2x128x256_S1x1x128x256_2_1_0_0 fullShare (vAll m ρ c)) -∗ Q ⟨(w621 m ρ c), (w624 m ρ c), (w627 m ρ c), (w630 m ρ c), Scalar.muli v7 1#32⟩) -∗ wp frame (wpE (defs₀ (F := F)) 𝒱₀ (c : Thread nD τ) none) Set.univ (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 v7 (w566 m ρ c) (w574 m ρ c) (w582 m ρ c) (w590 m ρ c)) Q) := by
  simp only [k0_part21_eq_skeleton]; unfold k0_part21_skel
  simp only [semSignalWord, semWaitWord, Prog.lift, Prog.bind_op, Prog.bind_ret, Prog.pure_eq_ret, Prog.bind_assoc, wp_deviceId]
  simp only [rSem7]
  unfold w621 w624 w627 w630 l619 l622 l625 l628
  iintro ⟨#HR, #Hlev, HO, Hcr7, Har7⟩ Hk
  icases HO with ⟨%W, HO⟩
  iapply (dmaWait m ρ K c rS7 (by decide) (owe c 0) _ (mayWait_none c rS7) (P := vPt c ![2, 1, 0, 0] inb_S4x2x128x256_S1x1x128x256_2_1_0_0 fullShare (vAll m ρ c)) rfl (src := vP ![2, 1, 0, 0] inb_S4x2x128x256_S1x1x128x256_2_1_0_0) (dst := vP ![2, 1, 0, 0] inb_S4x2x128x256_S1x1x128x256_2_1_0_0) rfl) $$ [Hcr7 HO Har7]
  · isplitr; · iexact HR
    isplitr; · iexact Hlev
    isplitl [Hcr7]; · iexact Hcr7
    isplitl [HO]; · iexact HO
    iexact Har7
  iintro ⟨HO, Har7, Hv21F⟩
  iapply (vLoad c ![2, 1, 0, 0] inb_S4x2x128x256_S1x1x128x256_2_1_0_0 fullShare (vAll m ρ c) ![2, 1, 0, 0] S1x1x128x64.size inb_S4x2x128x256_S1x1x128x64_2_1_0_0 (hin 2 1 0 (by decide))) $$ Hv21F
  iintro Hv21F
  iapply (vLoad c ![2, 1, 0, 0] inb_S4x2x128x256_S1x1x128x256_2_1_0_0 fullShare (vAll m ρ c) ![2, 1, 0, 64] S1x1x128x64.size inb_S4x2x128x256_S1x1x128x64_2_1_0_64 (hin 2 1 64 (by decide))) $$ Hv21F
  iintro Hv21F
  iapply (vLoad c ![2, 1, 0, 0] inb_S4x2x128x256_S1x1x128x256_2_1_0_0 fullShare (vAll m ρ c) ![2, 1, 0, 128] S1x1x128x64.size inb_S4x2x128x256_S1x1x128x64_2_1_0_128 (hin 2 1 128 (by decide))) $$ Hv21F
  iintro Hv21F
  iapply (vLoad c ![2, 1, 0, 0] inb_S4x2x128x256_S1x1x128x256_2_1_0_0 fullShare (vAll m ρ c) ![2, 1, 0, 192] S1x1x128x64.size inb_S4x2x128x256_S1x1x128x64_2_1_0_192 (hin 2 1 192 (by decide))) $$ Hv21F
  iintro Hv21F
  rw [wp_ret]
  imodintro
  iapply Hk
  isplitl [HO]; · iexists _; iexact HO
  isplitl [Har7]; · iexact Har7
  iexact Hv21F

/-- Part 22 of the body. -/
theorem part22 {Q : (Σ' (v645 : FVec F S128x1 .f32) (v646 : FVec F S128x128 .bf16) (v653 : FVec F S128x1 .f32) (v654 : FVec F S128x128 .bf16) (v661 : FVec F S128x1 .f32) (v662 : FVec F S128x128 .bf16), FVec F S128x64 .bf16) → sProp 𝕄} (c : Dev nD) (v631 : BitVec 32) :
    iprop(records m ρ K ∗ levAts L lv ∗ Ow (F := F) c 0 ∗ cred (tallyAt ((c : Thread nD τ), .dma rS8) () N) ∗ atPos ER ((c : Thread nD τ), .dma rS8) 0 ∅ 0)
      ⊢ iprop(((Ow (F := F) c 0 ∗ atPos ER ((c : Thread nD τ), .dma rS8) (0 + 1) ∅ 0 ∗ kPt c ![3, 1, 0, 0] inb_S4x2x128x256_S1x1x128x256_3_1_0_0 fullShare (kAll m ρ c)) -∗ Q ⟨(w645 m ρ c), (w646 m ρ c), (w653 m ρ c), (w654 m ρ c), (w661 m ρ c), (w662 m ρ c), (w663 m ρ c)⟩) -∗ wp frame (wpE (defs₀ (F := F)) 𝒱₀ (c : Thread nD τ) none) Set.univ (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 (w262 m ρ c) v631) Q) := by
  simp only [k0_part22_eq_skeleton]; unfold k0_part22_skel
  simp only [semSignalWord, semWaitWord, Prog.lift, Prog.bind_op, Prog.bind_ret, Prog.pure_eq_ret, Prog.bind_assoc, wp_deviceId]
  simp only [rSem8]
  unfold w645 w646 w653 w654 w661 w662 w663 l640 l648 l656
  iintro ⟨#HR, #Hlev, HO, Hcr8, Har8⟩ Hk
  icases HO with ⟨%W, HO⟩
  iapply (dmaWait m ρ K c rS8 (by decide) (owe c 0) _ (mayWait_none c rS8) (P := kPt c ![3, 1, 0, 0] inb_S4x2x128x256_S1x1x128x256_3_1_0_0 fullShare (kAll m ρ c)) rfl (src := kP ![3, 1, 0, 0] inb_S4x2x128x256_S1x1x128x256_3_1_0_0) (dst := kP ![3, 1, 0, 0] inb_S4x2x128x256_S1x1x128x256_3_1_0_0) rfl) $$ [Hcr8 HO Har8]
  · isplitr; · iexact HR
    isplitr; · iexact Hlev
    isplitl [Hcr8]; · iexact Hcr8
    isplitl [HO]; · iexact HO
    iexact Har8
  iintro ⟨HO, Har8, Hk31F⟩
  iapply (kLoad c ![3, 1, 0, 0] inb_S4x2x128x256_S1x1x128x256_3_1_0_0 fullShare (kAll m ρ c) ![3, 1, 0, 0] S1x1x128x64.size inb_S4x2x128x256_S1x1x128x64_3_1_0_0 (hin 3 1 0 (by decide))) $$ Hk31F
  iintro Hk31F
  iapply (kLoad c ![3, 1, 0, 0] inb_S4x2x128x256_S1x1x128x256_3_1_0_0 fullShare (kAll m ρ c) ![3, 1, 0, 64] S1x1x128x64.size inb_S4x2x128x256_S1x1x128x64_3_1_0_64 (hin 3 1 64 (by decide))) $$ Hk31F
  iintro Hk31F
  iapply (kLoad c ![3, 1, 0, 0] inb_S4x2x128x256_S1x1x128x256_3_1_0_0 fullShare (kAll m ρ c) ![3, 1, 0, 128] S1x1x128x64.size inb_S4x2x128x256_S1x1x128x64_3_1_0_128 (hin 3 1 128 (by decide))) $$ Hk31F
  iintro Hk31F
  rw [wp_ret]
  imodintro
  iapply Hk
  isplitl [HO]; · iexists _; iexact HO
  isplitl [Har8]; · iexact Har8
  iexact Hk31F

/-- Part 23 of the body. -/
theorem part23 {Q : (Σ' (v669 : FVec F S128x1 .f32) (v670 : FVec F S128x128 .bf16) (v685 : FVec F S128x1 .f32) (v686 : FVec F S128x128 .bf16) (v693 : FVec F S128x1 .f32) (v694 : FVec F S128x128 .bf16), FVec F S128x64 .bf16) → sProp 𝕄} (c : Dev nD) (v7 : BitVec 32) :
    iprop(records m ρ K ∗ levAts L lv ∗ kPt c ![3, 1, 0, 0] inb_S4x2x128x256_S1x1x128x256_3_1_0_0 fullShare (kAll m ρ c) ∗ Ow (F := F) c 0 ∗ cred (tallyAt ((c : Thread nD τ), .dma rS9) () N) ∗ atPos ER ((c : Thread nD τ), .dma rS9) 0 ∅ 0)
      ⊢ iprop(((kPt c ![3, 1, 0, 0] inb_S4x2x128x256_S1x1x128x256_3_1_0_0 fullShare (kAll m ρ c) ∗ Ow (F := F) c 0 ∗ atPos ER ((c : Thread nD τ), .dma rS9) (0 + 1) ∅ 0 ∗ kPt c ![3, 0, 0, 0] inb_S4x2x128x256_S1x1x128x256_3_0_0_0 fullShare (kAll m ρ c)) -∗ Q ⟨(w669 m ρ c), (w670 m ρ c), (w685 m ρ c), (w686 m ρ c), (w693 m ρ c), (w694 m ρ c), (w695 m ρ c)⟩) -∗ wp frame (wpE (defs₀ (F := F)) 𝒱₀ (c : Thread nD τ) none) Set.univ (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 v7 (w253 m ρ c) (w663 m ρ c)) Q) := by
  simp only [k0_part23_eq_skeleton]; unfold k0_part23_skel
  simp only [semSignalWord, semWaitWord, Prog.lift, Prog.bind_op, Prog.bind_ret, Prog.pure_eq_ret, Prog.bind_assoc, wp_deviceId]
  simp only [rSem9]
  unfold w669 w670 w685 w686 w693 w694 w695 l664 l680 l688
  iintro ⟨#HR, #Hlev, Hk31F, HO, Hcr9, Har9⟩ Hk
  iapply (kLoad c ![3, 1, 0, 0] inb_S4x2x128x256_S1x1x128x256_3_1_0_0 fullShare (kAll m ρ c) ![3, 1, 0, 192] S1x1x128x64.size inb_S4x2x128x256_S1x1x128x64_3_1_0_192 (hin 3 1 192 (by decide))) $$ Hk31F
  iintro Hk31F
  icases HO with ⟨%W, HO⟩
  iapply (dmaWait m ρ K c rS9 (by decide) (owe c 0) _ (mayWait_none c rS9) (P := kPt c ![3, 0, 0, 0] inb_S4x2x128x256_S1x1x128x256_3_0_0_0 fullShare (kAll m ρ c)) rfl (src := kP ![3, 0, 0, 0] inb_S4x2x128x256_S1x1x128x256_3_0_0_0) (dst := kP ![3, 0, 0, 0] inb_S4x2x128x256_S1x1x128x256_3_0_0_0) rfl) $$ [Hcr9 HO Har9]
  · isplitr; · iexact HR
    isplitr; · iexact Hlev
    isplitl [Hcr9]; · iexact Hcr9
    isplitl [HO]; · iexact HO
    iexact Har9
  iintro ⟨HO, Har9, Hk30F⟩
  iapply (kLoad c ![3, 0, 0, 0] inb_S4x2x128x256_S1x1x128x256_3_0_0_0 fullShare (kAll m ρ c) ![3, 0, 0, 0] S1x1x128x64.size inb_S4x2x128x256_S1x1x128x64_3_0_0_0 (hin 3 0 0 (by decide))) $$ Hk30F
  iintro Hk30F
  iapply (kLoad c ![3, 0, 0, 0] inb_S4x2x128x256_S1x1x128x256_3_0_0_0 fullShare (kAll m ρ c) ![3, 0, 0, 64] S1x1x128x64.size inb_S4x2x128x256_S1x1x128x64_3_0_0_64 (hin 3 0 64 (by decide))) $$ Hk30F
  iintro Hk30F
  rw [wp_ret]
  imodintro
  iapply Hk
  isplitl [Hk31F]; · iexact Hk31F
  isplitl [HO]; · iexists _; iexact HO
  isplitl [Har9]; · iexact Har9
  iexact Hk30F

/-- Part 24 of the body. -/
theorem part24 {Q : (Σ' (v701 : FVec F S128x1 .f32) (v702 : FVec F S128x128 .bf16) (v709 : FVec F S128x1 .f32) (v710 : FVec F S128x128 .bf16) (v721 : FVec F S128x64 .f32), Vec F S1x1x128x64 .bf16) → sProp 𝕄} (c : Dev nD) (v7 : BitVec 32) :
    iprop(records m ρ K ∗ levAts L lv ∗ kPt c ![3, 0, 0, 0] inb_S4x2x128x256_S1x1x128x256_3_0_0_0 fullShare (kAll m ρ c) ∗ Ow (F := F) c 0 ∗ cred (tallyAt ((c : Thread nD τ), .dma rS10) () N) ∗ atPos ER ((c : Thread nD τ), .dma rS10) 0 ∅ 0)
      ⊢ iprop(((kPt c ![3, 0, 0, 0] inb_S4x2x128x256_S1x1x128x256_3_0_0_0 fullShare (kAll m ρ c) ∗ Ow (F := F) c 0 ∗ atPos ER ((c : Thread nD τ), .dma rS10) (0 + 1) ∅ 0 ∗ vPt c ![3, 1, 0, 0] inb_S4x2x128x256_S1x1x128x256_3_1_0_0 fullShare (vAll m ρ c)) -∗ Q ⟨(w701 m ρ c), (w702 m ρ c), (w709 m ρ c), (w710 m ρ c), (w721 m ρ c), (l722 m ρ c)⟩) -∗ wp frame (wpE (defs₀ (F := F)) 𝒱₀ (c : Thread nD τ) none) Set.univ (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 v7 (w253 m ρ c) (w646 m ρ c) (w695 m ρ c)) Q) := by
  simp only [k0_part24_eq_skeleton]; unfold k0_part24_skel
  simp only [semSignalWord, semWaitWord, Prog.lift, Prog.bind_op, Prog.bind_ret, Prog.pure_eq_ret, Prog.bind_assoc, wp_deviceId]
  simp only [rSem10]
  unfold w701 w702 w709 w710 w721 l696 l704 l719 l722
  iintro ⟨#HR, #Hlev, Hk30F, HO, Hcr10, Har10⟩ Hk
  iapply (kLoad c ![3, 0, 0, 0] inb_S4x2x128x256_S1x1x128x256_3_0_0_0 fullShare (kAll m ρ c) ![3, 0, 0, 128] S1x1x128x64.size inb_S4x2x128x256_S1x1x128x64_3_0_0_128 (hin 3 0 128 (by decide))) $$ Hk30F
  iintro Hk30F
  iapply (kLoad c ![3, 0, 0, 0] inb_S4x2x128x256_S1x1x128x256_3_0_0_0 fullShare (kAll m ρ c) ![3, 0, 0, 192] S1x1x128x64.size inb_S4x2x128x256_S1x1x128x64_3_0_0_192 (hin 3 0 192 (by decide))) $$ Hk30F
  iintro Hk30F
  icases HO with ⟨%W, HO⟩
  iapply (dmaWait m ρ K c rS10 (by decide) (owe c 0) _ (mayWait_none c rS10) (P := vPt c ![3, 1, 0, 0] inb_S4x2x128x256_S1x1x128x256_3_1_0_0 fullShare (vAll m ρ c)) rfl (src := vP ![3, 1, 0, 0] inb_S4x2x128x256_S1x1x128x256_3_1_0_0) (dst := vP ![3, 1, 0, 0] inb_S4x2x128x256_S1x1x128x256_3_1_0_0) rfl) $$ [Hcr10 HO Har10]
  · isplitr; · iexact HR
    isplitr; · iexact Hlev
    isplitl [Hcr10]; · iexact Hcr10
    isplitl [HO]; · iexact HO
    iexact Har10
  iintro ⟨HO, Har10, Hv31F⟩
  iapply (vLoad c ![3, 1, 0, 0] inb_S4x2x128x256_S1x1x128x256_3_1_0_0 fullShare (vAll m ρ c) ![3, 1, 0, 0] S1x1x128x64.size inb_S4x2x128x256_S1x1x128x64_3_1_0_0 (hin 3 1 0 (by decide))) $$ Hv31F
  iintro Hv31F
  iapply (vLoad c ![3, 1, 0, 0] inb_S4x2x128x256_S1x1x128x256_3_1_0_0 fullShare (vAll m ρ c) ![3, 1, 0, 64] S1x1x128x64.size inb_S4x2x128x256_S1x1x128x64_3_1_0_64 (hin 3 1 64 (by decide))) $$ Hv31F
  iintro Hv31F
  rw [wp_ret]
  imodintro
  iapply Hk
  isplitl [Hk30F]; · iexact Hk30F
  isplitl [HO]; · iexists _; iexact HO
  isplitl [Har10]; · iexact Har10
  iexact Hv31F

/-- Part 25 of the body. -/
theorem part25 {Q : (Σ' (v724 : FVec F S128x64 .f32) (v727 : FVec F S128x64 .f32) (v730 : FVec F S128x64 .f32) (v741 : FVec F S128x64 .f32), FVec F S128x64 .f32) → sProp 𝕄} (c : Dev nD) (v7 : BitVec 32) :
    iprop(records m ρ K ∗ levAts L lv ∗ vPt c ![3, 1, 0, 0] inb_S4x2x128x256_S1x1x128x256_3_1_0_0 fullShare (vAll m ρ c) ∗ Ow (F := F) c 0 ∗ cred (tallyAt ((c : Thread nD τ), .dma rS11) () N) ∗ atPos ER ((c : Thread nD τ), .dma rS11) 0 ∅ 0)
      ⊢ iprop(((vPt c ![3, 1, 0, 0] inb_S4x2x128x256_S1x1x128x256_3_1_0_0 fullShare (vAll m ρ c) ∗ Ow (F := F) c 0 ∗ atPos ER ((c : Thread nD τ), .dma rS11) (0 + 1) ∅ 0 ∗ vPt c ![3, 0, 0, 0] inb_S4x2x128x256_S1x1x128x256_3_0_0_0 fullShare (vAll m ρ c)) -∗ Q ⟨(w724 m ρ c), (w727 m ρ c), (w730 m ρ c), (w741 m ρ c), (w744 m ρ c)⟩) -∗ wp frame (wpE (defs₀ (F := F)) 𝒱₀ (c : Thread nD τ) none) Set.univ (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 v7 (w654 m ρ c) (w662 m ρ c) (w670 m ρ c) (w686 m ρ c) (w694 m ρ c) (l722 m ρ c)) Q) := by
  simp only [k0_part25_eq_skeleton]; unfold k0_part25_skel
  simp only [semSignalWord, semWaitWord, Prog.lift, Prog.bind_op, Prog.bind_ret, Prog.pure_eq_ret, Prog.bind_assoc, wp_deviceId]
  simp only [rSem11]
  unfold w724 w727 w730 w741 w744 l725 l728 l739 l742
  iintro ⟨#HR, #Hlev, Hv31F, HO, Hcr11, Har11⟩ Hk
  iapply (vLoad c ![3, 1, 0, 0] inb_S4x2x128x256_S1x1x128x256_3_1_0_0 fullShare (vAll m ρ c) ![3, 1, 0, 128] S1x1x128x64.size inb_S4x2x128x256_S1x1x128x64_3_1_0_128 (hin 3 1 128 (by decide))) $$ Hv31F
  iintro Hv31F
  iapply (vLoad c ![3, 1, 0, 0] inb_S4x2x128x256_S1x1x128x256_3_1_0_0 fullShare (vAll m ρ c) ![3, 1, 0, 192] S1x1x128x64.size inb_S4x2x128x256_S1x1x128x64_3_1_0_192 (hin 3 1 192 (by decide))) $$ Hv31F
  iintro Hv31F
  icases HO with ⟨%W, HO⟩
  iapply (dmaWait m ρ K c rS11 (by decide) (owe c 0) _ (mayWait_none c rS11) (P := vPt c ![3, 0, 0, 0] inb_S4x2x128x256_S1x1x128x256_3_0_0_0 fullShare (vAll m ρ c)) rfl (src := vP ![3, 0, 0, 0] inb_S4x2x128x256_S1x1x128x256_3_0_0_0) (dst := vP ![3, 0, 0, 0] inb_S4x2x128x256_S1x1x128x256_3_0_0_0) rfl) $$ [Hcr11 HO Har11]
  · isplitr; · iexact HR
    isplitr; · iexact Hlev
    isplitl [Hcr11]; · iexact Hcr11
    isplitl [HO]; · iexact HO
    iexact Har11
  iintro ⟨HO, Har11, Hv30F⟩
  iapply (vLoad c ![3, 0, 0, 0] inb_S4x2x128x256_S1x1x128x256_3_0_0_0 fullShare (vAll m ρ c) ![3, 0, 0, 0] S1x1x128x64.size inb_S4x2x128x256_S1x1x128x64_3_0_0_0 (hin 3 0 0 (by decide))) $$ Hv30F
  iintro Hv30F
  iapply (vLoad c ![3, 0, 0, 0] inb_S4x2x128x256_S1x1x128x256_3_0_0_0 fullShare (vAll m ρ c) ![3, 0, 0, 64] S1x1x128x64.size inb_S4x2x128x256_S1x1x128x64_3_0_0_64 (hin 3 0 64 (by decide))) $$ Hv30F
  iintro Hv30F
  rw [wp_ret]
  imodintro
  iapply Hk
  isplitl [Hv31F]; · iexact Hv31F
  isplitl [HO]; · iexists _; iexact HO
  isplitl [Har11]; · iexact Har11
  iexact Hv30F

/-- Part 26 of the body. -/
theorem part26 {Q : (Σ' (v747 : FVec F S128x64 .f32), FVec F S128x64 .f32) → sProp 𝕄} (c : Dev nD) :
    iprop(records m ρ K ∗ levAts L lv ∗ vPt c ![3, 0, 0, 0] inb_S4x2x128x256_S1x1x128x256_3_0_0_0 fullShare (vAll m ρ c) ∗ Ow (F := F) c 0 ∗ cred (tallyAt ((c : Thread nD τ), .dma sS0) () N) ∗ atPos ER ((c : Thread nD τ), .dma sS0) 0 ∅ 0 ∗ cred (tallyAt ((c : Thread nD τ), .dma sS1) () N) ∗ atPos ER ((c : Thread nD τ), .dma sS1) 0 ∅ 0)
      ⊢ iprop(((vPt c ![3, 0, 0, 0] inb_S4x2x128x256_S1x1x128x256_3_0_0_0 fullShare (vAll m ρ c) ∗ Ow (F := F) c 0 ∗ atPos ER ((c : Thread nD τ), .dma sS0) (0 + 1) ∅ 0 ∗ kPt c ![0, 1, 0, 0] inb_S4x2x128x256_S1x1x128x256_0_1_0_0 fullShare.left (kAll m ρ c) ∗ atPos ER ((c : Thread nD τ), .dma sS1) (0 + 1) ∅ 0 ∗ kPt c ![0, 0, 0, 0] inb_S4x2x128x256_S1x1x128x256_0_0_0_0 fullShare.left (kAll m ρ c)) -∗ Q ⟨(w747 m ρ c), (w750 m ρ c)⟩) -∗ wp frame (wpE (defs₀ (F := F)) 𝒱₀ (c : Thread nD τ) none) Set.univ (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 (w702 m ρ c) (w710 m ρ c)) Q) := by
  simp only [k0_part26_eq_skeleton]; unfold k0_part26_skel
  simp only [semSignalWord, semWaitWord, Prog.lift, Prog.bind_op, Prog.bind_ret, Prog.pure_eq_ret, Prog.bind_assoc, wp_deviceId]
  simp only [sSem0, sSem1]
  unfold w747 w750 l745 l748
  iintro ⟨#HR, #Hlev, Hv30F, HO, Hcs0, Has0, Hcs1, Has1⟩ Hk
  iapply (vLoad c ![3, 0, 0, 0] inb_S4x2x128x256_S1x1x128x256_3_0_0_0 fullShare (vAll m ρ c) ![3, 0, 0, 128] S1x1x128x64.size inb_S4x2x128x256_S1x1x128x64_3_0_0_128 (hin 3 0 128 (by decide))) $$ Hv30F
  iintro Hv30F
  iapply (vLoad c ![3, 0, 0, 0] inb_S4x2x128x256_S1x1x128x256_3_0_0_0 fullShare (vAll m ρ c) ![3, 0, 0, 192] S1x1x128x64.size inb_S4x2x128x256_S1x1x128x64_3_0_0_192 (hin 3 0 192 (by decide))) $$ Hv30F
  iintro Hv30F
  icases HO with ⟨%W, HO⟩
  iapply (dmaWait m ρ K c sS0 (by decide) (owe c 0) _ (mayWait_none c sS0) (P := kPt c ![0, 1, 0, 0] inb_S4x2x128x256_S1x1x128x256_0_1_0_0 fullShare.left (kAll m ρ c)) rfl (src := kP ![1, 1, 0, 0] inb_S4x2x128x256_S1x1x128x256_1_1_0_0) (dst := kP ![0, 1, 0, 0] inb_S4x2x128x256_S1x1x128x256_0_1_0_0) rfl) $$ [Hcs0 HO Has0]
  · isplitr; · iexact HR
    isplitr; · iexact Hlev
    isplitl [Hcs0]; · iexact Hcs0
    isplitl [HO]; · iexact HO
    iexact Has0
  iintro ⟨HO, Has0, Hk01L⟩
  iapply (dmaWait m ρ K c sS1 (by decide) (owe c 0) _ (mayWait_none c sS1) (P := kPt c ![0, 0, 0, 0] inb_S4x2x128x256_S1x1x128x256_0_0_0_0 fullShare.left (kAll m ρ c)) rfl (src := kP ![2, 0, 0, 0] inb_S4x2x128x256_S1x1x128x256_2_0_0_0) (dst := kP ![0, 0, 0, 0] inb_S4x2x128x256_S1x1x128x256_0_0_0_0) rfl) $$ [Hcs1 HO Has1]
  · isplitr; · iexact HR
    isplitr; · iexact Hlev
    isplitl [Hcs1]; · iexact Hcs1
    isplitl [HO]; · iexact HO
    iexact Has1
  iintro ⟨HO, Has1, Hk00L⟩
  rw [wp_ret]
  imodintro
  iapply Hk
  isplitl [Hv30F]; · iexact Hv30F
  isplitl [HO]; · iexists _; iexact HO
  isplitl [Has0]; · iexact Has0
  isplitl [Hk01L]; · iexact Hk01L
  isplitl [Has1]; · iexact Has1
  iexact Hk00L

/-- Part 27 of the body. -/
theorem part27 {Q : (PUnit) → sProp 𝕄} (c : Dev nD) :
    iprop(records m ρ K ∗ levAts L lv ∗ Ow (F := F) c 0 ∗ cred (tallyAt ((c : Thread nD τ), .dma sS2) () N) ∗ atPos ER ((c : Thread nD τ), .dma sS2) 0 ∅ 0 ∗ cred (tallyAt ((c : Thread nD τ), .dma sS3) () N) ∗ atPos ER ((c : Thread nD τ), .dma sS3) 0 ∅ 0 ∗ cred (tallyAt ((c : Thread nD τ), .dma sS4) () N) ∗ atPos ER ((c : Thread nD τ), .dma sS4) 0 ∅ 0 ∗ cred (tallyAt ((c : Thread nD τ), .dma sS5) () N) ∗ atPos ER ((c : Thread nD τ), .dma sS5) 0 ∅ 0)
      ⊢ iprop(((Ow (F := F) c 0 ∗ atPos ER ((c : Thread nD τ), .dma sS2) (0 + 1) ∅ 0 ∗ vPt c ![0, 1, 0, 0] inb_S4x2x128x256_S1x1x128x256_0_1_0_0 fullShare.left (vAll m ρ c) ∗ atPos ER ((c : Thread nD τ), .dma sS3) (0 + 1) ∅ 0 ∗ vPt c ![0, 0, 0, 0] inb_S4x2x128x256_S1x1x128x256_0_0_0_0 fullShare.left (vAll m ρ c) ∗ atPos ER ((c : Thread nD τ), .dma sS4) (0 + 1) ∅ 0 ∗ kPt c ![0, 0, 0, 0] inb_S4x2x128x256_S1x1x128x256_0_0_0_0 fullShare.right.left (kAll m ρ c) ∗ atPos ER ((c : Thread nD τ), .dma sS5) (0 + 1) ∅ 0 ∗ kPt c ![0, 1, 0, 0] inb_S4x2x128x256_S1x1x128x256_0_1_0_0 fullShare.right.left (kAll m ρ c)) -∗ Q ⟨⟩) -∗ wp frame (wpE (defs₀ (F := F)) 𝒱₀ (c : Thread nD τ) none) Set.univ (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 ) Q) := by
  simp only [k0_part27_eq_skeleton]; unfold k0_part27_skel
  simp only [semSignalWord, semWaitWord, Prog.lift, Prog.bind_op, Prog.bind_ret, Prog.pure_eq_ret, Prog.bind_assoc, wp_deviceId]
  simp only [sSem2, sSem3, sSem4, sSem5]
  iintro ⟨#HR, #Hlev, HO, Hcs2, Has2, Hcs3, Has3, Hcs4, Has4, Hcs5, Has5⟩ Hk
  icases HO with ⟨%W, HO⟩
  iapply (dmaWait m ρ K c sS2 (by decide) (owe c 0) _ (mayWait_none c sS2) (P := vPt c ![0, 1, 0, 0] inb_S4x2x128x256_S1x1x128x256_0_1_0_0 fullShare.left (vAll m ρ c)) rfl (src := vP ![1, 1, 0, 0] inb_S4x2x128x256_S1x1x128x256_1_1_0_0) (dst := vP ![0, 1, 0, 0] inb_S4x2x128x256_S1x1x128x256_0_1_0_0) rfl) $$ [Hcs2 HO Has2]
  · isplitr; · iexact HR
    isplitr; · iexact Hlev
    isplitl [Hcs2]; · iexact Hcs2
    isplitl [HO]; · iexact HO
    iexact Has2
  iintro ⟨HO, Has2, Hv01L⟩
  iapply (dmaWait m ρ K c sS3 (by decide) (owe c 0) _ (mayWait_none c sS3) (P := vPt c ![0, 0, 0, 0] inb_S4x2x128x256_S1x1x128x256_0_0_0_0 fullShare.left (vAll m ρ c)) rfl (src := vP ![2, 0, 0, 0] inb_S4x2x128x256_S1x1x128x256_2_0_0_0) (dst := vP ![0, 0, 0, 0] inb_S4x2x128x256_S1x1x128x256_0_0_0_0) rfl) $$ [Hcs3 HO Has3]
  · isplitr; · iexact HR
    isplitr; · iexact Hlev
    isplitl [Hcs3]; · iexact Hcs3
    isplitl [HO]; · iexact HO
    iexact Has3
  iintro ⟨HO, Has3, Hv00L⟩
  iapply (dmaWait m ρ K c sS4 (by decide) (owe c 0) _ (mayWait_none c sS4) (P := kPt c ![0, 0, 0, 0] inb_S4x2x128x256_S1x1x128x256_0_0_0_0 fullShare.right.left (kAll m ρ c)) rfl (src := kP ![1, 0, 0, 0] inb_S4x2x128x256_S1x1x128x256_1_0_0_0) (dst := kP ![0, 0, 0, 0] inb_S4x2x128x256_S1x1x128x256_0_0_0_0) rfl) $$ [Hcs4 HO Has4]
  · isplitr; · iexact HR
    isplitr; · iexact Hlev
    isplitl [Hcs4]; · iexact Hcs4
    isplitl [HO]; · iexact HO
    iexact Has4
  iintro ⟨HO, Has4, Hk00RL⟩
  iapply (dmaWait m ρ K c sS5 (by decide) (owe c 0) _ (mayWait_none c sS5) (P := kPt c ![0, 1, 0, 0] inb_S4x2x128x256_S1x1x128x256_0_1_0_0 fullShare.right.left (kAll m ρ c)) rfl (src := kP ![2, 1, 0, 0] inb_S4x2x128x256_S1x1x128x256_2_1_0_0) (dst := kP ![0, 1, 0, 0] inb_S4x2x128x256_S1x1x128x256_0_1_0_0) rfl) $$ [Hcs5 HO Has5]
  · isplitr; · iexact HR
    isplitr; · iexact Hlev
    isplitl [Hcs5]; · iexact Hcs5
    isplitl [HO]; · iexact HO
    iexact Has5
  iintro ⟨HO, Has5, Hk01RL⟩
  rw [wp_ret]
  imodintro
  iapply Hk
  isplitl [HO]; · iexists _; iexact HO
  isplitl [Has2]; · iexact Has2
  isplitl [Hv01L]; · iexact Hv01L
  isplitl [Has3]; · iexact Has3
  isplitl [Hv00L]; · iexact Hv00L
  isplitl [Has4]; · iexact Has4
  isplitl [Hk00RL]; · iexact Hk00RL
  isplitl [Has5]; · iexact Has5
  iexact Hk01RL

/-- Part 28 of the body. -/
theorem part28 {Q : (PUnit) → sProp 𝕄} (c : Dev nD) :
    iprop(records m ρ K ∗ levAts L lv ∗ Ow (F := F) c 0 ∗ cred (tallyAt ((c : Thread nD τ), .dma sS6) () N) ∗ atPos ER ((c : Thread nD τ), .dma sS6) 0 ∅ 0 ∗ cred (tallyAt ((c : Thread nD τ), .dma sS7) () N) ∗ atPos ER ((c : Thread nD τ), .dma sS7) 0 ∅ 0 ∗ cred (tallyAt ((c : Thread nD τ), .dma sS8) () N) ∗ atPos ER ((c : Thread nD τ), .dma sS8) 0 ∅ 0)
      ⊢ iprop(((Ow (F := F) c 0 ∗ atPos ER ((c : Thread nD τ), .dma sS6) (0 + 1) ∅ 0 ∗ vPt c ![0, 0, 0, 0] inb_S4x2x128x256_S1x1x128x256_0_0_0_0 fullShare.right.left (vAll m ρ c) ∗ atPos ER ((c : Thread nD τ), .dma sS7) (0 + 1) ∅ 0 ∗ vPt c ![0, 1, 0, 0] inb_S4x2x128x256_S1x1x128x256_0_1_0_0 fullShare.right.left (vAll m ρ c) ∗ atPos ER ((c : Thread nD τ), .dma sS8) (0 + 1) ∅ 0 ∗ kPt c ![1, 1, 0, 0] inb_S4x2x128x256_S1x1x128x256_1_1_0_0 fullShare.left (kAll m ρ c)) -∗ Q ⟨⟩) -∗ wp frame (wpE (defs₀ (F := F)) 𝒱₀ (c : Thread nD τ) none) Set.univ (k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 ) Q) := by
  simp only [k0_part28_eq_skeleton]; unfold k0_part28_skel
  simp only [semSignalWord, semWaitWord, Prog.lift, Prog.bind_op, Prog.bind_ret, Prog.pure_eq_ret, Prog.bind_assoc, wp_deviceId]
  simp only [sSem6, sSem7, sSem8]
  iintro ⟨#HR, #Hlev, HO, Hcs6, Has6, Hcs7, Has7, Hcs8, Has8⟩ Hk
  icases HO with ⟨%W, HO⟩
  iapply (dmaWait m ρ K c sS6 (by decide) (owe c 0) _ (mayWait_none c sS6) (P := vPt c ![0, 0, 0, 0] inb_S4x2x128x256_S1x1x128x256_0_0_0_0 fullShare.right.left (vAll m ρ c)) rfl (src := vP ![1, 0, 0, 0] inb_S4x2x128x256_S1x1x128x256_1_0_0_0) (dst := vP ![0, 0, 0, 0] inb_S4x2x128x256_S1x1x128x256_0_0_0_0) rfl) $$ [Hcs6 HO Has6]
  · isplitr; · iexact HR
    isplitr; · iexact Hlev
    isplitl [Hcs6]; · iexact Hcs6
    isplitl [HO]; · iexact HO
    iexact Has6
  iintro ⟨HO, Has6, Hv00RL⟩
  iapply (dmaWait m ρ K c sS7 (by decide) (owe c 0) _ (mayWait_none c sS7) (P := vPt c ![0, 1, 0, 0] inb_S4x2x128x256_S1x1x128x256_0_1_0_0 fullShare.right.left (vAll m ρ c)) rfl (src := vP ![2, 1, 0, 0] inb_S4x2x128x256_S1x1x128x256_2_1_0_0) (dst := vP ![0, 1, 0, 0] inb_S4x2x128x256_S1x1x128x256_0_1_0_0) rfl) $$ [Hcs7 HO Has7]
  · isplitr; · iexact HR
    isplitr; · iexact Hlev
    isplitl [Hcs7]; · iexact Hcs7
    isplitl [HO]; · iexact HO
    iexact Has7
  iintro ⟨HO, Has7, Hv01RL⟩
  iapply (dmaWait m ρ K c sS8 (by decide) (owe c 0) _ (mayWait_none c sS8) (P := kPt c ![1, 1, 0, 0] inb_S4x2x128x256_S1x1x128x256_1_1_0_0 fullShare.left (kAll m ρ c)) rfl (src := kP ![3, 1, 0, 0] inb_S4x2x128x256_S1x1x128x256_3_1_0_0) (dst := kP ![1, 1, 0, 0] inb_S4x2x128x256_S1x1x128x256_1_1_0_0) rfl) $$ [Hcs8 HO Has8]
  · isplitr; · iexact HR
    isplitr; · iexact Hlev
    isplitl [Hcs8]; · iexact Hcs8
    isplitl [HO]; · iexact HO
    iexact Has8
  iintro ⟨HO, Has8, Hk11L⟩
  rw [wp_ret]
  imodintro
  iapply Hk
  isplitl [HO]; · iexists _; iexact HO
  isplitl [Has6]; · iexact Has6
  isplitl [Hv00RL]; · iexact Hv00RL
  isplitl [Has7]; · iexact Has7
  isplitl [Hv01RL]; · iexact Hv01RL
  isplitl [Has8]; · iexact Has8
  iexact Hk11L

/-- Part 29 of the body. -/
theorem part29 {Q : (Σ' (v827 : FVec F S128x1 .f32), FVec F S128x64 .f32) → sProp 𝕄} (c : Dev nD) :
    iprop(records m ρ K ∗ levAts L lv ∗ Ow (F := F) c 0 ∗ cred (tallyAt ((c : Thread nD τ), .dma sS9) () N) ∗ atPos ER ((c : Thread nD τ), .dma sS9) 0 ∅ 0 ∗ cred (tallyAt ((c : Thread nD τ), .dma sS10) () N) ∗ atPos ER ((c : Thread nD τ), .dma sS10) 0 ∅ 0 ∗ cred (tallyAt ((c : Thread nD τ), .dma sS11) () N) ∗ atPos ER ((c : Thread nD τ), .dma sS11) 0 ∅ 0)
      ⊢ iprop(((Ow (F := F) c 0 ∗ atPos ER ((c : Thread nD τ), .dma sS9) (0 + 1) ∅ 0 ∗ kPt c ![2, 0, 0, 0] inb_S4x2x128x256_S1x1x128x256_2_0_0_0 fullShare.left (kAll m ρ c) ∗ atPos ER ((c : Thread nD τ), .dma sS10) (0 + 1) ∅ 0 ∗ vPt c ![1, 1, 0, 0] inb_S4x2x128x256_S1x1x128x256_1_1_0_0 fullShare.left (vAll m ρ c) ∗ atPos ER ((c : Thread nD τ), .dma sS11) (0 + 1) ∅ 0 ∗ vPt c ![2, 0, 0, 0] inb_S4x2x128x256_S1x1x128x256_2_0_0_0 fullShare.left (vAll m ρ c)) -∗ Q ⟨(w827 m ρ c), (w832 m ρ c)⟩) -∗ wp frame (wpE (defs₀ (F := F)) 𝒱₀ (c : Thread nD τ) none) Set.univ (k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 (w269 m ρ c) (w329 m ρ c) (w425 m ρ c) (w501 m ρ c) (w525 m ρ c) (w601 m ρ c) (w685 m ρ c) (w741 m ρ c)) Q) := by
  simp only [k0_part29_eq_skeleton]; unfold k0_part29_skel
  simp only [semSignalWord, semWaitWord, Prog.lift, Prog.bind_op, Prog.bind_ret, Prog.pure_eq_ret, Prog.bind_assoc, wp_deviceId]
  simp only [sSem9, sSem10, sSem11]
  unfold w827 w832
  iintro ⟨#HR, #Hlev, HO, Hcs9, Has9, Hcs10, Has10, Hcs11, Has11⟩ Hk
  icases HO with ⟨%W, HO⟩
  iapply (dmaWait m ρ K c sS9 (by decide) (owe c 0) _ (mayWait_none c sS9) (P := kPt c ![2, 0, 0, 0] inb_S4x2x128x256_S1x1x128x256_2_0_0_0 fullShare.left (kAll m ρ c)) rfl (src := kP ![3, 0, 0, 0] inb_S4x2x128x256_S1x1x128x256_3_0_0_0) (dst := kP ![2, 0, 0, 0] inb_S4x2x128x256_S1x1x128x256_2_0_0_0) rfl) $$ [Hcs9 HO Has9]
  · isplitr; · iexact HR
    isplitr; · iexact Hlev
    isplitl [Hcs9]; · iexact Hcs9
    isplitl [HO]; · iexact HO
    iexact Has9
  iintro ⟨HO, Has9, Hk20L⟩
  iapply (dmaWait m ρ K c sS10 (by decide) (owe c 0) _ (mayWait_none c sS10) (P := vPt c ![1, 1, 0, 0] inb_S4x2x128x256_S1x1x128x256_1_1_0_0 fullShare.left (vAll m ρ c)) rfl (src := vP ![3, 1, 0, 0] inb_S4x2x128x256_S1x1x128x256_3_1_0_0) (dst := vP ![1, 1, 0, 0] inb_S4x2x128x256_S1x1x128x256_1_1_0_0) rfl) $$ [Hcs10 HO Has10]
  · isplitr; · iexact HR
    isplitr; · iexact Hlev
    isplitl [Hcs10]; · iexact Hcs10
    isplitl [HO]; · iexact HO
    iexact Has10
  iintro ⟨HO, Has10, Hv11L⟩
  iapply (dmaWait m ρ K c sS11 (by decide) (owe c 0) _ (mayWait_none c sS11) (P := vPt c ![2, 0, 0, 0] inb_S4x2x128x256_S1x1x128x256_2_0_0_0 fullShare.left (vAll m ρ c)) rfl (src := vP ![3, 0, 0, 0] inb_S4x2x128x256_S1x1x128x256_3_0_0_0) (dst := vP ![2, 0, 0, 0] inb_S4x2x128x256_S1x1x128x256_2_0_0_0) rfl) $$ [Hcs11 HO Has11]
  · isplitr; · iexact HR
    isplitr; · iexact Hlev
    isplitl [Hcs11]; · iexact Hcs11
    isplitl [HO]; · iexact HO
    iexact Has11
  iintro ⟨HO, Has11, Hv20L⟩
  rw [wp_ret]
  imodintro
  iapply Hk
  isplitl [HO]; · iexists _; iexact HO
  isplitl [Has9]; · iexact Has9
  isplitl [Hk20L]; · iexact Hk20L
  isplitl [Has10]; · iexact Has10
  isplitl [Hv11L]; · iexact Hv11L
  isplitl [Has11]; · iexact Has11
  iexact Hv20L

/-- Part 30 of the body. -/
theorem part30 {Q : (FVec F S128x1 .f32) → sProp 𝕄} (c : Dev nD) :
    iprop(records m ρ K ∗ levAts L lv ∗ stA c cc0_stg5_0)
      ⊢ iprop(((stO m ρ c) -∗ Q (w880 m ρ c)) -∗ wp frame (wpE (defs₀ (F := F)) 𝒱₀ (c : Thread nD τ) none) Set.univ (k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 (w128 m ρ c) (w277 m ρ c) (w285 m ρ c) (w293 m ρ c) (w301 m ρ c) (w332 m ρ c) (w335 m ρ c) (w338 m ρ c) (w375 m ρ c) (w433 m ρ c) (w441 m ρ c) (w449 m ρ c) (w504 m ρ c) (w507 m ρ c) (w510 m ρ c) (w533 m ρ c) (w541 m ρ c) (w549 m ρ c) (w565 m ρ c) (w604 m ρ c) (w607 m ρ c) (w610 m ρ c) (w693 m ρ c) (w701 m ρ c) (w709 m ρ c) (w744 m ρ c) (w747 m ρ c) (w750 m ρ c) (w827 m ρ c) (w832 m ρ c)) Q) := by
  simp only [k0_part30_eq_skeleton]; unfold k0_part30_skel
  simp only [semSignalWord, semWaitWord, Prog.lift, Prog.bind_op, Prog.bind_ret, Prog.pure_eq_ret, Prog.bind_assoc, wp_deviceId]
  unfold w880
  iintro ⟨#HR, #Hlev, Hout⟩ Hk
  icases Hout with ⟨%fo, Hout⟩
  iapply (wp_load 𝒱₀ (c : Thread nD τ) none Set.univ (m := oM) (Finset.subset_univ _)) $$ Hout
  iintro Hout
  iapply (wp_store 𝒱₀ (c : Thread nD τ) none Set.univ (m := oM) (r := oR0) (Mk := Finset.univ) (Finset.subset_univ _)) $$ Hout
  iintro Hout
  rw [wp_ret]
  imodintro
  iapply Hk
  iexists fo; iexact Hout

/-- Part 31 of the body. -/
theorem part31 {Q : (FVec F S128x512 .f32) → sProp 𝕄} (c : Dev nD) :
    iprop(records m ρ K ∗ levAts L lv ∗ stO m ρ c)
      ⊢ iprop(((stO m ρ c) -∗ Q (w927 m ρ c)) -∗ wp frame (wpE (defs₀ (F := F)) 𝒱₀ (c : Thread nD τ) none) Set.univ (k0_part31 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 (w128 m ρ c) (w309 m ρ c) (w317 m ρ c) (w325 m ρ c) (w341 m ρ c) (w344 m ρ c) (w347 m ρ c) (w350 m ρ c) (w383 m ρ c) (w391 m ρ c) (w399 m ρ c) (w471 m ρ c) (w474 m ρ c) (w477 m ρ c) (w480 m ρ c) (w573 m ρ c) (w581 m ρ c) (w589 m ρ c) (w621 m ρ c) (w624 m ρ c) (w627 m ρ c) (w630 m ρ c) (w645 m ρ c) (w653 m ρ c) (w661 m ρ c) (w669 m ρ c) (w721 m ρ c) (w724 m ρ c) (w727 m ρ c) (w730 m ρ c) (w880 m ρ c)) Q) := by
  simp only [k0_part31_eq_skeleton]; unfold k0_part31_skel
  simp only [semSignalWord, semWaitWord, Prog.lift, Prog.bind_op, Prog.bind_ret, Prog.pure_eq_ret, Prog.bind_assoc, wp_deviceId]
  unfold w927
  iintro ⟨#HR, #Hlev, Hout⟩ Hk
  icases Hout with ⟨%fo, Hout⟩
  iapply (wp_load 𝒱₀ (c : Thread nD τ) none Set.univ (m := oM) (Finset.subset_univ _)) $$ Hout
  iintro Hout
  rw [wp_ret]
  imodintro
  iapply Hk
  iexists fo; iexact Hout

end Parts

end Cert.KernelIdealRing

end
-- ==== Proof.Core.lean ====
/-
The body of the kernel as a whole: its parts in order.
-/
module

public import proofs.«01_k».proof.Proof.Parts

@[expose] public section

set_option maxRecDepth 16384

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Core

variable (K : Dev nD × Fin 25 → ℕ)

/-- What a device's body starts from, resource by resource. -/
def corePre (c : Dev nD) : sProp 𝕄 :=
  iprop(Ow (F := F) c 14
    ∗ fromLeft (F := F) c
    ∗ fromRight (F := F) c
    ∗ dutyTok ER (barCell (prv c)) 0 true
    ∗ dutyTok ER (barCell (nxt c)) 0 false
    ∗ cred (tallyAt (barCell c) () 2)
    ∗ atPos ER (barCell c) 0 ∅ 0
    ∗ stP c cc0_stg0_0 (xstg m ρ c)
    ∗ stP c cc0_stg1_0 (wqstg m ρ c)
    ∗ stP c cc0_stg2_0 (wkstg m ρ c)
    ∗ stP c cc0_stg3_0 (wvstg m ρ c)
    ∗ stP c cc0_stg4_0 (wostg m ρ c)
    ∗ stA c cc0_stg5_0
    ∗ dutyTok ER ((c : Thread nD τ), .dma sS0) 0 false
    ∗ dutyTok ER ((c : Thread nD τ), .dma sS1) 0 false
    ∗ dutyTok ER ((c : Thread nD τ), .dma sS2) 0 false
    ∗ dutyTok ER ((c : Thread nD τ), .dma sS3) 0 false
    ∗ dutyTok ER ((c : Thread nD τ), .dma sS4) 0 false
    ∗ dutyTok ER ((c : Thread nD τ), .dma sS5) 0 false
    ∗ dutyTok ER ((c : Thread nD τ), .dma sS6) 0 false
    ∗ dutyTok ER ((c : Thread nD τ), .dma sS7) 0 false
    ∗ dutyTok ER ((c : Thread nD τ), .dma sS8) 0 false
    ∗ dutyTok ER ((c : Thread nD τ), .dma sS9) 0 false
    ∗ dutyTok ER ((c : Thread nD τ), .dma sS10) 0 false
    ∗ dutyTok ER ((c : Thread nD τ), .dma sS11) 0 false
    ∗ dutyTok ER (((nxt c) : Thread nD τ), .dma rS0) 0 false
    ∗ dutyTok ER (((prv c) : Thread nD τ), .dma rS1) 0 false
    ∗ dutyTok ER (((nxt c) : Thread nD τ), .dma rS2) 0 false
    ∗ dutyTok ER (((prv c) : Thread nD τ), .dma rS3) 0 false
    ∗ dutyTok ER (((nxt c) : Thread nD τ), .dma rS4) 0 false
    ∗ dutyTok ER (((prv c) : Thread nD τ), .dma rS5) 0 false
    ∗ dutyTok ER (((nxt c) : Thread nD τ), .dma rS6) 0 false
    ∗ dutyTok ER (((prv c) : Thread nD τ), .dma rS7) 0 false
    ∗ dutyTok ER (((nxt c) : Thread nD τ), .dma rS8) 0 false
    ∗ dutyTok ER (((prv c) : Thread nD τ), .dma rS9) 0 false
    ∗ dutyTok ER (((nxt c) : Thread nD τ), .dma rS10) 0 false
    ∗ dutyTok ER (((prv c) : Thread nD τ), .dma rS11) 0 false
    ∗ cred (tallyAt ((c : Thread nD τ), .dma rS0) () N)
    ∗ cred (tallyAt ((c : Thread nD τ), .dma rS1) () N)
    ∗ cred (tallyAt ((c : Thread nD τ), .dma rS2) () N)
    ∗ cred (tallyAt ((c : Thread nD τ), .dma rS3) () N)
    ∗ cred (tallyAt ((c : Thread nD τ), .dma rS4) () N)
    ∗ cred (tallyAt ((c : Thread nD τ), .dma rS5) () N)
    ∗ cred (tallyAt ((c : Thread nD τ), .dma rS6) () N)
    ∗ cred (tallyAt ((c : Thread nD τ), .dma rS7) () N)
    ∗ cred (tallyAt ((c : Thread nD τ), .dma rS8) () N)
    ∗ cred (tallyAt ((c : Thread nD τ), .dma rS9) () N)
    ∗ cred (tallyAt ((c : Thread nD τ), .dma rS10) () N)
    ∗ cred (tallyAt ((c : Thread nD τ), .dma rS11) () N)
    ∗ atPos ER ((c : Thread nD τ), .dma sS0) 0 ∅ 0
    ∗ atPos ER ((c : Thread nD τ), .dma sS1) 0 ∅ 0
    ∗ atPos ER ((c : Thread nD τ), .dma sS2) 0 ∅ 0
    ∗ atPos ER ((c : Thread nD τ), .dma sS3) 0 ∅ 0
    ∗ atPos ER ((c : Thread nD τ), .dma sS4) 0 ∅ 0
    ∗ atPos ER ((c : Thread nD τ), .dma sS5) 0 ∅ 0
    ∗ atPos ER ((c : Thread nD τ), .dma sS6) 0 ∅ 0
    ∗ atPos ER ((c : Thread nD τ), .dma sS7) 0 ∅ 0
    ∗ atPos ER ((c : Thread nD τ), .dma sS8) 0 ∅ 0
    ∗ atPos ER ((c : Thread nD τ), .dma sS9) 0 ∅ 0
    ∗ atPos ER ((c : Thread nD τ), .dma sS10) 0 ∅ 0
    ∗ atPos ER ((c : Thread nD τ), .dma sS11) 0 ∅ 0
    ∗ atPos ER ((c : Thread nD τ), .dma rS0) 0 ∅ 0
    ∗ atPos ER ((c : Thread nD τ), .dma rS1) 0 ∅ 0
    ∗ atPos ER ((c : Thread nD τ), .dma rS2) 0 ∅ 0
    ∗ atPos ER ((c : Thread nD τ), .dma rS3) 0 ∅ 0
    ∗ atPos ER ((c : Thread nD τ), .dma rS4) 0 ∅ 0
    ∗ atPos ER ((c : Thread nD τ), .dma rS5) 0 ∅ 0
    ∗ atPos ER ((c : Thread nD τ), .dma rS6) 0 ∅ 0
    ∗ atPos ER ((c : Thread nD τ), .dma rS7) 0 ∅ 0
    ∗ atPos ER ((c : Thread nD τ), .dma rS8) 0 ∅ 0
    ∗ atPos ER ((c : Thread nD τ), .dma rS9) 0 ∅ 0
    ∗ atPos ER ((c : Thread nD τ), .dma rS10) 0 ∅ 0
    ∗ atPos ER ((c : Thread nD τ), .dma rS11) 0 ∅ 0
    ∗ kAny c ![0, 0, 0, 0] inb_S4x2x128x256_S1x1x128x256_0_0_0_0
    ∗ kAny c ![0, 1, 0, 0] inb_S4x2x128x256_S1x1x128x256_0_1_0_0
    ∗ vAny c ![0, 0, 0, 0] inb_S4x2x128x256_S1x1x128x256_0_0_0_0
    ∗ vAny c ![0, 1, 0, 0] inb_S4x2x128x256_S1x1x128x256_0_1_0_0)
/-- What it ends with. -/
def corePost (c : Dev nD) : sProp 𝕄 :=
  iprop(Ow (F := F) c 0
    ∗ atPos ER (barCell c) (0 + 1) ∅ 0
    ∗ stP c cc0_stg0_0 (xstg m ρ c)
    ∗ stP c cc0_stg1_0 (wqstg m ρ c)
    ∗ stP c cc0_stg2_0 (wkstg m ρ c)
    ∗ stP c cc0_stg3_0 (wvstg m ρ c)
    ∗ stP c cc0_stg4_0 (wostg m ρ c)
    ∗ (((c : Thread nD τ).loc cc0_stg5_0) ↦{fullShare} outAt m ρ c)
    ∗ atPos ER ((c : Thread nD τ), .dma sS0) (0 + 1) ∅ 0
    ∗ atPos ER ((c : Thread nD τ), .dma sS1) (0 + 1) ∅ 0
    ∗ atPos ER ((c : Thread nD τ), .dma sS2) (0 + 1) ∅ 0
    ∗ atPos ER ((c : Thread nD τ), .dma sS3) (0 + 1) ∅ 0
    ∗ atPos ER ((c : Thread nD τ), .dma sS4) (0 + 1) ∅ 0
    ∗ atPos ER ((c : Thread nD τ), .dma sS5) (0 + 1) ∅ 0
    ∗ atPos ER ((c : Thread nD τ), .dma sS6) (0 + 1) ∅ 0
    ∗ atPos ER ((c : Thread nD τ), .dma sS7) (0 + 1) ∅ 0
    ∗ atPos ER ((c : Thread nD τ), .dma sS8) (0 + 1) ∅ 0
    ∗ atPos ER ((c : Thread nD τ), .dma sS9) (0 + 1) ∅ 0
    ∗ atPos ER ((c : Thread nD τ), .dma sS10) (0 + 1) ∅ 0
    ∗ atPos ER ((c : Thread nD τ), .dma sS11) (0 + 1) ∅ 0
    ∗ atPos ER ((c : Thread nD τ), .dma rS0) (0 + 1) ∅ 0
    ∗ atPos ER ((c : Thread nD τ), .dma rS1) (0 + 1) ∅ 0
    ∗ atPos ER ((c : Thread nD τ), .dma rS2) (0 + 1) ∅ 0
    ∗ atPos ER ((c : Thread nD τ), .dma rS3) (0 + 1) ∅ 0
    ∗ atPos ER ((c : Thread nD τ), .dma rS4) (0 + 1) ∅ 0
    ∗ atPos ER ((c : Thread nD τ), .dma rS5) (0 + 1) ∅ 0
    ∗ atPos ER ((c : Thread nD τ), .dma rS6) (0 + 1) ∅ 0
    ∗ atPos ER ((c : Thread nD τ), .dma rS7) (0 + 1) ∅ 0
    ∗ atPos ER ((c : Thread nD τ), .dma rS8) (0 + 1) ∅ 0
    ∗ atPos ER ((c : Thread nD τ), .dma rS9) (0 + 1) ∅ 0
    ∗ atPos ER ((c : Thread nD τ), .dma rS10) (0 + 1) ∅ 0
    ∗ atPos ER ((c : Thread nD τ), .dma rS11) (0 + 1) ∅ 0
    ∗ kPt c ![0, 0, 0, 0] inb_S4x2x128x256_S1x1x128x256_0_0_0_0 fullShare.left (kAll m ρ c)
    ∗ kPt c ![0, 0, 0, 0] inb_S4x2x128x256_S1x1x128x256_0_0_0_0 fullShare.right.left (kAll m ρ c)
    ∗ kPt c ![0, 0, 0, 0] inb_S4x2x128x256_S1x1x128x256_0_0_0_0 fullShare.right.right (kAll m ρ c)
    ∗ kPt c ![0, 1, 0, 0] inb_S4x2x128x256_S1x1x128x256_0_1_0_0 fullShare.left (kAll m ρ c)
    ∗ kPt c ![0, 1, 0, 0] inb_S4x2x128x256_S1x1x128x256_0_1_0_0 fullShare.right.left (kAll m ρ c)
    ∗ kPt c ![0, 1, 0, 0] inb_S4x2x128x256_S1x1x128x256_0_1_0_0 fullShare.right.right (kAll m ρ c)
    ∗ kPt c ![1, 0, 0, 0] inb_S4x2x128x256_S1x1x128x256_1_0_0_0 fullShare (kAll m ρ c)
    ∗ kPt c ![1, 1, 0, 0] inb_S4x2x128x256_S1x1x128x256_1_1_0_0 fullShare.left (kAll m ρ c)
    ∗ kPt c ![1, 1, 0, 0] inb_S4x2x128x256_S1x1x128x256_1_1_0_0 fullShare.right (kAll m ρ c)
    ∗ kPt c ![2, 0, 0, 0] inb_S4x2x128x256_S1x1x128x256_2_0_0_0 fullShare.left (kAll m ρ c)
    ∗ kPt c ![2, 0, 0, 0] inb_S4x2x128x256_S1x1x128x256_2_0_0_0 fullShare.right (kAll m ρ c)
    ∗ kPt c ![2, 1, 0, 0] inb_S4x2x128x256_S1x1x128x256_2_1_0_0 fullShare (kAll m ρ c)
    ∗ kPt c ![3, 0, 0, 0] inb_S4x2x128x256_S1x1x128x256_3_0_0_0 fullShare (kAll m ρ c)
    ∗ kPt c ![3, 1, 0, 0] inb_S4x2x128x256_S1x1x128x256_3_1_0_0 fullShare (kAll m ρ c)
    ∗ vPt c ![0, 0, 0, 0] inb_S4x2x128x256_S1x1x128x256_0_0_0_0 fullShare.left (vAll m ρ c)
    ∗ vPt c ![0, 0, 0, 0] inb_S4x2x128x256_S1x1x128x256_0_0_0_0 fullShare.right.left (vAll m ρ c)
    ∗ vPt c ![0, 0, 0, 0] inb_S4x2x128x256_S1x1x128x256_0_0_0_0 fullShare.right.right (vAll m ρ c)
    ∗ vPt c ![0, 1, 0, 0] inb_S4x2x128x256_S1x1x128x256_0_1_0_0 fullShare.left (vAll m ρ c)
    ∗ vPt c ![0, 1, 0, 0] inb_S4x2x128x256_S1x1x128x256_0_1_0_0 fullShare.right.left (vAll m ρ c)
    ∗ vPt c ![0, 1, 0, 0] inb_S4x2x128x256_S1x1x128x256_0_1_0_0 fullShare.right.right (vAll m ρ c)
    ∗ vPt c ![1, 0, 0, 0] inb_S4x2x128x256_S1x1x128x256_1_0_0_0 fullShare (vAll m ρ c)
    ∗ vPt c ![1, 1, 0, 0] inb_S4x2x128x256_S1x1x128x256_1_1_0_0 fullShare.left (vAll m ρ c)
    ∗ vPt c ![1, 1, 0, 0] inb_S4x2x128x256_S1x1x128x256_1_1_0_0 fullShare.right (vAll m ρ c)
    ∗ vPt c ![2, 0, 0, 0] inb_S4x2x128x256_S1x1x128x256_2_0_0_0 fullShare.left (vAll m ρ c)
    ∗ vPt c ![2, 0, 0, 0] inb_S4x2x128x256_S1x1x128x256_2_0_0_0 fullShare.right (vAll m ρ c)
    ∗ vPt c ![2, 1, 0, 0] inb_S4x2x128x256_S1x1x128x256_2_1_0_0 fullShare (vAll m ρ c)
    ∗ vPt c ![3, 0, 0, 0] inb_S4x2x128x256_S1x1x128x256_3_0_0_0 fullShare (vAll m ρ c)
    ∗ vPt c ![3, 1, 0, 0] inb_S4x2x128x256_S1x1x128x256_3_1_0_0 fullShare (vAll m ρ c))

/-- The two stores of the result, whatever was there. -/
theorem out_store (c : Dev nD) (f : (cc0_stg5_0 : Ref sig .tc).ty.Contents (Elt F)) :
    ((oM.access oR1 : View sig .tc _ _ _).write (Elt F) ((oM.access oR0 : View sig .tc _ _ _).write (Elt F) f (out0 m ρ c) Finset.univ) (out1 m ρ c) Finset.univ) = outAt m ρ c := by
  funext i
  have key : ∀ i : S2x128x512.Idx, ((oM.access oR1 : View sig .tc _ _ _).write (Elt F) ((oM.access oR0 : View sig .tc _ _ _).write (Elt F) f (out0 m ρ c) Finset.univ) (out1 m ρ c) Finset.univ) i = outAt m ρ c i := by
    intro i
    have h1 : (i 1).val < 128 := (i 1).isLt
    have h2 : (i 2).val < 512 := (i 2).isLt
    have h0 : (i 0).val < 2 := (i 0).isLt
    unfold outAt
    by_cases hb : (i 0).val = 0
    · rw [if_pos hb]
      have he : i = (oM.access oR0 : View sig .tc _ _ _).emb (outIdx i) := by
        funext a; apply Fin.ext
        match a with
        | ⟨0, _⟩ => show (i 0).val = 0 + 1 * 0; omega
        | ⟨1, _⟩ => show (i 1).val = 0 + 1 * (i 1).val; omega
        | ⟨2, _⟩ => show (i 2).val = 0 + 1 * (i 2).val; omega
      rw [View.write_of_not_mem]
      · conv_lhs => rw [he]
        rw [View.write_emb_of_mem _ _ (Finset.mem_univ _)]; rfl
      · intro hm
        obtain ⟨x, -, hx⟩ := Finset.mem_map.mp hm
        have : (i 0).val = 1 + 1 * (x 0).val := by rw [← hx]; rfl
        omega
    · rw [if_neg hb]
      have he : i = (oM.access oR1 : View sig .tc _ _ _).emb (outIdx i) := by
        funext a; apply Fin.ext
        match a with
        | ⟨0, _⟩ => show (i 0).val = 1 + 1 * 0; omega
        | ⟨1, _⟩ => show (i 1).val = 0 + 1 * (i 1).val; omega
        | ⟨2, _⟩ => show (i 2).val = 0 + 1 * (i 2).val; omega
      conv_lhs => rw [he]
      rw [View.write_emb_of_mem _ _ (Finset.mem_univ _)]; rfl
  exact key i

set_option maxHeartbeats 4000000 in
/-- The body, part after part. -/
theorem core {Q : PUnit → sProp 𝕄} (c : Dev nD) :
    iprop(records m ρ K ∗ levAts L lv ∗ corePre m ρ c)
      ⊢ iprop((corePost m ρ c -∗ |={Set.univ}=> Q ⟨⟩) -∗ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3) Q) := by
  simp only [cc0_body_eq_skeleton]; unfold cc0_body_skel corePre
  iintro ⟨#HR, #Hlev, HO, Hfl, Hfr, Htb, Htc, Hcb, Hab, Hx, Hwq, Hwk, Hwv, Hwo, Hout, Hts0, Hts1, Hts2, Hts3, Hts4, Hts5, Hts6, Hts7, Hts8, Hts9, Hts10, Hts11, Htr0, Htr1, Htr2, Htr3, Htr4, Htr5, Htr6, Htr7, Htr8, Htr9, Htr10, Htr11, Hcr0, Hcr1, Hcr2, Hcr3, Hcr4, Hcr5, Hcr6, Hcr7, Hcr8, Hcr9, Hcr10, Hcr11, Has0, Has1, Has2, Has3, Has4, Has5, Has6, Has7, Has8, Has9, Has10, Has11, Har0, Har1, Har2, Har3, Har4, Har5, Har6, Har7, Har8, Har9, Har10, Har11, Hk00, Hk01, Hv00, Hv01⟩ Hk
  rw [wp_bind]
  iapply (part1 m ρ K c ) $$ [HO Htb Hfl Htc Hfr]
  · isplitr; · iexact HR
    isplitr; · iexact Hlev
    isplitl [HO]; · iexact HO
    isplitl [Htb]; · iexact Htb
    isplitl [Hfl]; · iexact Hfl
    isplitl [Htc]; · iexact Htc
    iexact Hfr
  iintro HO
  try dsimp only
  rw [wp_bind]
  iapply (part2 m ρ K c ) $$ []
  · isplitr; · iexact HR
    iexact Hlev
  iintro -
  try dsimp only
  rw [wp_bind]
  iapply (part3 m ρ K c ) $$ [Hwk Hwv Hwq]
  · isplitr; · iexact HR
    isplitr; · iexact Hlev
    isplitl [Hwk]; · iexact Hwk
    isplitl [Hwv]; · iexact Hwv
    iexact Hwq
  iintro ⟨Hwk, Hwv, Hwq⟩
  try dsimp only
  rw [wp_bind]
  iapply (part4 m ρ K c ) $$ [Hwo Hx Hk00 Hk01 HO Hcb Hab]
  · isplitr; · iexact HR
    isplitr; · iexact Hlev
    isplitl [Hwo]; · iexact Hwo
    isplitl [Hx]; · iexact Hx
    isplitl [Hk00]; · iexact Hk00
    isplitl [Hk01]; · iexact Hk01
    isplitl [HO]; · iexact HO
    isplitl [Hcb]; · iexact Hcb
    iexact Hab
  iintro ⟨Hwo, Hx, Hk00L, Hk00RL, Hk00RR, Hk01L, Hk01RL, Hk01RR, HO, Hab, HD0, HD1, HD2, HD3, HD4, HD5, HD6, HD7, HD8, HD9, HD10, HD11⟩
  try dsimp only
  rw [wp_bind]
  iapply (part5 m ρ K c _ _) $$ [HO Hk01L HD0 Hts0 Htr0 Hk00L HD1 Hts1 Htr1 Hv01]
  · isplitr; · iexact HR
    isplitr; · iexact Hlev
    isplitl [HO]; · iexact HO
    isplitl [Hk01L]; · iexact Hk01L
    isplitl [HD0]; · iexact HD0
    isplitl [Hts0]; · iexact Hts0
    isplitl [Htr0]; · iexact Htr0
    isplitl [Hk00L]; · iexact Hk00L
    isplitl [HD1]; · iexact HD1
    isplitl [Hts1]; · iexact Hts1
    isplitl [Htr1]; · iexact Htr1
    iexact Hv01
  iintro ⟨HO, Hcs0, Hcs1, Hv01L, Hv01RL, Hv01RR⟩
  try dsimp only
  rw [wp_bind]
  iapply (part6 m ρ K c _ _ _ _) $$ [HO Hv01L HD2 Hts2 Htr2 Hv00 HD3 Hts3 Htr3]
  · isplitr; · iexact HR
    isplitr; · iexact Hlev
    isplitl [HO]; · iexact HO
    isplitl [Hv01L]; · iexact Hv01L
    isplitl [HD2]; · iexact HD2
    isplitl [Hts2]; · iexact Hts2
    isplitl [Htr2]; · iexact Htr2
    isplitl [Hv00]; · iexact Hv00
    isplitl [HD3]; · iexact HD3
    isplitl [Hts3]; · iexact Hts3
    iexact Htr3
  iintro ⟨HO, Hcs2, Hv00RL, Hv00RR, Hcs3⟩
  try dsimp only
  rw [wp_bind]
  iapply (part7 m ρ K c _ _) $$ [HO Hk00RL HD4 Hts4 Htr4 Hk01RL HD5 Hts5 Htr5 Hv00RL HD6 Hts6 Htr6]
  · isplitr; · iexact HR
    isplitr; · iexact Hlev
    isplitl [HO]; · iexact HO
    isplitl [Hk00RL]; · iexact Hk00RL
    isplitl [HD4]; · iexact HD4
    isplitl [Hts4]; · iexact Hts4
    isplitl [Htr4]; · iexact Htr4
    isplitl [Hk01RL]; · iexact Hk01RL
    isplitl [HD5]; · iexact HD5
    isplitl [Hts5]; · iexact Hts5
    isplitl [Htr5]; · iexact Htr5
    isplitl [Hv00RL]; · iexact Hv00RL
    isplitl [HD6]; · iexact HD6
    isplitl [Hts6]; · iexact Hts6
    iexact Htr6
  iintro ⟨HO, Hcs4, Hcs5, Hcs6⟩
  try dsimp only
  rw [wp_bind]
  iapply (part8 m ρ K c _) $$ [HO Hv01RL HD7 Hts7 Htr7 Hk00RR]
  · isplitr; · iexact HR
    isplitr; · iexact Hlev
    isplitl [HO]; · iexact HO
    isplitl [Hv01RL]; · iexact Hv01RL
    isplitl [HD7]; · iexact HD7
    isplitl [Hts7]; · iexact Hts7
    isplitl [Htr7]; · iexact Htr7
    iexact Hk00RR
  iintro ⟨HO, Hcs7, Hk00RR⟩
  try dsimp only
  rw [wp_bind]
  iapply (part9 m ρ K c ) $$ [Hk00RR Hk01RR]
  · isplitr; · iexact HR
    isplitr; · iexact Hlev
    isplitl [Hk00RR]; · iexact Hk00RR
    iexact Hk01RR
  iintro ⟨Hk00RR, Hk01RR⟩
  try dsimp only
  rw [wp_bind]
  iapply (part10 m ρ K c ) $$ [Hk01RR Hv00RR]
  · isplitr; · iexact HR
    isplitr; · iexact Hlev
    isplitl [Hk01RR]; · iexact Hk01RR
    iexact Hv00RR
  iintro ⟨Hk01RR, Hv00RR⟩
  try dsimp only
  rw [wp_bind]
  iapply (part11 m ρ K c _) $$ [Hv00RR Hv01RR]
  · isplitr; · iexact HR
    isplitr; · iexact Hlev
    isplitl [Hv00RR]; · iexact Hv00RR
    iexact Hv01RR
  iintro ⟨Hv00RR, Hv01RR⟩
  try dsimp only
  rw [wp_bind]
  iapply (part12 m ρ K c _) $$ [HO Hcr0 Har0 HD8 Hts8 Htr8]
  · isplitr; · iexact HR
    isplitr; · iexact Hlev
    isplitl [HO]; · iexact HO
    isplitl [Hcr0]; · iexact Hcr0
    isplitl [Har0]; · iexact Har0
    isplitl [HD8]; · iexact HD8
    isplitl [Hts8]; · iexact Hts8
    iexact Htr8
  iintro ⟨HO, Har0, Hk11R, Hcs8⟩
  try dsimp only
  rw [wp_bind]
  iapply (part13 m ρ K c _ _) $$ [Hk11R HO Hcr1 Har1]
  · isplitr; · iexact HR
    isplitr; · iexact Hlev
    isplitl [Hk11R]; · iexact Hk11R
    isplitl [HO]; · iexact HO
    isplitl [Hcr1]; · iexact Hcr1
    iexact Har1
  iintro ⟨Hk11R, HO, Har1, Hk20F⟩
  try dsimp only
  rw [wp_bind]
  iapply (part14 m ρ K c ) $$ [HO Hk20F HD9 Hts9 Htr9]
  · isplitr; · iexact HR
    isplitr; · iexact Hlev
    isplitl [HO]; · iexact HO
    isplitl [Hk20F]; · iexact Hk20F
    isplitl [HD9]; · iexact HD9
    isplitl [Hts9]; · iexact Hts9
    iexact Htr9
  iintro ⟨HO, Hk20R, Hcs9⟩
  try dsimp only
  rw [wp_bind]
  iapply (part15 m ρ K c _) $$ [HO Hcr2 Har2 HD10 Hts10 Htr10]
  · isplitr; · iexact HR
    isplitr; · iexact Hlev
    isplitl [HO]; · iexact HO
    isplitl [Hcr2]; · iexact Hcr2
    isplitl [Har2]; · iexact Har2
    isplitl [HD10]; · iexact HD10
    isplitl [Hts10]; · iexact Hts10
    iexact Htr10
  iintro ⟨HO, Har2, Hv11R, Hcs10⟩
  try dsimp only
  rw [wp_bind]
  iapply (part16 m ρ K c _ _) $$ [Hv11R HO Hcr3 Har3 HD11 Hts11 Htr11]
  · isplitr; · iexact HR
    isplitr; · iexact Hlev
    isplitl [Hv11R]; · iexact Hv11R
    isplitl [HO]; · iexact HO
    isplitl [Hcr3]; · iexact Hcr3
    isplitl [Har3]; · iexact Har3
    isplitl [HD11]; · iexact HD11
    isplitl [Hts11]; · iexact Hts11
    iexact Htr11
  iintro ⟨Hv11R, HO, Har3, Hv20R, Hcs11⟩
  try dsimp only
  rw [wp_bind]
  iapply (part17 m ρ K c _) $$ [Hv20R HO Hcr4 Har4]
  · isplitr; · iexact HR
    isplitr; · iexact Hlev
    isplitl [Hv20R]; · iexact Hv20R
    isplitl [HO]; · iexact HO
    isplitl [Hcr4]; · iexact Hcr4
    iexact Har4
  iintro ⟨Hv20R, HO, Har4, Hk10F⟩
  try dsimp only
  rw [wp_bind]
  iapply (part18 m ρ K c _) $$ [Hk10F]
  · isplitr; · iexact HR
    isplitr; · iexact Hlev
    iexact Hk10F
  iintro Hk10F
  try dsimp only
  rw [wp_bind]
  iapply (part19 m ρ K c ) $$ [HO Hcr5 Har5]
  · isplitr; · iexact HR
    isplitr; · iexact Hlev
    isplitl [HO]; · iexact HO
    isplitl [Hcr5]; · iexact Hcr5
    iexact Har5
  iintro ⟨HO, Har5, Hk21F⟩
  try dsimp only
  rw [wp_bind]
  iapply (part20 m ρ K c _) $$ [HO Hcr6 Har6]
  · isplitr; · iexact HR
    isplitr; · iexact Hlev
    isplitl [HO]; · iexact HO
    isplitl [Hcr6]; · iexact Hcr6
    iexact Har6
  iintro ⟨HO, Har6, Hv10F⟩
  try dsimp only
  rw [wp_bind]
  iapply (part21 m ρ K c _) $$ [HO Hcr7 Har7]
  · isplitr; · iexact HR
    isplitr; · iexact Hlev
    isplitl [HO]; · iexact HO
    isplitl [Hcr7]; · iexact Hcr7
    iexact Har7
  iintro ⟨HO, Har7, Hv21F⟩
  try dsimp only
  rw [wp_bind]
  iapply (part22 m ρ K c _) $$ [HO Hcr8 Har8]
  · isplitr; · iexact HR
    isplitr; · iexact Hlev
    isplitl [HO]; · iexact HO
    isplitl [Hcr8]; · iexact Hcr8
    iexact Har8
  iintro ⟨HO, Har8, Hk31F⟩
  try dsimp only
  rw [wp_bind]
  iapply (part23 m ρ K c _) $$ [Hk31F HO Hcr9 Har9]
  · isplitr; · iexact HR
    isplitr; · iexact Hlev
    isplitl [Hk31F]; · iexact Hk31F
    isplitl [HO]; · iexact HO
    isplitl [Hcr9]; · iexact Hcr9
    iexact Har9
  iintro ⟨Hk31F, HO, Har9, Hk30F⟩
  try dsimp only
  rw [wp_bind]
  iapply (part24 m ρ K c _) $$ [Hk30F HO Hcr10 Har10]
  · isplitr; · iexact HR
    isplitr; · iexact Hlev
    isplitl [Hk30F]; · iexact Hk30F
    isplitl [HO]; · iexact HO
    isplitl [Hcr10]; · iexact Hcr10
    iexact Har10
  iintro ⟨Hk30F, HO, Har10, Hv31F⟩
  try dsimp only
  rw [wp_bind]
  iapply (part25 m ρ K c _) $$ [Hv31F HO Hcr11 Har11]
  · isplitr; · iexact HR
    isplitr; · iexact Hlev
    isplitl [Hv31F]; · iexact Hv31F
    isplitl [HO]; · iexact HO
    isplitl [Hcr11]; · iexact Hcr11
    iexact Har11
  iintro ⟨Hv31F, HO, Har11, Hv30F⟩
  try dsimp only
  rw [wp_bind]
  iapply (part26 m ρ K c ) $$ [Hv30F HO Hcs0 Has0 Hcs1 Has1]
  · isplitr; · iexact HR
    isplitr; · iexact Hlev
    isplitl [Hv30F]; · iexact Hv30F
    isplitl [HO]; · iexact HO
    isplitl [Hcs0]; · iexact Hcs0
    isplitl [Has0]; · iexact Has0
    isplitl [Hcs1]; · iexact Hcs1
    iexact Has1
  iintro ⟨Hv30F, HO, Has0, Hk01L, Has1, Hk00L⟩
  try dsimp only
  rw [wp_bind]
  iapply (part27 m ρ K c ) $$ [HO Hcs2 Has2 Hcs3 Has3 Hcs4 Has4 Hcs5 Has5]
  · isplitr; · iexact HR
    isplitr; · iexact Hlev
    isplitl [HO]; · iexact HO
    isplitl [Hcs2]; · iexact Hcs2
    isplitl [Has2]; · iexact Has2
    isplitl [Hcs3]; · iexact Hcs3
    isplitl [Has3]; · iexact Has3
    isplitl [Hcs4]; · iexact Hcs4
    isplitl [Has4]; · iexact Has4
    isplitl [Hcs5]; · iexact Hcs5
    iexact Has5
  iintro ⟨HO, Has2, Hv01L, Has3, Hv00L, Has4, Hk00RL, Has5, Hk01RL⟩
  try dsimp only
  rw [wp_bind]
  iapply (part28 m ρ K c ) $$ [HO Hcs6 Has6 Hcs7 Has7 Hcs8 Has8]
  · isplitr; · iexact HR
    isplitr; · iexact Hlev
    isplitl [HO]; · iexact HO
    isplitl [Hcs6]; · iexact Hcs6
    isplitl [Has6]; · iexact Has6
    isplitl [Hcs7]; · iexact Hcs7
    isplitl [Has7]; · iexact Has7
    isplitl [Hcs8]; · iexact Hcs8
    iexact Has8
  iintro ⟨HO, Has6, Hv00RL, Has7, Hv01RL, Has8, Hk11L⟩
  try dsimp only
  rw [wp_bind]
  iapply (part29 m ρ K c ) $$ [HO Hcs9 Has9 Hcs10 Has10 Hcs11 Has11]
  · isplitr; · iexact HR
    isplitr; · iexact Hlev
    isplitl [HO]; · iexact HO
    isplitl [Hcs9]; · iexact Hcs9
    isplitl [Has9]; · iexact Has9
    isplitl [Hcs10]; · iexact Hcs10
    isplitl [Has10]; · iexact Has10
    isplitl [Hcs11]; · iexact Hcs11
    iexact Has11
  iintro ⟨HO, Has9, Hk20L, Has10, Hv11L, Has11, Hv20L⟩
  try dsimp only
  rw [wp_bind]
  iapply (part30 m ρ K c ) $$ [Hout]
  · isplitr; · iexact HR
    isplitr; · iexact Hlev
    iexact Hout
  iintro Hout
  try dsimp only
  rw [wp_bind]
  iapply (part31 m ρ K c ) $$ [Hout]
  · isplitr; · iexact HR
    isplitr; · iexact Hlev
    iexact Hout
  iintro Hout
  try dsimp only
  simp only [Prog.lift, Prog.bind_op, Prog.bind_ret, Prog.pure_eq_ret, Prog.bind_assoc]
  icases Hout with ⟨%fo, Hout⟩
  iapply (wp_store 𝒱₀ (c : Thread nD τ) none Set.univ (m := oM) (r := oR1) (Mk := Finset.univ) (Finset.subset_univ _)) $$ Hout
  iintro Hout
  rw [wp_ret]
  iapply Hk
  unfold corePost
  isplitl [HO]; · iexact HO
  isplitl [Hab]; · iexact Hab
  isplitl [Hx]; · iexact Hx
  isplitl [Hwq]; · iexact Hwq
  isplitl [Hwk]; · iexact Hwk
  isplitl [Hwv]; · iexact Hwv
  isplitl [Hwo]; · iexact Hwo
  isplitl [Hout]; · rw [← out_store m ρ c fo]; iexact Hout
  isplitl [Has0]; · iexact Has0
  isplitl [Has1]; · iexact Has1
  isplitl [Has2]; · iexact Has2
  isplitl [Has3]; · iexact Has3
  isplitl [Has4]; · iexact Has4
  isplitl [Has5]; · iexact Has5
  isplitl [Has6]; · iexact Has6
  isplitl [Has7]; · iexact Has7
  isplitl [Has8]; · iexact Has8
  isplitl [Has9]; · iexact Has9
  isplitl [Has10]; · iexact Has10
  isplitl [Has11]; · iexact Has11
  isplitl [Har0]; · iexact Har0
  isplitl [Har1]; · iexact Har1
  isplitl [Har2]; · iexact Har2
  isplitl [Har3]; · iexact Har3
  isplitl [Har4]; · iexact Har4
  isplitl [Har5]; · iexact Har5
  isplitl [Har6]; · iexact Har6
  isplitl [Har7]; · iexact Har7
  isplitl [Har8]; · iexact Har8
  isplitl [Har9]; · iexact Har9
  isplitl [Har10]; · iexact Har10
  isplitl [Har11]; · iexact Har11
  isplitl [Hk00L]; · iexact Hk00L
  isplitl [Hk00RL]; · iexact Hk00RL
  isplitl [Hk00RR]; · iexact Hk00RR
  isplitl [Hk01L]; · iexact Hk01L
  isplitl [Hk01RL]; · iexact Hk01RL
  isplitl [Hk01RR]; · iexact Hk01RR
  isplitl [Hk10F]; · iexact Hk10F
  isplitl [Hk11L]; · iexact Hk11L
  isplitl [Hk11R]; · iexact Hk11R
  isplitl [Hk20L]; · iexact Hk20L
  isplitl [Hk20R]; · iexact Hk20R
  isplitl [Hk21F]; · iexact Hk21F
  isplitl [Hk30F]; · iexact Hk30F
  isplitl [Hk31F]; · iexact Hk31F
  isplitl [Hv00L]; · iexact Hv00L
  isplitl [Hv00RL]; · iexact Hv00RL
  isplitl [Hv00RR]; · iexact Hv00RR
  isplitl [Hv01L]; · iexact Hv01L
  isplitl [Hv01RL]; · iexact Hv01RL
  isplitl [Hv01RR]; · iexact Hv01RR
  isplitl [Hv10F]; · iexact Hv10F
  isplitl [Hv11L]; · iexact Hv11L
  isplitl [Hv11R]; · iexact Hv11R
  isplitl [Hv20L]; · iexact Hv20L
  isplitl [Hv20R]; · iexact Hv20R
  isplitl [Hv21F]; · iexact Hv21F
  isplitl [Hv30F]; · iexact Hv30F
  iexact Hv31F

end Core

end Cert.KernelIdealRing

end
-- ==== Proof.Body.lean ====
/-
Buffers cut into blocks, the obligation of the body, the launch and the run.
-/
module

public import proofs.«01_k».proof.Proof.Core
public import Idealize.ShloMosaic.Lib.Rounds.Family

@[expose] public section

set_option maxRecDepth 16384

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The gather buffers and their blocks -/

/-- The offset of block (s, b). -/
def pO (t : Fin 4 × Fin 2) : Fin 4 → ℕ := ![t.1.val, t.2.val, 0, 0]
theorem pO_h : ∀ (t : Fin 4 × Fin 2) (a : Fin 4), pO t a + S1x1x128x256.size a ≤ S4x2x128x256.size a := by decide
def pSet (t : Fin 4 × Fin 2) : Finset S4x2x128x256.Idx := (Rect.unit (s := S4x2x128x256) (pO t) S1x1x128x256.size (pO_h t)).set
theorem pSet_mem (t : Fin 4 × Fin 2) (i : S4x2x128x256.Idx) : i ∈ pSet t ↔ (i 0).val = t.1.val ∧ (i 1).val = t.2.val := by
  unfold pSet
  rw [Rect.mem_set_unit]
  constructor
  · intro h
    have h0 := h 0; have h1 := h 1
    have e0 : pO t 0 = t.1.val := rfl
    have e1 : pO t 1 = t.2.val := rfl
    have s0 : S1x1x128x256.size 0 = 1 := rfl
    have s1 : S1x1x128x256.size 1 = 1 := rfl
    rw [e0, s0] at h0; rw [e1, s1] at h1
    omega
  · rintro ⟨h0, h1⟩ a
    match a with
    | ⟨0, _⟩ => show t.1.val ≤ (i 0).val ∧ (i 0).val < t.1.val + 1; omega
    | ⟨1, _⟩ => show t.2.val ≤ (i 1).val ∧ (i 1).val < t.2.val + 1; omega
    | ⟨2, _⟩ => have := (i 2).isLt; exact ⟨Nat.zero_le _, by show (i 2).val < 0 + 128; have h : (i 2).val < 128 := (i 2).isLt; omega⟩
    | ⟨3, _⟩ => exact ⟨Nat.zero_le _, by show (i 3).val < 0 + 256; have h : (i 3).val < 256 := (i 3).isLt; omega⟩
theorem pSet_univ : (Finset.univ : Finset S4x2x128x256.Idx) = (Finset.univ : Finset (Fin 4 × Fin 2)).biUnion pSet := by
  ext i
  simp only [Finset.mem_univ, Finset.mem_biUnion, true_and, true_iff]
  exact ⟨(⟨(i 0).val, (i 0).isLt⟩, ⟨(i 1).val, (i 1).isLt⟩), (pSet_mem _ _).mpr ⟨rfl, rfl⟩⟩
theorem pSet_disj : ∀ t ∈ (Finset.univ : Finset (Fin 4 × Fin 2)), ∀ t' ∈ (Finset.univ : Finset (Fin 4 × Fin 2)), t ≠ t' → Disjoint (pSet t) (pSet t') := by
  intro t _ t' _ h
  rw [Finset.disjoint_left]
  intro i hi hi'
  rw [pSet_mem] at hi hi'
  exact h (Prod.ext (Fin.ext (hi.1.symm.trans hi'.1)) (Fin.ext (hi.2.symm.trans hi'.2)))

omit [FloatOps F] in
theorem kPt_set (c : Dev nD) (t : Fin 4 × Fin 2) (f : Buf (Elt F) ((c : Thread nD τ).loc cc0_scratch0)) :
    ((((c : Thread nD τ).loc cc0_scratch0) ↦[pSet t]{fullShare} f) : sProp 𝕄) = kPt c (pO t) (pO_h t) fullShare f := by
  unfold kPt pSet; rw [kP_set]
omit [FloatOps F] in
/-- A whole gather buffer is its eight blocks. -/
theorem k_blocks (c : Dev nD) (f : Buf (Elt F) ((c : Thread nD τ).loc cc0_scratch0)) :
    ((((c : Thread nD τ).loc cc0_scratch0) ↦{fullShare} f) : sProp 𝕄)
      = iprop(kPt c ![0, 0, 0, 0] inb_S4x2x128x256_S1x1x128x256_0_0_0_0 fullShare f ∗ kPt c ![0, 1, 0, 0] inb_S4x2x128x256_S1x1x128x256_0_1_0_0 fullShare f ∗ kPt c ![1, 0, 0, 0] inb_S4x2x128x256_S1x1x128x256_1_0_0_0 fullShare f ∗ kPt c ![1, 1, 0, 0] inb_S4x2x128x256_S1x1x128x256_1_1_0_0 fullShare f ∗ kPt c ![2, 0, 0, 0] inb_S4x2x128x256_S1x1x128x256_2_0_0_0 fullShare f ∗ kPt c ![2, 1, 0, 0] inb_S4x2x128x256_S1x1x128x256_2_1_0_0 fullShare f ∗ kPt c ![3, 0, 0, 0] inb_S4x2x128x256_S1x1x128x256_3_0_0_0 fullShare f ∗ kPt c ![3, 1, 0, 0] inb_S4x2x128x256_S1x1x128x256_3_1_0_0 fullShare f) := by
  have h1 : ((((c : Thread nD τ).loc cc0_scratch0) ↦{fullShare} f) : sProp 𝕄)
      = (((c : Thread nD τ).loc cc0_scratch0) ↦[(Finset.univ : Finset (Fin 4 × Fin 2)).biUnion pSet]{fullShare} f) :=
    congrArg (fun S => ((((c : Thread nD τ).loc cc0_scratch0) ↦[S]{fullShare} f) : sProp 𝕄)) pSet_univ
  rw [h1, pointsTo_biUnion _ _ pSet_disj, bigSep_congr (fun t _ => kPt_set c t f), bigSep_univ_eq_bigSepL [(0, 0), (0, 1), (1, 0), (1, 1), (2, 0), (2, 1), (3, 0), (3, 1)] (by decide) (by decide)]
  rfl
omit [FloatOps F] in
theorem kJoin2 (c : Dev nD) (o : Fin 4 → ℕ) (h f) :
    iprop(kPt (F := F) c o h fullShare.left f ∗ kPt c o h fullShare.right f) ⊢ kPt c o h fullShare f := by
  unfold kPt
  exact (pointsTo_share (PosShare.mem_left_op_right fullShare)).2
omit [FloatOps F] in
theorem kJoin3 (c : Dev nD) (o : Fin 4 → ℕ) (h f) :
    iprop(kPt (F := F) c o h fullShare.left f ∗ kPt c o h fullShare.right.left f ∗ kPt c o h fullShare.right.right f) ⊢ kPt c o h fullShare f := by
  unfold kPt
  exact (sep_mono_right (pointsTo_share (PosShare.mem_left_op_right fullShare.right)).2).trans (pointsTo_share (PosShare.mem_left_op_right fullShare)).2

omit [FloatOps F] in
theorem vPt_set (c : Dev nD) (t : Fin 4 × Fin 2) (f : Buf (Elt F) ((c : Thread nD τ).loc cc0_scratch1)) :
    ((((c : Thread nD τ).loc cc0_scratch1) ↦[pSet t]{fullShare} f) : sProp 𝕄) = vPt c (pO t) (pO_h t) fullShare f := by
  unfold vPt pSet; rw [vP_set]
omit [FloatOps F] in
/-- A whole gather buffer is its eight blocks. -/
theorem v_blocks (c : Dev nD) (f : Buf (Elt F) ((c : Thread nD τ).loc cc0_scratch1)) :
    ((((c : Thread nD τ).loc cc0_scratch1) ↦{fullShare} f) : sProp 𝕄)
      = iprop(vPt c ![0, 0, 0, 0] inb_S4x2x128x256_S1x1x128x256_0_0_0_0 fullShare f ∗ vPt c ![0, 1, 0, 0] inb_S4x2x128x256_S1x1x128x256_0_1_0_0 fullShare f ∗ vPt c ![1, 0, 0, 0] inb_S4x2x128x256_S1x1x128x256_1_0_0_0 fullShare f ∗ vPt c ![1, 1, 0, 0] inb_S4x2x128x256_S1x1x128x256_1_1_0_0 fullShare f ∗ vPt c ![2, 0, 0, 0] inb_S4x2x128x256_S1x1x128x256_2_0_0_0 fullShare f ∗ vPt c ![2, 1, 0, 0] inb_S4x2x128x256_S1x1x128x256_2_1_0_0 fullShare f ∗ vPt c ![3, 0, 0, 0] inb_S4x2x128x256_S1x1x128x256_3_0_0_0 fullShare f ∗ vPt c ![3, 1, 0, 0] inb_S4x2x128x256_S1x1x128x256_3_1_0_0 fullShare f) := by
  have h1 : ((((c : Thread nD τ).loc cc0_scratch1) ↦{fullShare} f) : sProp 𝕄)
      = (((c : Thread nD τ).loc cc0_scratch1) ↦[(Finset.univ : Finset (Fin 4 × Fin 2)).biUnion pSet]{fullShare} f) :=
    congrArg (fun S => ((((c : Thread nD τ).loc cc0_scratch1) ↦[S]{fullShare} f) : sProp 𝕄)) pSet_univ
  rw [h1, pointsTo_biUnion _ _ pSet_disj, bigSep_congr (fun t _ => vPt_set c t f), bigSep_univ_eq_bigSepL [(0, 0), (0, 1), (1, 0), (1, 1), (2, 0), (2, 1), (3, 0), (3, 1)] (by decide) (by decide)]
  rfl
omit [FloatOps F] in
theorem vJoin2 (c : Dev nD) (o : Fin 4 → ℕ) (h f) :
    iprop(vPt (F := F) c o h fullShare.left f ∗ vPt c o h fullShare.right f) ⊢ vPt c o h fullShare f := by
  unfold vPt
  exact (pointsTo_share (PosShare.mem_left_op_right fullShare)).2
omit [FloatOps F] in
theorem vJoin3 (c : Dev nD) (o : Fin 4 → ℕ) (h f) :
    iprop(vPt (F := F) c o h fullShare.left f ∗ vPt c o h fullShare.right.left f ∗ vPt c o h fullShare.right.right f) ⊢ vPt c o h fullShare f := by
  unfold vPt
  exact (sep_mono_right (pointsTo_share (PosShare.mem_left_op_right fullShare.right)).2).trans (pointsTo_share (PosShare.mem_left_op_right fullShare)).2

/-! ## The ghost state of a device -/

omit [FloatOps F] in
theorem bigSep_fin25 (Φ : Fin 25 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24) :=
  bigSep_univ_eq_bigSepL [0, 1, 2, 3, 4, 5, 6, 7, 8, 9, 10, 11, 12, 13, 14, 15, 16, 17, 18, 19, 20, 21, 22, 23, 24] (by decide) (by decide) Φ
omit [FloatOps F] in
theorem bigSep_fin12 (Φ : Fin 12 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-- The positions of a device at its cells, before (`n = 0`) and after (`n = 1`) the round. -/
def atAll (c : Dev nD) (n : ℕ) : sProp 𝕄 := bigSep Finset.univ fun k : Fin 25 => atPos ER (kcell (c, k)) n ∅ 0
omit [FloatOps F] in
theorem atAll_eq (c : Dev nD) (n : ℕ) : (atAll c n : sProp 𝕄) = iprop(atPos ER (barCell c) n ∅ 0 ∗ atPos ER ((c : Thread nD τ), .dma sS0) n ∅ 0 ∗ atPos ER ((c : Thread nD τ), .dma sS1) n ∅ 0 ∗ atPos ER ((c : Thread nD τ), .dma sS2) n ∅ 0 ∗ atPos ER ((c : Thread nD τ), .dma sS3) n ∅ 0 ∗ atPos ER ((c : Thread nD τ), .dma sS4) n ∅ 0 ∗ atPos ER ((c : Thread nD τ), .dma sS5) n ∅ 0 ∗ atPos ER ((c : Thread nD τ), .dma sS6) n ∅ 0 ∗ atPos ER ((c : Thread nD τ), .dma sS7) n ∅ 0 ∗ atPos ER ((c : Thread nD τ), .dma sS8) n ∅ 0 ∗ atPos ER ((c : Thread nD τ), .dma sS9) n ∅ 0 ∗ atPos ER ((c : Thread nD τ), .dma sS10) n ∅ 0 ∗ atPos ER ((c : Thread nD τ), .dma sS11) n ∅ 0 ∗ atPos ER ((c : Thread nD τ), .dma rS0) n ∅ 0 ∗ atPos ER ((c : Thread nD τ), .dma rS1) n ∅ 0 ∗ atPos ER ((c : Thread nD τ), .dma rS2) n ∅ 0 ∗ atPos ER ((c : Thread nD τ), .dma rS3) n ∅ 0 ∗ atPos ER ((c : Thread nD τ), .dma rS4) n ∅ 0 ∗ atPos ER ((c : Thread nD τ), .dma rS5) n ∅ 0 ∗ atPos ER ((c : Thread nD τ), .dma rS6) n ∅ 0 ∗ atPos ER ((c : Thread nD τ), .dma rS7) n ∅ 0 ∗ atPos ER ((c : Thread nD τ), .dma rS8) n ∅ 0 ∗ atPos ER ((c : Thread nD τ), .dma rS9) n ∅ 0 ∗ atPos ER ((c : Thread nD τ), .dma rS10) n ∅ 0 ∗ atPos ER ((c : Thread nD τ), .dma rS11) n ∅ 0) := by
  unfold atAll; rw [bigSep_fin25]; rfl
/-- The neighbour that transfer `i` goes to. -/
def tgtD (c : Dev nD) (i : Fin 12) : Dev nD := if i.val % 2 = 0 then nxt c else prv c
/-- The tokens of the duties a device pays. -/
def payToks (c : Dev nD) : sProp 𝕄 :=
  iprop(dutyTok ER (barCell (prv c)) 0 true ∗ dutyTok ER (barCell (nxt c)) 0 false
    ∗ (bigSep Finset.univ fun i : Fin 12 => dutyTok ER (sCell c i) 0 false)
    ∗ (bigSep Finset.univ fun i : Fin 12 => dutyTok ER (rCell (tgtD c i) i) 0 false))
omit [FloatOps F] in
theorem payToks_eq (c : Dev nD) : (payToks c : sProp 𝕄) = iprop(dutyTok ER (barCell (prv c)) 0 true ∗ dutyTok ER (barCell (nxt c)) 0 false
    ∗ (dutyTok ER ((c : Thread nD τ), .dma sS0) 0 false ∗ dutyTok ER ((c : Thread nD τ), .dma sS1) 0 false ∗ dutyTok ER ((c : Thread nD τ), .dma sS2) 0 false ∗ dutyTok ER ((c : Thread nD τ), .dma sS3) 0 false ∗ dutyTok ER ((c : Thread nD τ), .dma sS4) 0 false ∗ dutyTok ER ((c : Thread nD τ), .dma sS5) 0 false ∗ dutyTok ER ((c : Thread nD τ), .dma sS6) 0 false ∗ dutyTok ER ((c : Thread nD τ), .dma sS7) 0 false ∗ dutyTok ER ((c : Thread nD τ), .dma sS8) 0 false ∗ dutyTok ER ((c : Thread nD τ), .dma sS9) 0 false ∗ dutyTok ER ((c : Thread nD τ), .dma sS10) 0 false ∗ dutyTok ER ((c : Thread nD τ), .dma sS11) 0 false)
    ∗ (dutyTok ER (((nxt c) : Thread nD τ), .dma rS0) 0 false ∗ dutyTok ER (((prv c) : Thread nD τ), .dma rS1) 0 false ∗ dutyTok ER (((nxt c) : Thread nD τ), .dma rS2) 0 false ∗ dutyTok ER (((prv c) : Thread nD τ), .dma rS3) 0 false ∗ dutyTok ER (((nxt c) : Thread nD τ), .dma rS4) 0 false ∗ dutyTok ER (((prv c) : Thread nD τ), .dma rS5) 0 false ∗ dutyTok ER (((nxt c) : Thread nD τ), .dma rS6) 0 false ∗ dutyTok ER (((prv c) : Thread nD τ), .dma rS7) 0 false ∗ dutyTok ER (((nxt c) : Thread nD τ), .dma rS8) 0 false ∗ dutyTok ER (((prv c) : Thread nD τ), .dma rS9) 0 false ∗ dutyTok ER (((nxt c) : Thread nD τ), .dma rS10) 0 false ∗ dutyTok ER (((prv c) : Thread nD τ), .dma rS11) 0 false)) := by
  unfold payToks; rw [bigSep_fin12, bigSep_fin12]; rfl
/-- The credit of a device's waits. -/
def credsAll (c : Dev nD) : sProp 𝕄 :=
  iprop(cred (tallyAt (barCell c) () 2) ∗ bigSep Finset.univ fun i : Fin 12 => cred (tallyAt (rCell c i) () N))
omit [FloatOps F] in
theorem credsAll_eq (c : Dev nD) : (credsAll c : sProp 𝕄) = iprop(cred (tallyAt (barCell c) () 2) ∗ cred (tallyAt ((c : Thread nD τ), .dma rS0) () N) ∗ cred (tallyAt ((c : Thread nD τ), .dma rS1) () N) ∗ cred (tallyAt ((c : Thread nD τ), .dma rS2) () N) ∗ cred (tallyAt ((c : Thread nD τ), .dma rS3) () N) ∗ cred (tallyAt ((c : Thread nD τ), .dma rS4) () N) ∗ cred (tallyAt ((c : Thread nD τ), .dma rS5) () N) ∗ cred (tallyAt ((c : Thread nD τ), .dma rS6) () N) ∗ cred (tallyAt ((c : Thread nD τ), .dma rS7) () N) ∗ cred (tallyAt ((c : Thread nD τ), .dma rS8) () N) ∗ cred (tallyAt ((c : Thread nD τ), .dma rS9) () N) ∗ cred (tallyAt ((c : Thread nD τ), .dma rS10) () N) ∗ cred (tallyAt ((c : Thread nD τ), .dma rS11) () N)) := by
  unfold credsAll; rw [bigSep_fin12]; rfl

/-- The closing of a device's cells after the round. -/
theorem close_all (K : Dev nD × Fin 25 → ℕ) (c : Dev nD) :
    iprop(records m ρ K ∗ atAll c (0 + 1)) ⊢ (|={Set.univ}=> bigSep Finset.univ fun k : Fin 25 => semVal (kcell (c, k)) 0 : sProp 𝕄) := by
  have h : iprop(records m ρ K ∗ atAll c (0 + 1)) ⊢ (bigSep Finset.univ fun k : Fin 25 => iprop(cellInv ER (ringRd m ρ) (K (c, k)) (kcell (c, k)) ∗ atPos ER (kcell (c, k)) (0 + 1) ∅ 0) : sProp 𝕄) := by
    unfold atAll
    refine (sep_mono_left (BI.bigSep_of_persistent (Finset.univ : Finset (Fin 25)) (records m ρ K))).trans ?_
    rw [← bigSep_sep']
    have hk : ∀ k : Fin 25, records m ρ K ⊢ cellInv ER (ringRd m ρ) (K (c, k)) (kcell (c, k)) := fun k => by
      unfold records
      exact sep_elim_left.trans (bigSep_elim (Finset.mem_univ ((c, k) : Dev nD × Fin 25)))
    exact bigSep_mono fun k _ => show iprop(records m ρ K ∗ atPos ER (kcell (c, k)) (0 + 1) ∅ 0)
      ⊢ (iprop(cellInv ER (ringRd m ρ) (K (c, k)) (kcell (c, k)) ∗ atPos ER (kcell (c, k)) (0 + 1) ∅ 0) : sProp 𝕄) from sep_mono_left (hk k)
  exact h.trans (Rounds.cells_close ER (ringRd m ρ) Finset.univ (fun k : Fin 25 => kcell (c, k)) (fun k => K (c, k)) (Es := Set.univ)
    (fun _ _ => Set.mem_univ _) (fun _ _ h => h) (fun _ => 0 + 1) (fun k _ => duties_later m ρ (kcell (c, k))))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device's body starts from besides the staged arguments. -/
def start (c : Dev nD) : sProp 𝕄 :=
  iprop((∃ K, records m ρ K ∗ atAll c 0 ∗ payToks c) ∗ credsAll c ∗ levAts L lv)
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
def Φ₀ (c : Dev nD) : sProp 𝕄 := iprop(start m ρ c ∗ scr c)
/-- After the body: the gather buffers at some contents, every cell closed at zero. -/
def Φ₁ (c : Dev nD) : sProp 𝕄 := iprop(scr c ∗ bigSep Finset.univ fun k : Fin 25 => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wqstg m ρ c
    | ⟨2, _⟩ => wkstg m ρ c
    | ⟨3, _⟩ => wvstg m ρ c
    | ⟨4, _⟩ => wostg m ρ c
    | ⟨5, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))
def bodyPost (c : Dev nD) : sProp 𝕄 :=
  iprop(Φ₁ c ∗ (dats m ρ 0 c).owesAt () t₀.succ ∗ stg c cc0_stg0_0 (xstg m ρ c) ∗ stg c cc0_stg1_0 (wqstg m ρ c)
    ∗ stg c cc0_stg2_0 (wkstg m ρ c) ∗ stg c cc0_stg3_0 (wvstg m ρ c) ∗ stg c cc0_stg4_0 (wostg m ρ c) ∗ stg c cc0_stg5_0 (outAt m ρ c))

theorem before_0 (c : Dev nD) (d) : (dats m ρ 0 c).before (0 : Fin 6) t₀ d = xstg m ρ c := by
  unfold Dat.before; rw [if_pos (fetch0_0 t₀)]; rfl
theorem before_1 (c : Dev nD) (d) : (dats m ρ 0 c).before (1 : Fin 6) t₀ d = wqstg m ρ c := by
  unfold Dat.before; rw [if_pos (fetch0_1 t₀)]; rfl
theorem before_2 (c : Dev nD) (d) : (dats m ρ 0 c).before (2 : Fin 6) t₀ d = wkstg m ρ c := by
  unfold Dat.before; rw [if_pos (fetch0_2 t₀)]; rfl
theorem before_3 (c : Dev nD) (d) : (dats m ρ 0 c).before (3 : Fin 6) t₀ d = wvstg m ρ c := by
  unfold Dat.before; rw [if_pos (fetch0_3 t₀)]; rfl
theorem before_4 (c : Dev nD) (d) : (dats m ρ 0 c).before (4 : Fin 6) t₀ d = wostg m ρ c := by
  unfold Dat.before; rw [if_pos (fetch0_4 t₀)]; rfl

set_option maxHeartbeats 2000000 in
/-- The body from what the launch hands it to what it must leave. -/
theorem sound_body (c : Dev nD) :
    bodyPre m ρ c ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3) (fun _ => bodyPost m ρ c) := by
  unfold bodyPre Φ₀ start scr
  iintro ⟨⟨⟨⟨%K, #HR, Hat, Htok⟩, Hcr, #Hlev⟩, ⟨%fk, Hkb⟩, ⟨%fv, Hvb⟩⟩, Ho, ⟨%d0, %g0, %hg0, Hx⟩, ⟨%d1, %g1, %hg1, Hwq⟩, ⟨%d2, %g2, %hg2, Hwk⟩, ⟨%d3, %g3, %hg3, Hwv⟩, ⟨%d4, %g4, %hg4, Hwo⟩, ⟨%d5, %g5, -, Hout⟩⟩
  have hx0 := hg0.trans (before_0 m ρ c d0)
  have hx1 := hg1.trans (before_1 m ρ c d1)
  have hx2 := hg2.trans (before_2 m ρ c d2)
  have hx3 := hg3.trans (before_3 m ρ c d3)
  have hx4 := hg4.trans (before_4 m ρ c d4)
  ihave Hkb := (Entails.of_eq (k_blocks (F := F) c fk)) $$ Hkb
  ihave Hvb := (Entails.of_eq (v_blocks (F := F) c fv)) $$ Hvb
  ihave Hat := (Entails.of_eq (atAll_eq (F := F) c 0)) $$ Hat
  ihave Htok := (Entails.of_eq (payToks_eq (F := F) c)) $$ Htok
  ihave Hcr := (Entails.of_eq (credsAll_eq (F := F) c)) $$ Hcr
  icases Hkb with ⟨Hk00, Hk01, Hk10, Hk11, Hk20, Hk21, Hk30, Hk31⟩
  icases Hvb with ⟨Hv00, Hv01, Hv10, Hv11, Hv20, Hv21, Hv30, Hv31⟩
  icases Hat with ⟨Hab, Has0, Has1, Has2, Has3, Has4, Has5, Has6, Has7, Has8, Has9, Has10, Has11, Har0, Har1, Har2, Har3, Har4, Har5, Har6, Har7, Har8, Har9, Har10, Har11⟩
  icases Htok with ⟨Htb, Htc, ⟨Hts0, Hts1, Hts2, Hts3, Hts4, Hts5, Hts6, Hts7, Hts8, Hts9, Hts10, Hts11⟩, Htr0, Htr1, Htr2, Htr3, Htr4, Htr5, Htr6, Htr7, Htr8, Htr9, Htr10, Htr11⟩
  icases Hcr with ⟨Hcb, Hcr0, Hcr1, Hcr2, Hcr3, Hcr4, Hcr5, Hcr6, Hcr7, Hcr8, Hcr9, Hcr10, Hcr11⟩
  unfold Dat.owesAt Pipeline.owesWithin
  icases Ho with ⟨%W, -, HO⟩
  rw [show (dats m ρ 0 c).owed t₀.castSucc = owe c 14 from rfl]
  iapply (core m ρ K c) $$ [HO Hk11 Hv11 Hk10 Hv10 Hk31 Hv31 Hk20 Hv20 Hk21 Hv21 Hk30 Hv30 Htb Htc Hcb Hab Hx Hwq Hwk Hwv Hwo Hout Hts0 Hts1 Hts2 Hts3 Hts4 Hts5 Hts6 Hts7 Hts8 Hts9 Hts10 Hts11 Htr0 Htr1 Htr2 Htr3 Htr4 Htr5 Htr6 Htr7 Htr8 Htr9 Htr10 Htr11 Hcr0 Hcr1 Hcr2 Hcr3 Hcr4 Hcr5 Hcr6 Hcr7 Hcr8 Hcr9 Hcr10 Hcr11 Has0 Has1 Has2 Has3 Has4 Has5 Has6 Has7 Has8 Has9 Has10 Has11 Har0 Har1 Har2 Har3 Har4 Har5 Har6 Har7 Har8 Har9 Har10 Har11 Hk00 Hk01 Hv00 Hv01]
  · isplitr; · iexact HR
    isplitr; · iexact Hlev
    unfold corePre
    isplitl [HO]
    · iexists W; iexact HO
    isplitl [Hk11 Hv11 Hk10 Hv10 Hk31 Hv31]
    · unfold fromLeft; iexists fk; iexists fv
      isplitl [Hk11]; · iexact Hk11
      isplitl [Hv11]; · iexact Hv11
      isplitl [Hk10]; · iexact Hk10
      isplitl [Hv10]; · iexact Hv10
      isplitl [Hk31]; · iexact Hk31
      iexact Hv31
    isplitl [Hk20 Hv20 Hk21 Hv21 Hk30 Hv30]
    · unfold fromRight; iexists fk; iexists fv
      isplitl [Hk20]; · iexact Hk20
      isplitl [Hv20]; · iexact Hv20
      isplitl [Hk21]; · iexact Hk21
      isplitl [Hv21]; · iexact Hv21
      isplitl [Hk30]; · iexact Hk30
      iexact Hv30
    isplitl [Htb]
    · iexact Htb
    isplitl [Htc]
    · iexact Htc
    isplitl [Hcb]
    · iexact Hcb
    isplitl [Hab]
    · iexact Hab
    isplitl [Hx]
    · rw [← hx0]; iexact Hx
    isplitl [Hwq]
    · rw [← hx1]; iexact Hwq
    isplitl [Hwk]
    · rw [← hx2]; iexact Hwk
    isplitl [Hwv]
    · rw [← hx3]; iexact Hwv
    isplitl [Hwo]
    · rw [← hx4]; iexact Hwo
    isplitl [Hout]
    · iexists g5; iexact Hout
    isplitl [Hts0]
    · iexact Hts0
    isplitl [Hts1]
    · iexact Hts1
    isplitl [Hts2]
    · iexact Hts2
    isplitl [Hts3]
    · iexact Hts3
    isplitl [Hts4]
    · iexact Hts4
    isplitl [Hts5]
    · iexact Hts5
    isplitl [Hts6]
    · iexact Hts6
    isplitl [Hts7]
    · iexact Hts7
    isplitl [Hts8]
    · iexact Hts8
    isplitl [Hts9]
    · iexact Hts9
    isplitl [Hts10]
    · iexact Hts10
    isplitl [Hts11]
    · iexact Hts11
    isplitl [Htr0]
    · iexact Htr0
    isplitl [Htr1]
    · iexact Htr1
    isplitl [Htr2]
    · iexact Htr2
    isplitl [Htr3]
    · iexact Htr3
    isplitl [Htr4]
    · iexact Htr4
    isplitl [Htr5]
    · iexact Htr5
    isplitl [Htr6]
    · iexact Htr6
    isplitl [Htr7]
    · iexact Htr7
    isplitl [Htr8]
    · iexact Htr8
    isplitl [Htr9]
    · iexact Htr9
    isplitl [Htr10]
    · iexact Htr10
    isplitl [Htr11]
    · iexact Htr11
    isplitl [Hcr0]
    · iexact Hcr0
    isplitl [Hcr1]
    · iexact Hcr1
    isplitl [Hcr2]
    · iexact Hcr2
    isplitl [Hcr3]
    · iexact Hcr3
    isplitl [Hcr4]
    · iexact Hcr4
    isplitl [Hcr5]
    · iexact Hcr5
    isplitl [Hcr6]
    · iexact Hcr6
    isplitl [Hcr7]
    · iexact Hcr7
    isplitl [Hcr8]
    · iexact Hcr8
    isplitl [Hcr9]
    · iexact Hcr9
    isplitl [Hcr10]
    · iexact Hcr10
    isplitl [Hcr11]
    · iexact Hcr11
    isplitl [Has0]
    · iexact Has0
    isplitl [Has1]
    · iexact Has1
    isplitl [Has2]
    · iexact Has2
    isplitl [Has3]
    · iexact Has3
    isplitl [Has4]
    · iexact Has4
    isplitl [Has5]
    · iexact Has5
    isplitl [Has6]
    · iexact Has6
    isplitl [Has7]
    · iexact Has7
    isplitl [Has8]
    · iexact Has8
    isplitl [Has9]
    · iexact Has9
    isplitl [Has10]
    · iexact Has10
    isplitl [Has11]
    · iexact Has11
    isplitl [Har0]
    · iexact Har0
    isplitl [Har1]
    · iexact Har1
    isplitl [Har2]
    · iexact Har2
    isplitl [Har3]
    · iexact Har3
    isplitl [Har4]
    · iexact Har4
    isplitl [Har5]
    · iexact Har5
    isplitl [Har6]
    · iexact Har6
    isplitl [Har7]
    · iexact Har7
    isplitl [Har8]
    · iexact Har8
    isplitl [Har9]
    · iexact Har9
    isplitl [Har10]
    · iexact Har10
    isplitl [Har11]
    · iexact Har11
    isplitl [Hk00]
    · iexists fk; iexact Hk00
    isplitl [Hk01]
    · iexists fk; iexact Hk01
    isplitl [Hv00]
    · iexists fv; iexact Hv00
    iexists fv; iexact Hv01
  unfold corePost
  iintro ⟨HO, Hab, Hx, Hwq, Hwk, Hwv, Hwo, Hout, Has0, Has1, Has2, Has3, Has4, Has5, Has6, Has7, Has8, Has9, Has10, Has11, Har0, Har1, Har2, Har3, Har4, Har5, Har6, Har7, Har8, Har9, Har10, Har11, Hk00L, Hk00RL, Hk00RR, Hk01L, Hk01RL, Hk01RR, Hk10F, Hk11L, Hk11R, Hk20L, Hk20R, Hk21F, Hk30F, Hk31F, Hv00L, Hv00RL, Hv00RR, Hv01L, Hv01RL, Hv01RR, Hv10F, Hv11L, Hv11R, Hv20L, Hv20R, Hv21F, Hv30F, Hv31F⟩
  icases HO with ⟨%W2, HO⟩
  imod (close_all m ρ K c) $$ [Hab Has0 Has1 Has2 Has3 Has4 Has5 Has6 Has7 Has8 Has9 Has10 Has11 Har0 Har1 Har2 Har3 Har4 Har5 Har6 Har7 Har8 Har9 Har10 Har11] with Hz
  · isplitr; · iexact HR
    rw [atAll_eq]
    isplitl [Hab]; · iexact Hab
    isplitl [Has0]; · iexact Has0
    isplitl [Has1]; · iexact Has1
    isplitl [Has2]; · iexact Has2
    isplitl [Has3]; · iexact Has3
    isplitl [Has4]; · iexact Has4
    isplitl [Has5]; · iexact Has5
    isplitl [Has6]; · iexact Has6
    isplitl [Has7]; · iexact Has7
    isplitl [Has8]; · iexact Has8
    isplitl [Has9]; · iexact Has9
    isplitl [Has10]; · iexact Has10
    isplitl [Has11]; · iexact Has11
    isplitl [Har0]; · iexact Har0
    isplitl [Har1]; · iexact Har1
    isplitl [Har2]; · iexact Har2
    isplitl [Har3]; · iexact Har3
    isplitl [Har4]; · iexact Har4
    isplitl [Har5]; · iexact Har5
    isplitl [Har6]; · iexact Har6
    isplitl [Har7]; · iexact Har7
    isplitl [Har8]; · iexact Har8
    isplitl [Har9]; · iexact Har9
    isplitl [Har10]; · iexact Har10
    iexact Har11
  ihave Hk00F := (kJoin3 (F := F) c _ _ _) $$ [Hk00L Hk00RL Hk00RR]
  · isplitl [Hk00L]; · iexact Hk00L
    isplitl [Hk00RL]; · iexact Hk00RL
    iexact Hk00RR
  ihave Hk01F := (kJoin3 (F := F) c _ _ _) $$ [Hk01L Hk01RL Hk01RR]
  · isplitl [Hk01L]; · iexact Hk01L
    isplitl [Hk01RL]; · iexact Hk01RL
    iexact Hk01RR
  ihave Hk11F := (kJoin2 (F := F) c _ _ _) $$ [Hk11L Hk11R]
  · isplitl [Hk11L]; · iexact Hk11L
    iexact Hk11R
  ihave Hk20F := (kJoin2 (F := F) c _ _ _) $$ [Hk20L Hk20R]
  · isplitl [Hk20L]; · iexact Hk20L
    iexact Hk20R
  ihave Hv00F := (vJoin3 (F := F) c _ _ _) $$ [Hv00L Hv00RL Hv00RR]
  · isplitl [Hv00L]; · iexact Hv00L
    isplitl [Hv00RL]; · iexact Hv00RL
    iexact Hv00RR
  ihave Hv01F := (vJoin3 (F := F) c _ _ _) $$ [Hv01L Hv01RL Hv01RR]
  · isplitl [Hv01L]; · iexact Hv01L
    isplitl [Hv01RL]; · iexact Hv01RL
    iexact Hv01RR
  ihave Hv11F := (vJoin2 (F := F) c _ _ _) $$ [Hv11L Hv11R]
  · isplitl [Hv11L]; · iexact Hv11L
    iexact Hv11R
  ihave Hv20F := (vJoin2 (F := F) c _ _ _) $$ [Hv20L Hv20R]
  · isplitl [Hv20L]; · iexact Hv20L
    iexact Hv20R
  imodintro
  unfold bodyPost Φ₁ scr Dat.owesAt Pipeline.owesWithin
  rw [show (dats m ρ 0 c).owed t₀.succ = 0 from rfl]
  isplitl [Hk00F Hk01F Hk10F Hk11F Hk20F Hk21F Hk30F Hk31F Hv00F Hv01F Hv10F Hv11F Hv20F Hv21F Hv30F Hv31F Hz]
  · isplitr [Hz]
    · isplitl [Hk00F Hk01F Hk10F Hk11F Hk20F Hk21F Hk30F Hk31F]
      · iexists (kAll m ρ c); rw [k_blocks]
        isplitl [Hk00F]; · iexact Hk00F
        isplitl [Hk01F]; · iexact Hk01F
        isplitl [Hk10F]; · iexact Hk10F
        isplitl [Hk11F]; · iexact Hk11F
        isplitl [Hk20F]; · iexact Hk20F
        isplitl [Hk21F]; · iexact Hk21F
        isplitl [Hk30F]; · iexact Hk30F
        iexact Hk31F
      · iexists (vAll m ρ c); rw [v_blocks]
        isplitl [Hv00F]; · iexact Hv00F
        isplitl [Hv01F]; · iexact Hv01F
        isplitl [Hv10F]; · iexact Hv10F
        isplitl [Hv11F]; · iexact Hv11F
        isplitl [Hv20F]; · iexact Hv20F
        isplitl [Hv21F]; · iexact Hv21F
        isplitl [Hv30F]; · iexact Hv30F
        iexact Hv31F
    · iexact Hz
  isplitl [HO]
  · iexists W2
    isplitr; · ipureintro; exact fun _ _ => Or.inl trivial
    iexact HO
  isplitl [Hx]
  · iexists _; isplitr; · (ipureintro; rfl)
    iexact Hx
  isplitl [Hwq]
  · iexists _; isplitr; · (ipureintro; rfl)
    iexact Hwq
  isplitl [Hwk]
  · iexists _; isplitr; · (ipureintro; rfl)
    iexact Hwk
  isplitl [Hwv]
  · iexists _; isplitr; · (ipureintro; rfl)
    iexact Hwv
  isplitl [Hwo]
  · iexists _; isplitr; · (ipureintro; rfl)
    iexact Hwo
  iexists _; isplitr; · (ipureintro; rfl)
  iexact Hout

omit [FloatOps F] in
theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3) (fun _ => bodyPost m ρ c)
  exact sound_body m ρ c

end Cert.KernelIdealRing

end
-- ==== Proof.Run.lean ====
/-
The launch of the kernel, and its run: what every fair execution ends with.
-/
module

public import proofs.«01_k».proof.Proof.Body
public import Idealize.ShloMosaic.Lib.Pipeline.CollectiveSegs

@[expose] public section

set_option maxRecDepth 16384

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide
theorem kcell_injective : Function.Injective (kcell : Dev nD × Fin 25 → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]
def ringCells : Finset (GSem nD τ sig) := Finset.univ.map ⟨kcell, kcell_injective⟩

/-- The duty tokens of a device's own cells: the two of its barrier, then one for each transfer semaphore. -/
def tokIx (j : Fin 26) : Fin 25 × Bool := (⟨j.val - 1, by have := j.isLt; omega⟩, decide (j.val = 1))
theorem tokIx_injective : Function.Injective (fun j : Fin 26 => ((tokIx j).1, (tokIx j).2)) := by decide
def tokOf (cj : Dev nD × Fin 26) : GSem nD τ sig × ℕ × Bool := (kcell (cj.1, (tokIx cj.2).1), 0, (tokIx cj.2).2)
theorem tokOf_injective : Function.Injective (tokOf : Dev nD × Fin 26 → GSem nD τ sig × ℕ × Bool) := by
  rintro ⟨c, j⟩ ⟨c', j'⟩ h
  have h1 : kcell (c, (tokIx j).1) = kcell (c', (tokIx j').1) := congrArg Prod.fst h
  have h2 : (tokIx j).2 = (tokIx j').2 := congrArg (fun x : GSem nD τ sig × ℕ × Bool => x.2.2) h
  have h3 := kcell_injective h1
  have h4 : c = c' := congrArg Prod.fst h3
  have h5 : (tokIx j).1 = (tokIx j').1 := congrArg Prod.snd h3
  have h6 : j = j' := tokIx_injective (Prod.ext h5 h2)
  rw [h4, h6]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(dutyTok ER (barCell c) 0 false ∗ dutyTok ER (barCell c) 0 true
    ∗ (bigSep Finset.univ fun i : Fin 12 => dutyTok ER (sCell c i) 0 false)
    ∗ (bigSep Finset.univ fun i : Fin 12 => dutyTok ER (rCell c i) 0 false))

/-- What the launch element deals device `c`. -/
def G (c : Dev nD) : sProp 𝕄 :=
  iprop((bigSep Finset.univ fun k : Fin 25 => roundState ER (ringRd m ρ) (kcell (c, k)) 0)
    ∗ (bigSep Finset.univ fun k : Fin 25 => iprop(atPos ER (kcell (c, k)) 0 ∅ 0 ∗ reached ER (kcell (c, k)) 0)) ∗ toks c)

/-- What the global step makes of it. -/
def G' (c : Dev nD) : sProp 𝕄 := iprop(∃ K, records m ρ K ∗ atAll c 0 ∗ payToks c)

omit [FloatOps F] in
theorem toks_of (c : Dev nD) : (bigSep Finset.univ fun j : Fin 26 => (dutyTok ER (tokOf (c, j)).1 (tokOf (c, j)).2.1 (tokOf (c, j)).2.2 : sProp 𝕄)) = toks c := by
  unfold toks
  rw [bigSep_fin12, bigSep_fin12, bigSep_univ_eq_bigSepL [0, 1, 2, 3, 4, 5, 6, 7, 8, 9, 10, 11, 12, 13, 14, 15, 16, 17, 18, 19, 20, 21, 22, 23, 24, 25] (by decide) (by decide)]
  have e : ∀ P Q R : sProp 𝕄, iprop((P ∗ Q) ∗ R) = iprop(P ∗ Q ∗ R) := fun P Q R => equiv_iff.mp ⟨BI.sep_assoc, BI.sep_assoc'⟩
  simp only [e]
  rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 25 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_of c
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The transfer semaphores are the kernel's own; -/
theorem ownSems0_eq (c : Dev nD) : (Pipeline.ownSems0 (Ix := Unit) (Name := ℕ) (U := UU) (Lvl := ℕ) (Val := Elt F) (τ := τ) osem c : sProp 𝕄)
    = iprop(semVal ((c : Thread nD τ), .dma sS0) 0 ∗ semVal ((c : Thread nD τ), .dma sS1) 0 ∗ semVal ((c : Thread nD τ), .dma sS2) 0 ∗ semVal ((c : Thread nD τ), .dma sS3) 0 ∗ semVal ((c : Thread nD τ), .dma sS4) 0 ∗ semVal ((c : Thread nD τ), .dma sS5) 0 ∗ semVal ((c : Thread nD τ), .dma sS6) 0 ∗ semVal ((c : Thread nD τ), .dma sS7) 0 ∗ semVal ((c : Thread nD τ), .dma sS8) 0 ∗ semVal ((c : Thread nD τ), .dma sS9) 0 ∗ semVal ((c : Thread nD τ), .dma sS10) 0 ∗ semVal ((c : Thread nD τ), .dma sS11) 0 ∗ semVal ((c : Thread nD τ), .dma rS0) 0 ∗ semVal ((c : Thread nD τ), .dma rS1) 0 ∗ semVal ((c : Thread nD τ), .dma rS2) 0 ∗ semVal ((c : Thread nD τ), .dma rS3) 0 ∗ semVal ((c : Thread nD τ), .dma rS4) 0 ∗ semVal ((c : Thread nD τ), .dma rS5) 0 ∗ semVal ((c : Thread nD τ), .dma rS6) 0 ∗ semVal ((c : Thread nD τ), .dma rS7) 0 ∗ semVal ((c : Thread nD τ), .dma rS8) 0 ∗ semVal ((c : Thread nD τ), .dma rS9) 0 ∗ semVal ((c : Thread nD τ), .dma rS10) 0 ∗ semVal ((c : Thread nD τ), .dma rS11) 0) := by
  rw [Pipeline.ownSems0_eq_of_list c osem [0, 1, 2, 3, 4, 5, 6, 7, 8, 9, 10, 11, 12, 13, 14, 15, 16, 17, 18, 19, 20, 21, 22, 23] (by decide) (by decide)]; rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem semsAll_eq (c : Dev nD) : (bigSep Finset.univ fun k : Fin 25 => semVal (kcell (c, k)) 0 : sProp 𝕄)
    = iprop(unscopedSems0 c ∗ Pipeline.ownSems0 (Ix := Unit) (Name := ℕ) (U := UU) (Lvl := ℕ) (Val := Elt F) (τ := τ) osem c) := by
  rw [ownSems0_eq, unscopedSems0_eq, bigSep_fin25]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (semsAll_eq (F := F) c).symm) $$ [Hos Hus]
  · isplitl [Hus] <;> iassumption
  imod (show iprop((bigSep Finset.univ fun k : Fin 25 => semVal (kcell (c, k)) 0) ∗ bigSep Finset.univ fun k : Fin 25 => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem recv_around (i : Fin 12) : (bigSep Finset.univ fun c : Dev nD => (dutyTok ER (rCell c i) 0 false : sProp 𝕄))
    = bigSep Finset.univ fun c : Dev nD => dutyTok ER (rCell (tgtD c i) i) 0 false := by
  unfold tgtD
  by_cases h : i.val % 2 = 0
  · simp only [if_pos h]
    exact bigSep_univ_equiv ring (fun c : Dev nD => (dutyTok ER (rCell c i) 0 false : sProp 𝕄))
  · simp only [if_neg h]
    exact bigSep_univ_equiv ring.symm (fun c : Dev nD => (dutyTok ER (rCell c i) 0 false : sProp 𝕄))

omit [FloatOps F] in
/-- The tokens dealt around the ring, each to the device that pays its duty. -/
theorem toks_around : (bigSep Finset.univ fun c : Dev nD => (toks c : sProp 𝕄)) ⊢ bigSep Finset.univ fun c : Dev nD => payToks c := by
  have hr : (bigSep Finset.univ fun c : Dev nD => bigSep Finset.univ fun i : Fin 12 => (dutyTok ER (rCell c i) 0 false : sProp 𝕄))
      = bigSep Finset.univ fun c : Dev nD => bigSep Finset.univ fun i : Fin 12 => dutyTok ER (rCell (tgtD c i) i) 0 false := by
    rw [bigSep_univ_comm, bigSep_congr (fun i _ => recv_around (F := F) i), bigSep_univ_comm]
  unfold toks payToks
  rw [bigSep_sep', bigSep_sep', bigSep_sep', bigSep_sep', bigSep_sep', bigSep_sep', hr,
    bigSep_univ_equiv ring (fun c : Dev nD => (dutyTok ER (barCell c) 0 false : sProp 𝕄)),
    bigSep_univ_equiv ring.symm (fun c : Dev nD => (dutyTok ER (barCell c) 0 true : sProp 𝕄))]
  iintro ⟨H1, H2, H3⟩
  isplitl [H2]; · iexact H2
  isplitl [H1]; · iexact H1
  iexact H3

omit [FloatOps F] in
theorem bigSep_with_persistent {A : Type} [DecidableEq A] {S : Finset A} {R : sProp 𝕄} [BI.Persistent R] {Φ Ψ : A → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 25 => iprop(∃ κ : ℕ, cellInv ER (ringRd m ρ) κ (kcell ck))),
    bigSep_congr (s := Finset.univ) (fun (c : Dev nD) _ => bigSep_sep' Finset.univ (fun k : Fin 25 => (atPos ER (kcell (c, k)) 0 ∅ 0 : sProp 𝕄)) (fun k => reached ER (kcell (c, k)) 0)),
    bigSep_sep', ← bigSep_univ_prod (fun ck : Dev nD × Fin 25 => (reached ER (kcell ck) 0 : sProp 𝕄))]
  iintro ⟨HI, ⟨Hat, #HR⟩, Htok⟩
  ihave HK := (BI.bigSep_exists_pi Finset.univ (fun (ck : Dev nD × Fin 25) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) (Φ := fun c : Dev nD => iprop(atAll c 0 ∗ payToks c)) fun c _ => show _ ⊢ G' m ρ c from by
    unfold G'
    iintro H
    iexists K
    iexact H)
  isplitr
  · unfold records; isplitl; · iexact HI
    iexact HR
  · rw [bigSep_sep']
    isplitl [Hat]; · unfold atAll; iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
/-- How many units all devices together owe a barrier, or a receive cell. -/
theorem owed_bar (d c : Dev nD) : O₀ d (barCell c) () = (if d = prv c then 1 else 0) + (if d = nxt c then 1 else 0) := by
  have h : ∀ (d c : Dev nD) (j : Fin 14), (barCell c = dueCell d j.val) ↔ ((j.val = 12 ∧ d = prv c) ∨ (j.val = 13 ∧ d = nxt c)) := by decide +kernel
  rw [owe_apply, Finset.sum_range]
  simp only [h]
  rw [Fin.sum_univ_castSucc, Fin.sum_univ_castSucc, Finset.sum_eq_zero (fun j _ => by
    have hj := j.isLt
    rw [if_neg]
    rintro (⟨e, -⟩ | ⟨e, -⟩) <;> (simp at e; omega))]
  simp [dueAmt, Fin.last]
omit [FloatOps F] in
theorem owed_recv (d c : Dev nD) (i : Fin 12) : O₀ d (rCell c i) () = if d = (if i.val % 2 = 0 then prv c else nxt c) then N else 0 := by
  have h : ∀ (d c : Dev nD) (i : Fin 12) (j : Fin 14), (rCell c i = dueCell d j.val) ↔ (j.val = 11 - i.val ∧ d = (if i.val % 2 = 0 then prv c else nxt c)) := by decide +kernel
  rw [owe_apply, Finset.sum_range]
  simp only [h]
  have hi := i.isLt
  rw [Finset.sum_eq_single (⟨11 - i.val, by omega⟩ : Fin 14)]
  · simp only [true_and, dueAmt]; rw [if_pos (by omega : 11 - i.val < 12)]
  · intro j _ hj
    rw [if_neg]; rintro ⟨e, -⟩; exact hj (Fin.ext e)
  · intro h; exact absurd (Finset.mem_univ _) h

omit [FloatOps F] in
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

omit [FloatOps F] in
theorem launch_recv (c : Dev nD) (i : Fin 12) :
    tallyOn (rCell c i) (launchCredit (Pipeline.owing O₀) 0 (rCell c i)) = (tallyAt (rCell c i) () N : CellTallies nD τ sig Unit) := by
  unfold tallyAt; refine congrArg _ (Finsupp.ext fun u => ?_); cases u
  rw [Pipeline.launchCredit_owing, Finsupp.single_eq_same, Finset.sum_congr rfl fun d _ => owed_recv d c i,
    Finset.sum_ite_eq' Finset.univ (if i.val % 2 = 0 then prv c else nxt c) fun _ => N, if_pos (Finset.mem_univ _)]

/-- The receive semaphores among all. -/
def rLoc (i : Fin 12) : SemLoc sig := .dma ⟨i.val + 18, by have := i.isLt; show i.val + 18 < 30; omega⟩
theorem rLoc_injective : Function.Injective rLoc := by decide

omit [FloatOps F] in
theorem creds (c : Dev nD) : (Pipeline.launchCred O₀ c : sProp 𝕄) ⊢ credsAll c := by
  unfold Pipeline.launchCred credsAll
  rw [bigSep_univ_at _ (SemLoc.reg barS), launch_bar]
  refine sep_mono_right ?_
  refine (bigSep_subset (t := Finset.univ.map ⟨rLoc, rLoc_injective⟩) ?_).trans ?_
  · intro x hx
    obtain ⟨i, -, rfl⟩ := Finset.mem_map.mp hx
    exact Finset.mem_erase.mpr ⟨(by unfold rLoc; intro h; cases h), Finset.mem_univ _⟩
  · rw [bigSep_map]
    exact bigSep_mono fun i _ => Entails.of_eq (congrArg cred (launch_recv c i))

/-! ### The side conditions of the launch theorem -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scr
  rw [semsAll_eq]
  iintro ⟨Hr, HzB, HzO⟩
  isplitl [HzB]; · iexact HzB
  isplitl [HzO]; · iexact HzO
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- Every fair execution of the program from any memory with zero counters ends, each device's result array at the
    computed contents, the arguments unchanged, every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_0 (c : Dev nD) : finalA m ρ c (0 : Fin 6) = (s₀ m ρ).mem (win0_0.arr.view.loc (c : Thread nD τ)) :=
  (dats (F := F) m ρ 0 c).arrAt_in (0 : Fin 6) rfl _
theorem finalA_1 (c : Dev nD) : finalA m ρ c (1 : Fin 6) = (s₀ m ρ).mem (win0_1.arr.view.loc (c : Thread nD τ)) :=
  (dats (F := F) m ρ 0 c).arrAt_in (1 : Fin 6) rfl _
theorem finalA_2 (c : Dev nD) : finalA m ρ c (2 : Fin 6) = (s₀ m ρ).mem (win0_2.arr.view.loc (c : Thread nD τ)) :=
  (dats (F := F) m ρ 0 c).arrAt_in (2 : Fin 6) rfl _
theorem finalA_3 (c : Dev nD) : finalA m ρ c (3 : Fin 6) = (s₀ m ρ).mem (win0_3.arr.view.loc (c : Thread nD τ)) :=
  (dats (F := F) m ρ 0 c).arrAt_in (3 : Fin 6) rfl _
theorem finalA_4 (c : Dev nD) : finalA m ρ c (4 : Fin 6) = (s₀ m ρ).mem (win0_4.arr.view.loc (c : Thread nD τ)) :=
  (dats (F := F) m ρ 0 c).arrAt_in (4 : Fin 6) rfl _

end Cert.KernelIdealRing

end
-- ==== Proof.Frames.lean ====
/-
The frames: each program terminates without fault, its arguments end unchanged, every counter ends at zero.
-/
module

public import proofs.«01_k».proof.Defs
public import proofs.«01_k».proof.Proof.Run
public import proofs.«01_k».proof.Proof.KRun
public import proofs.«01_k».proof.Proof.Gen.ReferenceIdeal.Run
public import proofs.«01_k».proof.Proof.Gen.Pre_finite_KernelIdeal
public import proofs.«01_k».proof.Proof.Gen.Pre_finite_ReferenceIdeal
public import Idealize.ShloMosaic.Lib.Quiescent

@[expose] public section

noncomputable section

namespace Cert.Frames

open Idealize.ShloMosaic Idealize.SL.Sem

/-- The kernel at machine floats: its run, read at the five arguments. -/
theorem frame_kernel : Cert.quiescent_Kernel (hKernel := Cert.Kernel.Gen.facts) := by
  intro m ρ _
  exact (θ_run _ _ _).mono (fun _ h => ⟨fun c =>
    ⟨(h.1 c (0 : Fin 6)).trans (Cert.KernelRing.finalA_0 m ρ c), (h.1 c (1 : Fin 6)).trans (Cert.KernelRing.finalA_1 m ρ c),
     (h.1 c (2 : Fin 6)).trans (Cert.KernelRing.finalA_2 m ρ c), (h.1 c (3 : Fin 6)).trans (Cert.KernelRing.finalA_3 m ρ c),
     (h.1 c (4 : Fin 6)).trans (Cert.KernelRing.finalA_4 m ρ c)⟩, h.2⟩) (Cert.KernelRing.run_main (F := Bits) m ρ)

/-- The kernel over the extended reals. -/
theorem frame_ideal : Cert.quiescent_KernelIdeal (hKernelIdeal := Cert.KernelIdeal.Gen.facts) := by
  intro m ρ _
  exact (θ_run _ _ _).mono (fun _ h => ⟨fun c =>
    ⟨(h.1 c (0 : Fin 6)).trans (Cert.KernelIdealRing.finalA_0 m ρ c), (h.1 c (1 : Fin 6)).trans (Cert.KernelIdealRing.finalA_1 m ρ c),
     (h.1 c (2 : Fin 6)).trans (Cert.KernelIdealRing.finalA_2 m ρ c), (h.1 c (3 : Fin 6)).trans (Cert.KernelIdealRing.finalA_3 m ρ c),
     (h.1 c (4 : Fin 6)).trans (Cert.KernelIdealRing.finalA_4 m ρ c)⟩, h.2⟩) (Cert.KernelIdealRing.run_main (F := Ideal) m ρ)

/-- The reference: its run, and it declares no semaphore. -/
theorem frame_reference : Cert.quiescent_ReferenceIdeal (hReferenceIdeal := Cert.ReferenceIdeal.Gen.facts) := by
  intro m ρ _
  exact (θ_run _ _ _).mono (fun r h => ⟨fun c => (h c).2, sem_eq_zero_of_no_sems (by decide) r.2⟩)
    (Cert.ReferenceIdeal.Value.run (F := Ideal) m ρ)

/-- The same two under the value claim's precondition, which they do not need. -/
theorem frame_ideal_finite : Cert.quiescent_KernelIdeal_pre_finite_KernelIdeal (hKernelIdeal := Cert.KernelIdeal.Gen.facts)
    (hPre_finite_KernelIdeal := Cert.Pre_finite_KernelIdeal.Gen.facts) :=
  fun m ρ _ => frame_ideal m ρ trivial
theorem frame_reference_finite : Cert.quiescent_ReferenceIdeal_pre_finite_ReferenceIdeal (hReferenceIdeal := Cert.ReferenceIdeal.Gen.facts)
    (hPre_finite_ReferenceIdeal := Cert.Pre_finite_ReferenceIdeal.Gen.facts) :=
  fun m ρ _ => frame_reference m ρ trivial

end Cert.Frames

end
-- ==== Proof.Spec.lean ====
/-
The mathematics of the block: rotary positions and softmax attention over extended reals, with no program in sight.
-/
module

public import Idealize.ShloMosaic.Lib.Pointwise
public import Idealize.ShloMosaic.Lib.IdealHost

@[expose] public section

set_option maxRecDepth 16384

noncomputable section

namespace Cert.Attn

open Idealize.ShloMosaic
open scoped BigOperators

/-! ## Single operations on finite values -/

theorem exp_real (r : ℝ) : Ideal.exp (r : EReal) = ((Real.exp r : ℝ) : EReal) := rfl
theorem cos_real (r : ℝ) : Ideal.cos (r : EReal) = ((Real.cos r : ℝ) : EReal) := rfl
theorem sin_real (r : ℝ) : Ideal.sin (r : EReal) = ((Real.sin r : ℝ) : EReal) := rfl
theorem log_real (r : ℝ) (h : 0 < r) : Ideal.log (r : EReal) = ((Real.log r : ℝ) : EReal) := by
  show (if r ≤ 0 then (⊥ : EReal) else _) = _
  rw [if_neg (not_le.mpr h)]
theorem div_real (x : EReal) (r : ℝ) (h : 0 < r) : Ideal.div x (r : EReal) = x * ((r⁻¹ : ℝ) : EReal) := by
  unfold Ideal.div
  rw [if_neg (by exact_mod_cast h.ne'), EReal.coe_inv]

theorem lit_10000 : Ideal.ofBits .f32 0x461C4000#32 = ((10000 : ℝ) : EReal) := by
  simp [Ideal.ofBits, Ideal.ieee, -EReal.coe_mul]; norm_num
theorem lit_64 : Ideal.ofBits .f32 0x42800000#32 = ((64 : ℝ) : EReal) := by
  simp [Ideal.ofBits, Ideal.ieee, -EReal.coe_mul]; norm_num
theorem lit_2 : Ideal.ofBits .f32 0x40000000#32 = ((2 : ℝ) : EReal) := by
  simp [Ideal.ofBits, Ideal.ieee, -EReal.coe_mul]; norm_num
theorem lit_eighth : Ideal.ofBits .f32 0x3E000000#32 = (((1 : ℝ) / 8 : ℝ) : EReal) := by
  simp [Ideal.ofBits, Ideal.ieee, -EReal.coe_mul]; norm_num
theorem lit_neg_inf : Ideal.ofBits .f32 0xFF800000#32 = (⊥ : EReal) := by
  simp [Ideal.ofBits, Ideal.ieee]
theorem lit_inf : Ideal.ofBits .f32 0x7F800000#32 = (⊤ : EReal) := by
  simp [Ideal.ofBits, Ideal.ieee]

theorem toInt_small (n : ℕ) (h : n < 1024) : (BitVec.ofNat 32 n).toInt = (n : ℤ) := by
  rw [BitVec.toInt_eq_toNat_of_lt (by rw [BitVec.toNat_ofNat]; omega), BitVec.toNat_ofNat, Nat.mod_eq_of_lt (by omega)]

theorem float_small (φ : FTy) (n : ℕ) (h : n < 1024) : FloatOps.sitofp (F := Ideal) φ (BitVec.ofNat 32 n) = ((n : ℝ) : EReal) := by
  show (((BitVec.ofNat 32 n).toInt : ℝ) : EReal) = _
  rw [toInt_small n h]; norm_cast

/-! ## Finite values -/

/-- A finite extended real. -/
def Fin' (x : EReal) : Prop := ∃ r : ℝ, x = (r : EReal)

theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.neg {x : EReal} (hx : Fin' x) : Fin' (-x) := by
  obtain ⟨a, rfl⟩ := hx; exact ⟨-a, (EReal.coe_neg a).symm⟩
theorem fin_sum {ι : Type} (s : Finset ι) (f : ι → EReal) (h : ∀ i, Fin' (f i)) : Fin' (∑ i ∈ s, f i) := by
  classical
  induction s using Finset.induction_on with
  | empty => exact ⟨0, by simp⟩
  | insert a s ha ih => rw [Finset.sum_insert ha]; exact (h a).add ih
theorem fin_of_abs {x : EReal} (h : max x (-x) < ⊤) : Fin' x := by
  induction x using EReal.rec with
  | bot => simp at h
  | top => simp at h
  | coe r => exact ⟨r, rfl⟩

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A nonnegative real factor may be taken out of a sum of extended reals. -/
theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- The greatest of finitely many reals, from below every real, is a real. -/
theorem max_real {n : ℕ} (s : Fin (n + 1) → ℝ) : ∃ M : ℝ, Finset.univ.fold max (⊥ : EReal) (fun j => (s j : EReal)) = (M : EReal) := by
  generalize hx : Finset.univ.fold max (⊥ : EReal) (fun j => (s j : EReal)) = x
  have h1 : x < ⊤ := by
    rw [← hx, Finset.fold_max_lt]; exact ⟨bot_lt_top, fun j _ => EReal.coe_lt_top _⟩
  have h2 : (s 0 : EReal) ≤ x := by
    rw [← hx, Finset.le_fold_max]; exact .inr ⟨0, Finset.mem_univ _, le_refl _⟩
  induction x using EReal.rec with
  | bot => simp at h2
  | top => simp at h1
  | coe r => exact ⟨r, rfl⟩

/-! ## Sums over the four devices' blocks -/

/-- Row `r` of device `d`'s block of positions. -/
def row (d : Fin 4) (r : Fin 128) : Fin 512 := ⟨128 * d.val + r.val, by omega⟩
/-- Feature `d` of head `h`. -/
def feat (h : Fin 4) (d : Fin 64) : Fin 256 := ⟨64 * h.val + d.val, by omega⟩

theorem sum_rows (f : Fin 512 → EReal) : ∑ J, f J = ∑ d : Fin 4, ∑ r : Fin 128, f (row d r) := by
  rw [← Fintype.sum_prod_type']
  refine (Fintype.sum_equiv (finProdFinEquiv (m := 4) (n := 128)) _ _ fun x => ?_).symm
  exact congrArg f (Fin.ext (by simp [row, finProdFinEquiv]; omega))

/-! ## Rotary positions -/

/-- The angle of position `I` at feature `n`. -/
def ang (I n : ℕ) : ℝ := (I : ℝ) * Real.exp (-(Real.log 10000) * (((n % 64 - n % 2 : ℕ) : ℝ) / 64))

/-- The partner of each feature in its pair, with its sign. -/
def turned (t : Fin 256 → EReal) (n : Fin 256) : EReal :=
  if h : n.val % 2 = 0 then -(t ⟨n.val + 1, by omega⟩) else t ⟨n.val - 1, by omega⟩

/-- A row of features, rotated to position `I`. -/
def rope (t : Fin 256 → EReal) (I : ℕ) (n : Fin 256) : EReal :=
  t n * ((Real.cos (ang I n.val) : ℝ) : EReal) + turned t n * ((Real.sin (ang I n.val) : ℝ) : EReal)

theorem turned_fin (t : Fin 256 → EReal) (h : ∀ n, Fin' (t n)) (n : Fin 256) : Fin' (turned t n) := by
  unfold turned; split
  · exact (h _).neg
  · exact h _
theorem rope_fin (t : Fin 256 → EReal) (h : ∀ n, Fin' (t n)) (I : ℕ) (n : Fin 256) : Fin' (rope t I n) :=
  ((h n).mul ⟨_, rfl⟩).add ((turned_fin t h n).mul ⟨_, rfl⟩)

/-- The rotation matrix's product is the signed partner. -/
theorem turned_sum (t : Fin 256 → EReal) (n : Fin 256) :
    ∑ k : Fin 256, t k * (if n.val = k.val + 1 ∧ k.val % 2 = 0 then 1 else if k.val = n.val + 1 ∧ n.val % 2 = 0 then -1 else 0) = turned t n := by
  unfold turned
  split
  · rename_i h
    rw [Finset.sum_eq_single (⟨n.val + 1, by omega⟩ : Fin 256)]
    · rw [if_neg (by simp; omega), if_pos ⟨rfl, h⟩, mul_neg, mul_one]
    · intro b _ hb
      rw [if_neg (by omega), if_neg (fun hc => hb (Fin.ext hc.1)), mul_zero]
    · intro hn; exact absurd (Finset.mem_univ _) hn
  · rename_i h
    rw [Finset.sum_eq_single (⟨n.val - 1, by omega⟩ : Fin 256)]
    · rw [if_pos ⟨by simp; omega, by simp; omega⟩, mul_one]
    · intro b _ hb
      rw [if_neg (fun hc => hb (Fin.ext (by simp; omega))), if_neg (fun hc => h hc.2), mul_zero]
    · intro hn; exact absurd (Finset.mem_univ _) hn

/-- The inverse frequency, as a power and as an exponential. -/
theorem freq (e : ℝ) : Real.exp (-(Real.log 10000) * e) = ((10000 : ℝ) ^ e)⁻¹ := by
  rw [neg_mul, Real.exp_neg, Real.rpow_def_of_pos (by norm_num)]

/-! ## The attention -/

/-- A projection of a row of the input. -/
def proj (X : Fin 2 → Fin 512 → Fin 512 → EReal) (W : Fin 512 → Fin 256 → EReal) (b : Fin 2) (I : Fin 512) (n : Fin 256) : EReal :=
  ∑ k : Fin 512, X b I k * W k n

theorem proj_fin (X : Fin 2 → Fin 512 → Fin 512 → EReal) (W : Fin 512 → Fin 256 → EReal) (hX : ∀ b I k, Fin' (X b I k)) (hW : ∀ k n, Fin' (W k n))
    (b : Fin 2) (I : Fin 512) (n : Fin 256) : Fin' (proj X W b I n) := fin_sum _ _ fun k => (hX b I k).mul (hW k n)

/-- The score of query position `I` against key position `J` at head `h`, unscaled. -/
def qk (X : Fin 2 → Fin 512 → Fin 512 → EReal) (Wq Wk : Fin 512 → Fin 256 → EReal) (b : Fin 2) (h : Fin 4) (I J : Fin 512) : EReal :=
  ∑ e : Fin 64, rope (proj X Wq b I) I.val (feat h e) * rope (proj X Wk b J) J.val (feat h e)

/-- One eighth, the reciprocal of the square root of a head's width. -/
def eighth : EReal := (((1 : ℝ) / 8 : ℝ) : EReal)

/-- The attention at feature `k`, which belongs to head `k / 64`. -/
def att (X : Fin 2 → Fin 512 → Fin 512 → EReal) (Wq Wk Wv : Fin 512 → Fin 256 → EReal) (b : Fin 2) (I : Fin 512) (h : Fin 4) (k : Fin 256) : EReal :=
  Ideal.div (∑ J, Ideal.exp (qk X Wq Wk b h I J * eighth) * proj X Wv b J k) (∑ J, Ideal.exp (qk X Wq Wk b h I J * eighth))

/-- The result of the block. -/
def result (X : Fin 2 → Fin 512 → Fin 512 → EReal) (Wq Wk Wv : Fin 512 → Fin 256 → EReal) (Wo : Fin 256 → Fin 512 → EReal) (b : Fin 2) (I n : Fin 512) : EReal :=
  ∑ k : Fin 256, att X Wq Wk Wv b I ⟨k.val / 64, by omega⟩ k * Wo k n

theorem qk_fin (X : Fin 2 → Fin 512 → Fin 512 → EReal) (Wq Wk : Fin 512 → Fin 256 → EReal) (hX : ∀ b I k, Fin' (X b I k)) (hq : ∀ k n, Fin' (Wq k n))
    (hk : ∀ k n, Fin' (Wk k n)) (b : Fin 2) (h : Fin 4) (I J : Fin 512) : Fin' (qk X Wq Wk b h I J * eighth) :=
  (fin_sum _ _ fun e => (rope_fin _ (proj_fin X Wq hX hq b I) _ _).mul (rope_fin _ (proj_fin X Wk hX hk b J) _ _)).mul ⟨_, rfl⟩

/-- Scaling the queries scales the score. -/
theorem qk_scaled {ι : Type} (s : Finset ι) (q k : ι → EReal) : ∑ e ∈ s, q e * eighth * k e = (∑ e ∈ s, q e * k e) * eighth := by
  unfold eighth
  rw [sum_mul_real _ _ _ (by norm_num)]
  exact Finset.sum_congr rfl fun e _ => mul_right_comm _ _ _

theorem ang_congr (I n n' : ℕ) (h : n % 64 - n % 2 = n' % 64 - n' % 2) : ang I n = ang I n' := by unfold ang; rw [h]

/-- The softmax weights need no greatest score taken off: with finite scores both forms are one function. -/
theorem softmax {n : ℕ} (s : Fin (n + 1) → ℝ) (V : Fin (n + 1) → EReal) (M : ℝ) :
    Ideal.div (∑ J, Ideal.exp (s J) * V J) (∑ J, Ideal.exp (s J))
      = ∑ J, V J * Ideal.div (Ideal.exp ((s J : EReal) - (M : EReal))) (∑ J', Ideal.exp ((s J' : EReal) - (M : EReal))) := by
  have hp : ∀ t : Fin (n + 1) → ℝ, 0 < ∑ J, Real.exp (t J) := fun t =>
    Finset.sum_pos (fun J _ => Real.exp_pos _) ⟨0, Finset.mem_univ _⟩
  have hs : ∑ J, Ideal.exp (s J) = ((∑ J, Real.exp (s J) : ℝ) : EReal) := (sum_coe Finset.univ fun J => Real.exp (s J))
  have ht : ∑ J', Ideal.exp ((s J' : EReal) - (M : EReal)) = ((∑ J, Real.exp (s J - M) : ℝ) : EReal) :=
    (Finset.sum_congr rfl fun J _ => by rw [← EReal.coe_sub, exp_real]).trans (sum_coe Finset.univ fun J => Real.exp (s J - M))
  rw [hs, ht, div_real _ _ (hp s), sum_mul_real _ _ _ (inv_nonneg.mpr (hp s).le)]
  refine Finset.sum_congr rfl fun J _ => ?_
  rw [div_real _ _ (hp fun J => s J - M), ← EReal.coe_sub, exp_real, exp_real, mul_comm (_ : EReal) (V J), mul_assoc, ← EReal.coe_mul, ← EReal.coe_mul]
  congr 2
  have : ∀ J, Real.exp (s J - M) = Real.exp (s J) * (Real.exp M)⁻¹ := fun J => by rw [Real.exp_sub, div_eq_mul_inv]
  simp only [this, ← Finset.sum_mul]
  have h1 := (hp s).ne'
  have h2 := (Real.exp_pos M).ne'
  field_simp

/-- The same attention with the greatest score taken off first, on finite scores. -/
theorem att_max (X : Fin 2 → Fin 512 → Fin 512 → EReal) (Wq Wk Wv : Fin 512 → Fin 256 → EReal) (hX : ∀ b I k, Fin' (X b I k)) (hq : ∀ k n, Fin' (Wq k n))
    (hk : ∀ k n, Fin' (Wk k n)) (b : Fin 2) (I : Fin 512) (h : Fin 4) (k : Fin 256) (S : Fin 512 → EReal) (hS : ∀ J, S J = qk X Wq Wk b h I J * eighth) :
    ∑ J, proj X Wv b J k * Ideal.div (Ideal.exp (S J - Finset.univ.fold max ⊥ S)) (∑ J', Ideal.exp (S J' - Finset.univ.fold max ⊥ S))
      = att X Wq Wk Wv b I h k := by
  choose s hs using fun J => qk_fin X Wq Wk hX hq hk b h I J
  obtain rfl : S = fun J => (s J : EReal) := funext fun J => (hS J).trans (hs J)
  obtain ⟨M, hM⟩ := max_real (n := 511) s
  rw [hM]
  unfold att
  simp only [hs]
  exact (softmax (n := 511) s (fun J => proj X Wv b J k) M).symm

end Cert.Attn
-- ==== Proof.Tables.lean ====
/-
The kernel's tables and projections, element by element, at the extended reals.
-/
module

public import proofs.«01_k».proof.Proof.Run
public import proofs.«01_k».proof.Proof.Spec

@[expose] public section

set_option maxRecDepth 16384

noncomputable section

namespace Cert.KernelIdealRing

open Cert.KernelIdeal Cert.KernelIdeal.Gen Cert.Attn
open Idealize.ShloMosaic
open scoped BigOperators

theorem pay3_at (r : Fin 128) (l : Fin 256) : k0_pay3 (ix2 r l) = BitVec.ofNat 32 (l.val % 64) := by
  pointwise [k0_pay3]
  revert l; decide

theorem pay2_at (c : Dev nD) (r : Fin 128) (l : Fin 256) : k0_pay2 (F := Ideal) c (ix2 r l) = (((row c r).val : ℝ) : EReal) := by
  pointwise [k0_pay2]
  have h : (Scalar.muli (Scalar.remsi (Scalar.divsi c.word 1#32) 4#32) 128#32).toInt = ((128 * c.val : ℕ) : ℤ) := by revert c; decide
  rw [float_small _ _ (by omega), h, ← EReal.coe_add]
  congr 1
  show _ = ((128 * c.val + r.val : ℕ) : ℝ)
  push_cast; ring

theorem pay4_at (c : Dev nD) (r : Fin 128) (l : Fin 256) :
    k0_pay4 (k0_pay2 (F := Ideal) c) k0_pay3 2#32 (ix2 r l) = ((ang (row c r).val l.val : ℝ) : EReal) := by
  pointwise [k0_pay4]
  rw [pay3_at, pay2_at]
  generalize hw : IntOp.subi (BitVec.ofNat 32 (l.val % 64)) _ = w
  have h : w = BitVec.ofNat 32 (l.val % 64 - l.val % 2) := by rw [← hw]; clear hw; revert l; decide
  rw [h, float_small _ _ (by omega), lit_64, div_real _ _ (by norm_num), zero_sub,
    show Scalar.log (Ideal.ofBits .f32 0x461C4000#32) = Ideal.log (Ideal.ofBits .f32 0x461C4000#32) from rfl, lit_10000, log_real _ (by norm_num),
    ← EReal.coe_neg, ← EReal.coe_mul, ← EReal.coe_mul, exp_real, ← EReal.coe_mul]
  rfl

theorem cos_at (c : Dev nD) (r : Fin 128) (l : Fin 256) : cosA (F := Ideal) c (ix2 r l) = ((Real.cos (ang (row c r).val l.val) : ℝ) : EReal) := by
  show Ideal.cos (k0_pay4 (k0_pay2 (F := Ideal) c) k0_pay3 2#32 (ix2 r l)) = _
  rw [pay4_at]; rfl
theorem sin_at (c : Dev nD) (r : Fin 128) (l : Fin 256) : sinA (F := Ideal) c (ix2 r l) = ((Real.sin (ang (row c r).val l.val) : ℝ) : EReal) := by
  show Ideal.sin (k0_pay4 (k0_pay2 (F := Ideal) c) k0_pay3 2#32 (ix2 r l)) = _
  rw [pay4_at]; rfl

/-- A comparison's bit. -/
theorem andi_bit (p q : Prop) [Decidable p] [Decidable q] (a b : BitVec 1) (ha : a = if p then 1#1 else 0#1) (hb : b = if q then 1#1 else 0#1) :
    FloatOps.sitofp (F := Ideal) .f32 (BitVec.setWidth 32 (IntOp.andi a b)) = if p ∧ q then (1 : EReal) else 0 := by
  have h1 := float_small .f32 1 (by omega)
  have h0 := float_small .f32 0 (by omega)
  subst ha hb
  by_cases hp : p <;> by_cases hq : q <;> simp only [hp, hq, if_true, if_false, and_self, and_false, false_and]
  · exact h1.trans (by norm_num)
  · exact h0.trans (by norm_num)
  · exact h0.trans (by norm_num)
  · exact h0.trans (by norm_num)

theorem rot_at (n l : Fin 256) : rotA (F := Ideal) (ix2 n l)
    = if l.val = n.val + 1 ∧ n.val % 2 = 0 then 1 else if n.val = l.val + 1 ∧ l.val % 2 = 0 then -1 else 0 := by
  pointwise [rotA, k0_pay7, k0_pay8, k0_pay9, k0_pay10, k0_pay11]
  have hb : ∀ a b : BitVec 32, IntOp.cmpi .eq a b = if a = b then 1#1 else 0#1 := by
    intro a b
    by_cases h : a = b
    · rw [h, if_pos rfl]; exact congrArg BitVec.ofBool (beq_self_eq_true b)
    · rw [if_neg h]; exact congrArg BitVec.ofBool (beq_false_of_ne h)
  rw [andi_bit (l.val = n.val + 1) (n.val % 2 = 0), andi_bit (n.val = l.val + 1) (n.val % 2 = 1)]
  · by_cases h1 : l.val = n.val + 1 ∧ n.val % 2 = 0
    · rw [if_pos h1, if_pos h1, if_neg (by omega), sub_zero]
    · rw [if_neg h1, if_neg h1]
      by_cases h2 : n.val = l.val + 1 ∧ l.val % 2 = 0
      · rw [if_pos (by omega), if_pos h2, zero_sub]
      · rw [if_neg (by omega), if_neg h2, sub_zero]
  · rw [hb]; congr 1; apply propext
    have := n.isLt; have := l.isLt
    rw [← BitVec.toNat_inj]
    simp only [IntOp.subi, BitVec.toNat_sub, BitVec.toNat_ofNat]; omega
  · clear hb; revert n; decide
  · rw [hb]; congr 1; apply propext
    have := n.isLt; have := l.isLt
    rw [← BitVec.toNat_inj]
    simp only [IntOp.addi, BitVec.toNat_add, BitVec.toNat_ofNat]; omega
  · clear hb; revert n; decide

/-! ## Projections -/

theorem pay18_at (c : Dev nD) (W : FVec Ideal S512x256 .bf16) (x : FVec Ideal S1x128x512 .f32) (r : Fin 128) (l : Fin 256) :
    k0_pay18 (cosA (F := Ideal) c) (sinA (F := Ideal) c) (rotA (F := Ideal)) W x (ix4 0 0 r l)
      = rope (fun n => ∑ k : Fin 512, x (ix3 0 r k) * W (ix2 k n)) (row c r).val l := by
  pointwise [k0_pay18, k0_pay16]
  simp only [cos_at, sin_at, rot_at, turned_sum (fun n => ∑ k : Fin 512, x (ix3 0 r k) * W (ix2 k n)) l]
  rfl
theorem pay19_at (c : Dev nD) (W : FVec Ideal S512x256 .bf16) (x : FVec Ideal S1x128x512 .f32) (r : Fin 128) (l : Fin 256) :
    k0_pay19 (cosA (F := Ideal) c) (sinA (F := Ideal) c) (rotA (F := Ideal)) W x (ix4 0 0 r l)
      = rope (fun n => ∑ k : Fin 512, x (ix3 0 r k) * W (ix2 k n)) (row c r).val l := pay18_at c W x r l
theorem pay22_at (c : Dev nD) (W : FVec Ideal S512x256 .bf16) (x : FVec Ideal S1x128x512 .f32) (r : Fin 128) (l : Fin 256) :
    k0_pay22 (cosA (F := Ideal) c) (sinA (F := Ideal) c) (rotA (F := Ideal)) W (k0_pay16 x) (ix2 r l)
      = rope (fun n => ∑ k : Fin 512, x (ix3 0 r k) * W (ix2 k n)) (row c r).val l * (((1 : ℝ) / 8 : ℝ) : EReal) := by
  pointwise [k0_pay22, k0_pay16]
  simp only [cos_at, sin_at, rot_at, turned_sum (fun n => ∑ k : Fin 512, x (ix3 0 r k) * W (ix2 k n)) l, lit_eighth]
  rfl
theorem pay23_at (c : Dev nD) (W : FVec Ideal S512x256 .bf16) (x : FVec Ideal S1x128x512 .f32) (r : Fin 128) (l : Fin 256) :
    k0_pay23 (cosA (F := Ideal) c) (sinA (F := Ideal) c) (rotA (F := Ideal)) W (k0_pay17 x) (ix2 r l)
      = rope (fun n => ∑ k : Fin 512, x (ix3 0 r k) * W (ix2 k n)) (row c r).val l * (((1 : ℝ) / 8 : ℝ) : EReal) := pay22_at c W x r l
theorem pay21_at (W : FVec Ideal S512x256 .bf16) (x : FVec Ideal S1x128x512 .f32) (r : Fin 128) (l : Fin 256) :
    k0_pay21 W (k0_pay16 x) (ix4 0 0 r l) = ∑ k : Fin 512, x (ix3 0 r k) * W (ix2 k l) := by
  pointwise [k0_pay21, k0_pay16]
theorem pay20_at (W : FVec Ideal S512x256 .bf16) (x : FVec Ideal S1x128x512 .f32) (r : Fin 128) (l : Fin 256) :
    k0_pay20 W (k0_pay17 x) (ix4 0 0 r l) = ∑ k : Fin 512, x (ix3 0 r k) * W (ix2 k l) := pay21_at W x r l

end Cert.KernelIdealRing
-- ==== Proof.Heads.lean ====
/-
What the kernel loads, and one head of its attention, element by element at the extended reals.
-/
module

public import proofs.«01_k».proof.Proof.Tables

@[expose] public section

set_option maxRecDepth 16384

noncomputable section

namespace Cert.KernelIdealRing

open Cert.KernelIdeal Cert.KernelIdeal.Gen Cert.Attn
open Idealize.ShloMosaic
open Idealize.ShloMosaic.TcCoe
open scoped BigOperators

variable (m : (ℓ : Loc nD τ sig) → Buf (Elt Ideal) ℓ) (ρ : Dev nD → PrngReg)

/-! ## Loads of the arguments -/

theorem xstg_eq (c : Dev nD) : xstg m ρ c = m ((c : Thread nD τ).loc main_arg0) :=
  Memref.read_access_unit_zero (Elt Ideal) main_arg0 (by decide) _ _
theorem wqstg_eq (c : Dev nD) : wqstg m ρ c = m ((c : Thread nD τ).loc main_arg1) :=
  Memref.read_access_unit_zero (Elt Ideal) main_arg1 (by decide) _ _
theorem wkstg_eq (c : Dev nD) : wkstg m ρ c = m ((c : Thread nD τ).loc main_arg2) :=
  Memref.read_access_unit_zero (Elt Ideal) main_arg2 (by decide) _ _
theorem wvstg_eq (c : Dev nD) : wvstg m ρ c = m ((c : Thread nD τ).loc main_arg3) :=
  Memref.read_access_unit_zero (Elt Ideal) main_arg3 (by decide) _ _
theorem wostg_eq (c : Dev nD) : wostg m ρ c = m ((c : Thread nD τ).loc main_arg4) :=
  Memref.read_access_unit_zero (Elt Ideal) main_arg4 (by decide) _ _

/-- Argument 0 of device `c`, read as an array of extended reals; and the four matrices. -/
def xA (c : Dev nD) : S2x128x512.Idx → EReal := m ((c : Thread nD τ).loc main_arg0)
def wqA (c : Dev nD) : S512x256.Idx → EReal := m ((c : Thread nD τ).loc main_arg1)
def wkA (c : Dev nD) : S512x256.Idx → EReal := m ((c : Thread nD τ).loc main_arg2)
def wvA (c : Dev nD) : S512x256.Idx → EReal := m ((c : Thread nD τ).loc main_arg3)
def woA (c : Dev nD) : S256x512.Idx → EReal := m ((c : Thread nD τ).loc main_arg4)

theorem wqL_eq (c : Dev nD) : wqL m ρ c = wqA m c :=
  (Memref.readAt_unit_zero (Elt Ideal) cc0_stg1_0 (by decide) _ _).trans (wqstg_eq m ρ c)
theorem wkL_eq (c : Dev nD) : wkL m ρ c = wkA m c :=
  (Memref.readAt_unit_zero (Elt Ideal) cc0_stg2_0 (by decide) _ _).trans (wkstg_eq m ρ c)
theorem wvL_eq (c : Dev nD) : wvL m ρ c = wvA m c :=
  (Memref.readAt_unit_zero (Elt Ideal) cc0_stg3_0 (by decide) _ _).trans (wvstg_eq m ρ c)
theorem woL_eq (c : Dev nD) : woL m ρ c = woA m c :=
  (Memref.readAt_unit_zero (Elt Ideal) cc0_stg4_0 (by decide) _ _).trans (wostg_eq m ρ c)

theorem idx3_ext {a b d : ℕ} (i j : (⟨3, ![a, b, d]⟩ : Shape).Idx) (h : ∀ x : Fin 3, (i x).val = (j x).val) : i = j :=
  funext fun x => Fin.ext (h x)

theorem x0L_at (c : Dev nD) (r : Fin 128) (k : Fin 512) : x0L m ρ c (ix3 0 r k) = xA m c (ix3 0 r k) := by
  unfold x0L; rw [xstg_eq]
  show xA m c _ = _
  refine congrArg _ (idx3_ext _ _ fun x => ?_)
  show (![0, 0, 0] : Fin 3 → ℕ) x + 1 * _ = _
  match x with
  | ⟨0, _⟩ => rfl
  | ⟨1, _⟩ => show 0 + 1 * r.val = r.val; omega
  | ⟨2, _⟩ => show 0 + 1 * k.val = k.val; omega
theorem x1L_at (c : Dev nD) (r : Fin 128) (k : Fin 512) : x1L m ρ c (ix3 0 r k) = xA m c (ix3 1 r k) := by
  unfold x1L; rw [xstg_eq]
  show xA m c _ = _
  refine congrArg _ (idx3_ext _ _ fun x => ?_)
  show (![1, 0, 0] : Fin 3 → ℕ) x + 1 * _ = _
  match x with
  | ⟨0, _⟩ => rfl
  | ⟨1, _⟩ => show 0 + 1 * r.val = r.val; omega
  | ⟨2, _⟩ => show 0 + 1 * k.val = k.val; omega

/-! ## Loads of the gathered blocks -/

/-- Coordinates of an element of a load of 64 columns of block (s, b). -/
theorem load_val (s b o : ℕ) (h : ∀ a, (![s, b, 0, o] : Fin 4 → ℕ) a + S1x1x128x64.size a ≤ S4x2x128x256.size a)
    (r : Fin 128) (d : Fin 64) (n : Fin 256) (hn : n.val = o + d.val) (a : Fin 4) :
    (((Rect.unit (s := S4x2x128x256) ![s, b, 0, o] S1x1x128x64.size h).emb (ix4 0 0 r d) : S4x2x128x256.Idx) a).val
      = (![s, b, 0, 0] : Fin 4 → ℕ) a + ((ix4 0 0 r n : S1x1x128x256.Idx) a).val := by
  show (![s, b, 0, o] : Fin 4 → ℕ) a + 1 * _ = _
  match a with
  | ⟨0, _⟩ => rfl
  | ⟨1, _⟩ => rfl
  | ⟨2, _⟩ => show 0 + 1 * r.val = 0 + r.val; omega
  | ⟨3, _⟩ => show o + 1 * d.val = 0 + n.val; omega

theorem kload_at (c : Dev nD) (s b o : ℕ) (h) (r : Fin 128) (d : Fin 64) (n : Fin 256) (hn : n.val = o + d.val) :
    kM.view.readAt (Elt Ideal) (Rect.unit (s := S4x2x128x256) ![s, b, 0, o] S1x1x128x64.size h).toLoadRect (kAll m ρ c) (ix4 0 0 r d)
      = (if b = 0 then kOwn0 m ρ (srcDev c s) else kOwn1 m ρ (srcDev c s)) (ix4 0 0 r n) :=
  all_at (kOwn0 m ρ) (kOwn1 m ρ) c s b _ (ix4 0 0 r n) (load_val s b o h r d n hn)
theorem vload_at (c : Dev nD) (s b o : ℕ) (h) (r : Fin 128) (d : Fin 64) (n : Fin 256) (hn : n.val = o + d.val) :
    vM.view.readAt (Elt Ideal) (Rect.unit (s := S4x2x128x256) ![s, b, 0, o] S1x1x128x64.size h).toLoadRect (vAll m ρ c) (ix4 0 0 r d)
      = (if b = 0 then vOwn0 m ρ (srcDev c s) else vOwn1 m ρ (srcDev c s)) (ix4 0 0 r n) :=
  all_at (vOwn0 m ρ) (vOwn1 m ρ) c s b _ (ix4 0 0 r n) (load_val s b o h r d n hn)

/-! ## One head -/

/-- The unnormalised weights of 128 queries against 128 keys. -/
def prob (o : ℕ) (hs : S128x256.Slices ![0, o] S128x64) (q : FVec Ideal S128x256 .bf16) (k : Vec Ideal S1x1x128x64 .bf16) : FVec Ideal S128x128 .f32 :=
  exp (matmul (φ₁ := .bf16) (φ₂ := .bf16) dot_S128x64_S128x64_S128x128_1_1_0_0_n_n none (extractStridedSlice S128x64 ![0, o] q hs)
    (shapeCast S128x64 k shapeCasts_S1x1x128x64_S128x64) (constant S128x128 .f32 0x00000000#32))
/-- Their sums along the keys. -/
def rsum (p : FVec Ideal S128x128 .f32) : FVec Ideal S128x1 .f32 :=
  shapeCast S128x1 (multiReduction .add [1] S128 p 0x00000000#32 reduces_S128x128_S128 (.inl rfl) rfl) shapeCasts_S128_S128x1
/-- Their product with 128 values. -/
def pval (p : FVec Ideal S128x128 .f32) (v : Vec Ideal S1x1x128x64 .bf16) : FVec Ideal S128x64 .f32 :=
  matmul (φ₁ := .bf16) (φ₂ := .bf16) dot_S128x128_S128x64_S128x64_1_0_0_1_n_n none (truncf .bf16 p bitsLt_bf16_f32) (shapeCast S128x64 v shapeCasts_S1x1x128x64_S128x64)
    (constant S128x64 .f32 0x00000000#32)
/-- One head of the result, from the four loads of keys and of values. -/
def headV (o : ℕ) (hs : S128x256.Slices ![0, o] S128x64) (q : FVec Ideal S128x256 .bf16) (k v : Fin 4 → Vec Ideal S1x1x128x64 .bf16) : FVec Ideal S128x64 .f32 :=
  divf (addf (addf (addf (addf (broadcast S128x64 (Scalar.ofBits .f32 0x00000000#32)) (pval (prob o hs q (k 0)) (v 0))) (pval (prob o hs q (k 1)) (v 1)))
      (pval (prob o hs q (k 2)) (v 2))) (pval (prob o hs q (k 3)) (v 3)))
    (broadcastTo S128x64 (addf (addf (addf (addf (broadcast S128x1 (Scalar.ofBits .f32 0x00000000#32)) (rsum (prob o hs q (k 0)))) (rsum (prob o hs q (k 1))))
      (rsum (prob o hs q (k 2)))) (rsum (prob o hs q (k 3)))) broadcasts_S128x1_S128x64)

theorem prob_at (o : ℕ) (hs) (q : FVec Ideal S128x256 .bf16) (k : Vec Ideal S1x1x128x64 .bf16) (h : Fin 4) (ho : o = 64 * h.val) (i j : Fin 128) :
    prob o hs q k (ix2 i j) = Ideal.exp (∑ e : Fin 64, q (ix2 i (feat h e)) * k (ix4 0 0 j e)) := by
  subst ho
  pointwise [prob]
  rfl
theorem rsum_at (p : FVec Ideal S128x128 .f32) (i : Fin 128) : rsum p (ix2 i 0) = ∑ j : Fin 128, p (ix2 i j) := by
  pointwise [rsum]
theorem pval_at (p : FVec Ideal S128x128 .f32) (v : Vec Ideal S1x1x128x64 .bf16) (i : Fin 128) (d : Fin 64) :
    pval p v (ix2 i d) = ∑ j : Fin 128, p (ix2 i j) * v (ix4 0 0 j d) := by
  pointwise [pval]
theorem headV_at (o : ℕ) (hs) (q : FVec Ideal S128x256 .bf16) (k v : Fin 4 → Vec Ideal S1x1x128x64 .bf16) (i : Fin 128) (d : Fin 64) :
    headV o hs q k v (ix2 i d)
      = Ideal.div ((((∑ j : Fin 128, prob o hs q (k 0) (ix2 i j) * v 0 (ix4 0 0 j d)) + ∑ j : Fin 128, prob o hs q (k 1) (ix2 i j) * v 1 (ix4 0 0 j d))
          + ∑ j : Fin 128, prob o hs q (k 2) (ix2 i j) * v 2 (ix4 0 0 j d)) + ∑ j : Fin 128, prob o hs q (k 3) (ix2 i j) * v 3 (ix4 0 0 j d))
        ((((∑ j : Fin 128, prob o hs q (k 0) (ix2 i j)) + ∑ j : Fin 128, prob o hs q (k 1) (ix2 i j)) + ∑ j : Fin 128, prob o hs q (k 2) (ix2 i j))
          + ∑ j : Fin 128, prob o hs q (k 3) (ix2 i j)) := by
  pointwise [headV]
  simp only [rsum_at, pval_at, zero_add]

/-! ## The projection of the four heads -/

/-- The four heads side by side, times the output matrix. -/
def outV (H : Fin 4 → FVec Ideal S128x64 .f32) (W : FVec Ideal S256x512 .bf16) : FVec Ideal S1x128x512 .f32 :=
  shapeCast S1x128x512 (matmul (φ₁ := .bf16) (φ₂ := .bf16) dot_S128x256_S256x512_S128x512_1_0_0_1_n_n none
    (truncf .bf16 (concatenate S128x256 1 [⟨S128x64, H 0⟩, ⟨S128x64, H 1⟩, ⟨S128x64, H 2⟩, ⟨S128x64, H 3⟩] concatenates_S128x64_S128x64_S128x64_S128x64_S128x256_d1) bitsLt_bf16_f32)
    W (constant S128x512 .f32 0x00000000#32)) shapeCasts_S128x512_S1x128x512

theorem outV_at (H : Fin 4 → FVec Ideal S128x64 .f32) (W : FVec Ideal S256x512 .bf16) (i : Fin 128) (n : Fin 512) :
    outV H W (ix3 0 i n) = ∑ k : Fin 256, H ⟨k.val / 64, by omega⟩ (ix2 i ⟨k.val % 64, by omega⟩) * W (ix2 k n) := by
  pointwise [outV]
  refine Finset.sum_congr rfl fun k _ => congrArg (· * W (ix2 k n)) ?_
  have hc : ∀ (g : Fin 4) (x : Fin 64), k.val / 64 = g.val → x.val = k.val % 64 →
      H g (ix2 i x) = H ⟨k.val / 64, by omega⟩ (ix2 i ⟨k.val % 64, by omega⟩) := by
    intro g x hg hx
    rw [show g = ⟨k.val / 64, by omega⟩ from Fin.ext hg.symm, show x = ⟨k.val % 64, by omega⟩ from Fin.ext hx]
  have hk := k.isLt
  by_cases h0 : k.val < 64
  · rw [dif_pos h0]; exact hc 0 _ (by show _ = 0; omega) (by show k.val = _; omega)
  rw [dif_neg h0]
  by_cases h1 : k.val - 64 < 64
  · rw [dif_pos h1]; exact hc 1 ⟨k.val - 64, h1⟩ (by show _ = 1; omega) (by show k.val - 64 = _; omega)
  rw [dif_neg h1]
  by_cases h2 : k.val - 64 - 64 < 64
  · rw [dif_pos h2]; exact hc 2 ⟨k.val - 64 - 64, h2⟩ (by show _ = 2; omega) (by show k.val - 64 - 64 = _; omega)
  rw [dif_neg h2]
  exact hc 3 ⟨k.val - 64 - 64 - 64, by omega⟩ (by show _ = 3; omega) (by show k.val - 64 - 64 - 64 = _; omega)

/-! ## The two batches as the kernel writes them -/

/-- One head from its four partial products and its four partial sums. -/
def headP (p0 p1 p2 p3 : FVec Ideal S128x64 .f32) (s0 s1 s2 s3 : FVec Ideal S128x1 .f32) : FVec Ideal S128x64 .f32 :=
  divf (addf (addf (addf (addf (broadcast S128x64 (Scalar.ofBits .f32 0x00000000#32)) p0) p1) p2) p3)
    (broadcastTo S128x64 (addf (addf (addf (addf (broadcast S128x1 (Scalar.ofBits .f32 0x00000000#32)) s0) s1) s2) s3) broadcasts_S128x1_S128x64)

/-- The four heads of batch 0. -/
def hd0 (c : Dev nD) : Fin 4 → FVec Ideal S128x64 .f32 := ![
    headP (w329 m ρ c) (w501 m ρ c) (w601 m ρ c) (w741 m ρ c) (w269 m ρ c) (w425 m ρ c) (w525 m ρ c) (w685 m ρ c),
    headP (w332 m ρ c) (w504 m ρ c) (w604 m ρ c) (w744 m ρ c) (w277 m ρ c) (w433 m ρ c) (w533 m ρ c) (w693 m ρ c),
    headP (w335 m ρ c) (w507 m ρ c) (w607 m ρ c) (w747 m ρ c) (w285 m ρ c) (w441 m ρ c) (w541 m ρ c) (w701 m ρ c),
    headP (w338 m ρ c) (w510 m ρ c) (w610 m ρ c) (w750 m ρ c) (w293 m ρ c) (w449 m ρ c) (w549 m ρ c) (w709 m ρ c)]
theorem out0_eq (c : Dev nD) : out0 m ρ c = outV (hd0 m ρ c) (w128 m ρ c) := rfl
theorem hd0_0 (c : Dev nD) : hd0 m ρ c 0
    = headV 0 slices_S128x256_o0_0_S128x64 (w253 m ρ c) ![l264 m ρ c, l420 m ρ c, l520 m ρ c, l680 m ρ c] ![l327 m ρ c, l499 m ρ c, l599 m ρ c, l739 m ρ c] := rfl
theorem hd0_1 (c : Dev nD) : hd0 m ρ c 1
    = headV 64 slices_S128x256_o0_64_S128x64 (w253 m ρ c) ![l272 m ρ c, l428 m ρ c, l528 m ρ c, l688 m ρ c] ![l330 m ρ c, l502 m ρ c, l602 m ρ c, l742 m ρ c] := rfl
theorem hd0_2 (c : Dev nD) : hd0 m ρ c 2
    = headV 128 slices_S128x256_o0_128_S128x64 (w253 m ρ c) ![l280 m ρ c, l436 m ρ c, l536 m ρ c, l696 m ρ c] ![l333 m ρ c, l505 m ρ c, l605 m ρ c, l745 m ρ c] := rfl
theorem hd0_3 (c : Dev nD) : hd0 m ρ c 3
    = headV 192 slices_S128x256_o0_192_S128x64 (w253 m ρ c) ![l288 m ρ c, l444 m ρ c, l544 m ρ c, l704 m ρ c] ![l336 m ρ c, l508 m ρ c, l608 m ρ c, l748 m ρ c] := rfl
/-- The four heads of batch 1. -/
def hd1 (c : Dev nD) : Fin 4 → FVec Ideal S128x64 .f32 := ![
    headP (w341 m ρ c) (w471 m ρ c) (w621 m ρ c) (w721 m ρ c) (w301 m ρ c) (w375 m ρ c) (w565 m ρ c) (w645 m ρ c),
    headP (w344 m ρ c) (w474 m ρ c) (w624 m ρ c) (w724 m ρ c) (w309 m ρ c) (w383 m ρ c) (w573 m ρ c) (w653 m ρ c),
    headP (w347 m ρ c) (w477 m ρ c) (w627 m ρ c) (w727 m ρ c) (w317 m ρ c) (w391 m ρ c) (w581 m ρ c) (w661 m ρ c),
    headP (w350 m ρ c) (w480 m ρ c) (w630 m ρ c) (w730 m ρ c) (w325 m ρ c) (w399 m ρ c) (w589 m ρ c) (w669 m ρ c)]
theorem out1_eq (c : Dev nD) : out1 m ρ c = outV (hd1 m ρ c) (w128 m ρ c) := rfl
theorem hd1_0 (c : Dev nD) : hd1 m ρ c 0
    = headV 0 slices_S128x256_o0_0_S128x64 (w262 m ρ c) ![l296 m ρ c, l370 m ρ c, l560 m ρ c, l640 m ρ c] ![l339 m ρ c, l469 m ρ c, l619 m ρ c, l719 m ρ c] := rfl
theorem hd1_1 (c : Dev nD) : hd1 m ρ c 1
    = headV 64 slices_S128x256_o0_64_S128x64 (w262 m ρ c) ![l304 m ρ c, l378 m ρ c, l568 m ρ c, l648 m ρ c] ![l342 m ρ c, l472 m ρ c, l622 m ρ c, l722 m ρ c] := rfl
theorem hd1_2 (c : Dev nD) : hd1 m ρ c 2
    = headV 128 slices_S128x256_o0_128_S128x64 (w262 m ρ c) ![l312 m ρ c, l386 m ρ c, l576 m ρ c, l656 m ρ c] ![l345 m ρ c, l475 m ρ c, l625 m ρ c, l725 m ρ c] := rfl
theorem hd1_3 (c : Dev nD) : hd1 m ρ c 3
    = headV 192 slices_S128x256_o0_192_S128x64 (w262 m ρ c) ![l320 m ρ c, l394 m ρ c, l584 m ρ c, l664 m ρ c] ![l348 m ρ c, l478 m ρ c, l628 m ρ c, l728 m ρ c] := rfl

end Cert.KernelIdealRing
-- ==== Proof.Value.lean ====
/-
The kernel's result on each device, element by element, at the extended reals.
-/
module

public import proofs.«01_k».proof.Proof.Heads

@[expose] public section

set_option maxRecDepth 16384

noncomputable section

namespace Cert.KernelIdealRing

open Cert.KernelIdeal Cert.KernelIdeal.Gen Cert.Attn
open Idealize.ShloMosaic
open Idealize.ShloMosaic.TcCoe
open scoped BigOperators

theorem all4 {P : Fin 4 → Prop} (h0 : P 0) (h1 : P 1) (h2 : P 2) (h3 : P 3) : ∀ g, P g := by
  intro g
  match g with
  | 0 => exact h0
  | 1 => exact h1
  | 2 => exact h2
  | 3 => exact h3

/-- The slots of a device, in either order of accumulation, are the blocks of the four devices. -/
theorem slots0 (c : Dev nD) (f : Fin 4 → EReal) :
    f (srcDev c (![0, 2, 1, 3] (0 : Fin 4))) + f (srcDev c (![0, 2, 1, 3] (1 : Fin 4))) + f (srcDev c (![0, 2, 1, 3] (2 : Fin 4))) + f (srcDev c (![0, 2, 1, 3] (3 : Fin 4)))
      = ∑ d, f d := by
  show f c + f (nxt c) + f (prv c) + f (nxt (nxt c)) = _
  rw [Fin.sum_univ_four]
  match c with
  | 0 => show f 0 + f 1 + f 3 + f 2 = _; ac_rfl
  | 1 => show f 1 + f 2 + f 0 + f 3 = _; ac_rfl
  | 2 => show f 2 + f 3 + f 1 + f 0 = _; ac_rfl
  | 3 => show f 3 + f 0 + f 2 + f 1 = _; ac_rfl
theorem slots1 (c : Dev nD) (f : Fin 4 → EReal) :
    f (srcDev c (![0, 1, 2, 3] (0 : Fin 4))) + f (srcDev c (![0, 1, 2, 3] (1 : Fin 4))) + f (srcDev c (![0, 1, 2, 3] (2 : Fin 4))) + f (srcDev c (![0, 1, 2, 3] (3 : Fin 4)))
      = ∑ d, f d := by
  rw [← slots0 c f]
  show f c + f (prv c) + f (nxt c) + f (nxt (nxt c)) = f c + f (nxt c) + f (prv c) + f (nxt (nxt c))
  ac_rfl

/-- One head of device `c` is the attention over all positions. -/
theorem head_value (X : Fin 2 → Fin 512 → Fin 512 → EReal) (Wq Wk Wv : Fin 512 → Fin 256 → EReal) (b : Fin 2) (c : Dev nD) (τs : Fin 4 → ℕ)
    (hσ : ∀ f : Fin 4 → EReal, f (srcDev c (τs 0)) + f (srcDev c (τs 1)) + f (srcDev c (τs 2)) + f (srcDev c (τs 3)) = ∑ d, f d)
    (o : ℕ) (hs) (q : FVec Ideal S128x256 .bf16) (k v : Fin 4 → Vec Ideal S1x1x128x64 .bf16) (h : Fin 4) (ho : o = 64 * h.val)
    (hq : ∀ i n, q (ix2 i n) = rope (proj X Wq b (row c i)) (row c i).val n * eighth)
    (hk : ∀ g, ∀ j e, k g (ix4 0 0 j e) = rope (proj X Wk b (row (srcDev c (τs g)) j)) (row (srcDev c (τs g)) j).val (feat h e))
    (hv : ∀ g, ∀ j d, v g (ix4 0 0 j d) = proj X Wv b (row (srcDev c (τs g)) j) (feat h d)) (i : Fin 128) (d : Fin 64) :
    headV o hs q k v (ix2 i d) = att X Wq Wk Wv b (row c i) h (feat h d) := by
  rw [headV_at]
  simp only [prob_at o hs q _ h ho, hq, hk, hv, qk_scaled]
  refine congrArg₂ Ideal.div ?_ ?_
  · exact (hσ fun x => ∑ j : Fin 128, Ideal.exp (qk X Wq Wk b h (row c i) (row x j) * eighth) * proj X Wv b (row x j) (feat h d)).trans
      (sum_rows fun J => Ideal.exp (qk X Wq Wk b h (row c i) J * eighth) * proj X Wv b J (feat h d)).symm
  · exact (hσ fun x => ∑ j : Fin 128, Ideal.exp (qk X Wq Wk b h (row c i) (row x j) * eighth)).trans
      (sum_rows fun J => Ideal.exp (qk X Wq Wk b h (row c i) J * eighth)).symm

variable (m : (ℓ : Loc nD τ sig) → Buf (Elt Ideal) ℓ) (ρ : Dev nD → PrngReg)

/-- The memory of the devices holds the blocks of one array and one copy each of four matrices. -/
structure Holds (X : Fin 2 → Fin 512 → Fin 512 → EReal) (Wq Wk Wv : Fin 512 → Fin 256 → EReal) (Wo : Fin 256 → Fin 512 → EReal) : Prop where
  x : ∀ (c : Dev nD) b r k, xA m c (ix3 b r k) = X b (row c r) k
  q : ∀ (c : Dev nD) k n, wqA m c (ix2 k n) = Wq k n
  k : ∀ (c : Dev nD) k n, wkA m c (ix2 k n) = Wk k n
  v : ∀ (c : Dev nD) k n, wvA m c (ix2 k n) = Wv k n
  o : ∀ (c : Dev nD) k n, woA m c (ix2 k n) = Wo k n

variable {X : Fin 2 → Fin 512 → Fin 512 → EReal} {Wq Wk Wv : Fin 512 → Fin 256 → EReal} {Wo : Fin 256 → Fin 512 → EReal}
variable (H : Holds m X Wq Wk Wv Wo)
include H

theorem kOwn_at (b : Fin 2) (c : Dev nD) (r : Fin 128) (n : Fin 256) :
    (if b.val = 0 then kOwn0 m ρ c else kOwn1 m ρ c) (ix4 0 0 r n) = rope (proj X Wk b (row c r)) (row c r).val n := by
  match b with
  | 0 =>
    refine (pay18_at c (k0_pay12 (wkL m ρ c)) (x0L m ρ c) r n).trans ?_
    refine congrArg (fun t => rope t (row c r).val n) (funext fun l => Finset.sum_congr rfl fun k _ => ?_)
    rw [x0L_at, H.x]; refine congrArg (X 0 (row c r) k * ·) ?_
    pointwise [k0_pay12]
    rw [wkL_eq, H.k]
  | 1 =>
    refine (pay19_at c (k0_pay12 (wkL m ρ c)) (x1L m ρ c) r n).trans ?_
    refine congrArg (fun t => rope t (row c r).val n) (funext fun l => Finset.sum_congr rfl fun k _ => ?_)
    rw [x1L_at, H.x]; refine congrArg (X 1 (row c r) k * ·) ?_
    pointwise [k0_pay12]
    rw [wkL_eq, H.k]

theorem vOwn_at (b : Fin 2) (c : Dev nD) (r : Fin 128) (n : Fin 256) :
    (if b.val = 0 then vOwn0 m ρ c else vOwn1 m ρ c) (ix4 0 0 r n) = proj X Wv b (row c r) n := by
  match b with
  | 0 =>
    refine (pay21_at (k0_pay13 (wvL m ρ c)) (x0L m ρ c) r n).trans (Finset.sum_congr rfl fun k _ => ?_)
    rw [x0L_at, H.x]; refine congrArg (X 0 (row c r) k * ·) ?_
    pointwise [k0_pay13]
    rw [wvL_eq, H.v]
  | 1 =>
    refine (pay20_at (k0_pay13 (wvL m ρ c)) (x1L m ρ c) r n).trans (Finset.sum_congr rfl fun k _ => ?_)
    rw [x1L_at, H.x]; refine congrArg (X 1 (row c r) k * ·) ?_
    pointwise [k0_pay13]
    rw [wvL_eq, H.v]

theorem q0_at (c : Dev nD) (r : Fin 128) (n : Fin 256) : w253 m ρ c (ix2 r n) = rope (proj X Wq 0 (row c r)) (row c r).val n * eighth := by
  refine (pay22_at c (k0_pay14 (wqL m ρ c)) (x0L m ρ c) r n).trans ?_
  refine congrArg (fun t => rope t (row c r).val n * eighth) (funext fun l => Finset.sum_congr rfl fun k _ => ?_)
  rw [x0L_at, H.x]; refine congrArg (X 0 (row c r) k * ·) ?_
  pointwise [k0_pay14]
  rw [wqL_eq, H.q]
theorem q1_at (c : Dev nD) (r : Fin 128) (n : Fin 256) : w262 m ρ c (ix2 r n) = rope (proj X Wq 1 (row c r)) (row c r).val n * eighth := by
  refine (pay23_at c (k0_pay14 (wqL m ρ c)) (x1L m ρ c) r n).trans ?_
  refine congrArg (fun t => rope t (row c r).val n * eighth) (funext fun l => Finset.sum_congr rfl fun k _ => ?_)
  rw [x1L_at, H.x]; refine congrArg (X 1 (row c r) k * ·) ?_
  pointwise [k0_pay14]
  rw [wqL_eq, H.q]

/-- A load of keys, and a load of values, of head `h` from slot `s`. -/
theorem kl (c : Dev nD) (s : ℕ) (b : Fin 2) (h : Fin 4) (hb) (j : Fin 128) (e : Fin 64) :
    kM.view.readAt (Elt Ideal) (Rect.unit (s := S4x2x128x256) ![s, b.val, 0, 64 * h.val] S1x1x128x64.size hb).toLoadRect (kAll m ρ c) (ix4 0 0 j e)
      = rope (proj X Wk b (row (srcDev c s) j)) (row (srcDev c s) j).val (feat h e) :=
  (kload_at m ρ c s b.val (64 * h.val) hb j e (feat h e) rfl).trans (kOwn_at m ρ H b (srcDev c s) j (feat h e))
theorem vl (c : Dev nD) (s : ℕ) (b : Fin 2) (h : Fin 4) (hb) (j : Fin 128) (e : Fin 64) :
    vM.view.readAt (Elt Ideal) (Rect.unit (s := S4x2x128x256) ![s, b.val, 0, 64 * h.val] S1x1x128x64.size hb).toLoadRect (vAll m ρ c) (ix4 0 0 j e)
      = proj X Wv b (row (srcDev c s) j) (feat h e) :=
  (vload_at m ρ c s b.val (64 * h.val) hb j e (feat h e) rfl).trans (vOwn_at m ρ H b (srcDev c s) j (feat h e))

/-- The four loads of keys of a head of one batch, in the order of accumulation; and those of values. -/
theorem head0_value (c : Dev nD) (h : Fin 4) (o : ℕ) (ho : o = 64 * h.val) (hs) (k v : Fin 4 → Vec Ideal S1x1x128x64 .bf16)
    (hk : ∀ g, ∀ j e, k g (ix4 0 0 j e) = rope (proj X Wk 0 (row (srcDev c (![0, 2, 1, 3] g)) j)) (row (srcDev c (![0, 2, 1, 3] g)) j).val (feat h e))
    (hv : ∀ g, ∀ j d, v g (ix4 0 0 j d) = proj X Wv 0 (row (srcDev c (![0, 2, 1, 3] g)) j) (feat h d)) (i : Fin 128) (d : Fin 64) :
    headV o hs (w253 m ρ c) k v (ix2 i d) = att X Wq Wk Wv 0 (row c i) h (feat h d) :=
  head_value X Wq Wk Wv 0 c ![0, 2, 1, 3] (slots0 c) o hs (w253 m ρ c) k v h ho (q0_at m ρ H c) hk hv i d
theorem head1_value (c : Dev nD) (h : Fin 4) (o : ℕ) (ho : o = 64 * h.val) (hs) (k v : Fin 4 → Vec Ideal S1x1x128x64 .bf16)
    (hk : ∀ g, ∀ j e, k g (ix4 0 0 j e) = rope (proj X Wk 1 (row (srcDev c (![0, 1, 2, 3] g)) j)) (row (srcDev c (![0, 1, 2, 3] g)) j).val (feat h e))
    (hv : ∀ g, ∀ j d, v g (ix4 0 0 j d) = proj X Wv 1 (row (srcDev c (![0, 1, 2, 3] g)) j) (feat h d)) (i : Fin 128) (d : Fin 64) :
    headV o hs (w262 m ρ c) k v (ix2 i d) = att X Wq Wk Wv 1 (row c i) h (feat h d) :=
  head_value X Wq Wk Wv 1 c ![0, 1, 2, 3] (slots1 c) o hs (w262 m ρ c) k v h ho (q1_at m ρ H c) hk hv i d

theorem heads0 (c : Dev nD) (i : Fin 128) (d : Fin 64) : ∀ h : Fin 4, hd0 m ρ c h (ix2 i d) = att X Wq Wk Wv 0 (row c i) h (feat h d) :=
  all4
    ((congrFun (hd0_0 m ρ c) (ix2 i d)).trans (head0_value m ρ H c 0 _ rfl _ _ _
      (all4 (kl m ρ H c 0 0 0 _) (kl m ρ H c 2 0 0 _) (kl m ρ H c 1 0 0 _) (kl m ρ H c 3 0 0 _))
      (all4 (vl m ρ H c 0 0 0 _) (vl m ρ H c 2 0 0 _) (vl m ρ H c 1 0 0 _) (vl m ρ H c 3 0 0 _)) i d))
    ((congrFun (hd0_1 m ρ c) (ix2 i d)).trans (head0_value m ρ H c 1 _ rfl _ _ _
      (all4 (kl m ρ H c 0 0 1 _) (kl m ρ H c 2 0 1 _) (kl m ρ H c 1 0 1 _) (kl m ρ H c 3 0 1 _))
      (all4 (vl m ρ H c 0 0 1 _) (vl m ρ H c 2 0 1 _) (vl m ρ H c 1 0 1 _) (vl m ρ H c 3 0 1 _)) i d))
    ((congrFun (hd0_2 m ρ c) (ix2 i d)).trans (head0_value m ρ H c 2 _ rfl _ _ _
      (all4 (kl m ρ H c 0 0 2 _) (kl m ρ H c 2 0 2 _) (kl m ρ H c 1 0 2 _) (kl m ρ H c 3 0 2 _))
      (all4 (vl m ρ H c 0 0 2 _) (vl m ρ H c 2 0 2 _) (vl m ρ H c 1 0 2 _) (vl m ρ H c 3 0 2 _)) i d))
    ((congrFun (hd0_3 m ρ c) (ix2 i d)).trans (head0_value m ρ H c 3 _ rfl _ _ _
      (all4 (kl m ρ H c 0 0 3 _) (kl m ρ H c 2 0 3 _) (kl m ρ H c 1 0 3 _) (kl m ρ H c 3 0 3 _))
      (all4 (vl m ρ H c 0 0 3 _) (vl m ρ H c 2 0 3 _) (vl m ρ H c 1 0 3 _) (vl m ρ H c 3 0 3 _)) i d))
theorem heads1 (c : Dev nD) (i : Fin 128) (d : Fin 64) : ∀ h : Fin 4, hd1 m ρ c h (ix2 i d) = att X Wq Wk Wv 1 (row c i) h (feat h d) :=
  all4
    ((congrFun (hd1_0 m ρ c) (ix2 i d)).trans (head1_value m ρ H c 0 _ rfl _ _ _
      (all4 (kl m ρ H c 0 1 0 _) (kl m ρ H c 1 1 0 _) (kl m ρ H c 2 1 0 _) (kl m ρ H c 3 1 0 _))
      (all4 (vl m ρ H c 0 1 0 _) (vl m ρ H c 1 1 0 _) (vl m ρ H c 2 1 0 _) (vl m ρ H c 3 1 0 _)) i d))
    ((congrFun (hd1_1 m ρ c) (ix2 i d)).trans (head1_value m ρ H c 1 _ rfl _ _ _
      (all4 (kl m ρ H c 0 1 1 _) (kl m ρ H c 1 1 1 _) (kl m ρ H c 2 1 1 _) (kl m ρ H c 3 1 1 _))
      (all4 (vl m ρ H c 0 1 1 _) (vl m ρ H c 1 1 1 _) (vl m ρ H c 2 1 1 _) (vl m ρ H c 3 1 1 _)) i d))
    ((congrFun (hd1_2 m ρ c) (ix2 i d)).trans (head1_value m ρ H c 2 _ rfl _ _ _
      (all4 (kl m ρ H c 0 1 2 _) (kl m ρ H c 1 1 2 _) (kl m ρ H c 2 1 2 _) (kl m ρ H c 3 1 2 _))
      (all4 (vl m ρ H c 0 1 2 _) (vl m ρ H c 1 1 2 _) (vl m ρ H c 2 1 2 _) (vl m ρ H c 3 1 2 _)) i d))
    ((congrFun (hd1_3 m ρ c) (ix2 i d)).trans (head1_value m ρ H c 3 _ rfl _ _ _
      (all4 (kl m ρ H c 0 1 3 _) (kl m ρ H c 1 1 3 _) (kl m ρ H c 2 1 3 _) (kl m ρ H c 3 1 3 _))
      (all4 (vl m ρ H c 0 1 3 _) (vl m ρ H c 1 1 3 _) (vl m ρ H c 2 1 3 _) (vl m ρ H c 3 1 3 _)) i d))

theorem wo_at (c : Dev nD) (k : Fin 256) (n : Fin 512) : w128 m ρ c (ix2 k n) = Wo k n := by
  pointwise [w128, k0_pay15]
  rw [woL_eq, H.o]

omit H in
theorem feat_split (k : Fin 256) : feat ⟨k.val / 64, by omega⟩ ⟨k.val % 64, by omega⟩ = k :=
  Fin.ext (by show 64 * (k.val / 64) + k.val % 64 = k.val; omega)

theorem out0_at (c : Dev nD) (i : Fin 128) (n : Fin 512) : out0 m ρ c (ix3 0 i n) = result X Wq Wk Wv Wo 0 (row c i) n := by
  rw [out0_eq, outV_at]
  refine Finset.sum_congr rfl fun k _ => ?_
  rw [heads0 m ρ H, wo_at m ρ H, feat_split]
theorem out1_at (c : Dev nD) (i : Fin 128) (n : Fin 512) : out1 m ρ c (ix3 0 i n) = result X Wq Wk Wv Wo 1 (row c i) n := by
  rw [out1_eq, outV_at]
  refine Finset.sum_congr rfl fun k _ => ?_
  rw [heads1 m ρ H, wo_at m ρ H, feat_split]

/-- The result of device `c` is its rows of the whole result. -/
theorem outAt_at (c : Dev nD) (b : Fin 2) (i : Fin 128) (n : Fin 512) :
    (outAt m ρ c : S2x128x512.Idx → EReal) (ix3 b i n) = result X Wq Wk Wv Wo b (row c i) n := by
  have hi : outIdx (ix3 b i n) = ix3 0 i n := idx3_ext _ _ fun x => match x with
    | ⟨0, _⟩ => rfl
    | ⟨1, _⟩ => rfl
    | ⟨2, _⟩ => rfl
  match b with
  | 0 => exact (congrArg (out0 m ρ c) hi).trans (out0_at m ρ H c i n)
  | 1 => exact (congrArg (out1 m ρ c) hi).trans (out1_at m ρ H c i n)

omit H in
/-- What the launch leaves in the result array. -/
theorem finalA_5 (c : Dev nD) : finalA m ρ c 5 = outAt m ρ c := by
  have h : (win0_5.blk (0 : Fin 1)).view.read (Elt Ideal) (finalA m ρ c 5) = outAt m ρ c := by
    have e : finalA m ρ c 5 = (win0_5.blk (0 : Fin 1)).view.write (Elt Ideal) (m ((c : Thread nD τ).loc main_v1)) (outAt m ρ c) Finset.univ := by
      unfold finalA
      exact ((dats m ρ 0 c).arrAt_succ (5 : Fin 6) ⟨0, by decide⟩).trans (if_pos rfl)
    rw [e]
    exact View.read_write_univ _ _
  rw [← h]
  exact (Memref.read_access_unit_zero (Elt Ideal) main_v1 (by decide) _ _).symm

end Cert.KernelIdealRing
-- ==== Proof.RefValue.lean ====
/-
The reference's result, element by element, at the extended reals.
-/
module

public import proofs.«01_k».proof.Proof.Spec
public import proofs.«01_k».proof.Proof.Gen.ReferenceIdeal.Read

@[expose] public section

set_option maxRecDepth 16384

noncomputable section

namespace Cert.ReferenceIdealValue

open Cert.ReferenceIdeal Cert.ReferenceIdeal.Gen Cert.ReferenceIdeal.Read Cert.Attn
open Idealize.ShloMosaic
open scoped BigOperators

theorem ang_at (I : Fin 512) (i : Fin 32) : val_main_v18 (F := Ideal) (ix2 I i) = ((ang I.val (2 * i.val) : ℝ) : EReal) := by
  pointwise [val_main_v18, val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0, val_main_c, val_main_c_0,
    val_main_cst, val_main_cst_1, val_main_cst_2]
  generalize hw : IntOp.addi (0#32) _ = w
  have h : w = BitVec.ofNat 32 ((2 * i.val) % 64 - (2 * i.val) % 2) := by rw [← hw]; clear hw; revert i; decide
  have hpos : ∀ e : ℝ, 0 < (10000 : ℝ) ^ e := fun e => Real.rpow_pos_of_pos (by norm_num) e
  rw [h, float_small _ _ (by omega), float_small _ _ (by omega), lit_64, div_real _ _ (by norm_num), lit_10000, ← EReal.coe_mul,
    show ∀ a b : ℝ, Ideal.pow (a : EReal) (b : EReal) = ((a ^ b : ℝ) : EReal) from fun _ _ => rfl, div_real _ _ (hpos _), one_mul, ← EReal.coe_mul,
    ← freq, ← div_eq_mul_inv]
  rfl

theorem cos_at (I : Fin 512) (n : Fin 64) : val_main_v21 (F := Ideal) (ix2 I n) = ((Real.cos (ang I.val n.val) : ℝ) : EReal) := by
  pointwise [val_main_v21, val_main_v20, val_main_v19]
  rw [ang_at, cos_real, ang_congr _ (2 * (n.val / 2)) n.val (by omega)]
theorem sin_at (I : Fin 512) (n : Fin 64) : val_main_v24 (F := Ideal) (ix2 I n) = ((Real.sin (ang I.val n.val) : ℝ) : EReal) := by
  pointwise [val_main_v24, val_main_v23, val_main_v22]
  rw [ang_at, sin_real, ang_congr _ (2 * (n.val / 2)) n.val (by omega)]

variable (x0 : (⟨S2x512x512, .f32⟩ : BufTy).Contents (Elt Ideal)) (x1 x2 x3 : (⟨S512x256, .f32⟩ : BufTy).Contents (Elt Ideal)) (x4 : (⟨S256x512, .f32⟩ : BufTy).Contents (Elt Ideal))

/-- The arguments as plain arrays. -/
def arrX : Fin 2 → Fin 512 → Fin 512 → EReal := fun b I k => x0 (ix3 b I k)
def arrW : Fin 512 → Fin 256 → EReal := fun k n => x1 (ix2 k n)
def arrO : Fin 256 → Fin 512 → EReal := fun k n => x4 (ix2 k n)

theorem proj_at (b : Fin 2) (I : Fin 512) (h : Fin 4) (d : Fin 64) :
    val_main_v26 (F := Ideal) x0 x1 (ix4 b I h d) = proj (arrX x0) (arrW x1) b I (feat h d) := by
  pointwise [val_main_v26, val_main_v25]
  refine Finset.sum_congr rfl fun k _ => congrArg (fun n => x0 (ix3 b I k) * x1 (ix2 k n)) (Fin.ext ?_)
  show h.val * 64 + d.val = 64 * h.val + d.val
  omega

theorem rope_at (b : Fin 2) (I : Fin 512) (h : Fin 4) (d : Fin 64) :
    val_main_v43 (F := Ideal) x0 x1 (ix4 b I h d) = rope (proj (arrX x0) (arrW x1) b I) I.val (feat h d) := by
  pointwise [val_main_v43, val_main_v42, val_main_v41, val_main_v40, val_main_v39, val_main_v38, val_main_v37, val_main_v36, val_main_v35, Value.fn_main_v35,
    val_main_v34, val_main_v33, val_main_v32, val_main_v31, val_main_v30, val_main_v29, val_main_v28, val_main_v27]
  simp only [proj_at, cos_at, sin_at]
  have hf : (feat h d).val = 64 * h.val + d.val := rfl
  have ha : ang I.val (feat h d).val = ang I.val d.val := ang_congr _ _ _ (by omega)
  unfold rope
  rw [ha]
  congr 2
  unfold turned
  by_cases hd : d.val % 2 < 1
  · rw [dif_pos hd, dif_pos (by omega)]
    exact congrArg (fun n => -(proj (arrX x0) (arrW x1) b I n)) (Fin.ext (by show 64 * h.val + (d.val / 2 * 2 + 1) = 64 * h.val + d.val + 1; omega))
  · rw [dif_neg hd, dif_neg (by omega)]
    exact congrArg (proj (arrX x0) (arrW x1) b I) (Fin.ext (by show 64 * h.val + d.val / 2 * 2 = 64 * h.val + d.val - 1; omega))

theorem rope_at' (b : Fin 2) (I : Fin 512) (h : Fin 4) (d : Fin 64) :
    val_main_v62 (F := Ideal) x0 x2 (ix4 b I h d) = rope (proj (arrX x0) (arrW x2) b I) I.val (feat h d) := rope_at x0 x2 b I h d

theorem score_at (b : Fin 2) (h : Fin 4) (I J : Fin 512) :
    val_main_v67 (F := Ideal) x0 x1 x2 (ix4 b h I J) = qk (arrX x0) (arrW x1) (arrW x2) b h I J * eighth := by
  pointwise [val_main_v67, val_main_v66, val_main_v65, val_main_cst_3]
  simp only [rope_at, rope_at', lit_eighth]
  rfl

theorem max_at (b : Fin 2) (h : Fin 4) (I J : Fin 512) :
    val_main_v70 (F := Ideal) x0 x1 x2 (ix4 b h I J) = Finset.univ.fold max ⊥ fun J' => val_main_v67 (F := Ideal) x0 x1 x2 (ix4 b h I J') := by
  pointwise [val_main_v70, val_main_v69, val_main_v68, val_main_cst_4]
  rw [lit_neg_inf]

theorem weight_at (b : Fin 2) (h : Fin 4) (I J : Fin 512) (S : Fin 512 → EReal) (hS : ∀ J, val_main_v67 (F := Ideal) x0 x1 x2 (ix4 b h I J) = S J) :
    val_main_v76 (F := Ideal) x0 x1 x2 (ix4 b h I J)
      = Ideal.div (Ideal.exp (S J - Finset.univ.fold max ⊥ S)) (∑ J', Ideal.exp (S J' - Finset.univ.fold max ⊥ S)) := by
  pointwise [val_main_v76, val_main_v75, val_main_v74, val_main_v73, val_main_v72, val_main_v71, val_main_cst_5]
  simp only [max_at, hS]

/-- The reference's result on finite inputs, queries and keys. -/
theorem out_at (hX : ∀ b I k, Fin' (arrX x0 b I k)) (hq : ∀ k n, Fin' (arrW x1 k n)) (hk : ∀ k n, Fin' (arrW x2 k n)) (b : Fin 2) (I n : Fin 512) :
    val_main_v80 (F := Ideal) x0 x1 x2 x3 x4 (ix3 b I n) = result (arrX x0) (arrW x1) (arrW x2) (arrW x3) (arrO x4) b I n := by
  pointwise [val_main_v80, val_main_v79, val_main_v78, val_main_v77, val_main_v64, val_main_v63]
  refine Finset.sum_congr rfl fun k _ => congrArg (· * x4 (ix2 k n)) ?_
  simp only [fun J => weight_at x0 x1 x2 b ⟨k.val / 64, by omega⟩ I J _ (fun J => score_at x0 x1 x2 b ⟨k.val / 64, by omega⟩ I J)]
  exact att_max (arrX x0) (arrW x1) (arrW x2) (arrW x3) hX hq hk b I ⟨k.val / 64, by omega⟩ k _ fun J => rfl

end Cert.ReferenceIdealValue
-- ==== Proof.Algebraic.lean ====
/-
The value claim: on finite inputs every device of the kernel ends with its rows of the reference's result.
-/
module

public import proofs.«01_k».proof.Defs
public import proofs.«01_k».proof.Proof.Value
public import proofs.«01_k».proof.Proof.RefValue
public import proofs.«01_k».proof.Proof.Gen.ReferenceIdeal.Run
public import proofs.«01_k».proof.Proof.Gen.Pre_finite_KernelIdeal
public import Idealize.ShloMosaic.Lib.ReduceAll
public import Idealize.ShloMosaic.Lib.Layout

@[expose] public section

noncomputable section

namespace Cert.Algebraic

open Idealize.ShloMosaic Idealize.SL.Sem Cert.Attn

/-- An absolute value found below positive infinity is that of a real number. -/
theorem fin_of_lt (x : EReal) (h : FloatOps.cmpf (F := Ideal) (φ := .f32) .olt (FloatOps.absf (F := Ideal) (φ := .f32) x) (Ideal.ofBits .f32 0x7F800000#32) = 1#1) : Fin' x := by
  rw [Ideal.absf_def, Ideal.cmpf_def, lit_inf] at h
  refine fin_of_abs ?_
  by_contra hn
  have e : Ideal.cmp .olt (max x (-x)) ⊤ = 0#1 := congrArg BitVec.ofBool (decide_eq_false hn)
  rw [e] at h
  exact absurd h (by decide)

theorem andi_left {a b : BitVec 1} (h : IntOp.andi a b = 1#1) : a = 1#1 := by revert a b; decide
theorem andi_right {a b : BitVec 1} (h : IntOp.andi a b = 1#1) : b = 1#1 := by revert a b; decide

/-- What the precondition says of one device's arguments. -/
theorem finite_args (x : FVec Ideal ⟨3, ![2, 128, 512]⟩ .f32) (wq wk wv : FVec Ideal ⟨2, ![512, 256]⟩ .f32) (wo : FVec Ideal ⟨2, ![256, 512]⟩ .f32)
    (h : Cert.Pre_finite_KernelIdeal.fn (F := Ideal) x wq wk wv wo = fun _ => 1#1) :
    (∀ i, Fin' (x i)) ∧ (∀ i, Fin' (wq i)) ∧ (∀ i, Fin' (wk i)) := by
  have e := congrFun h (fun i => i.elim0)
  dsimp only [Cert.Pre_finite_KernelIdeal.fn] at e
  have e1 := andi_left e
  exact ⟨fun i => fin_of_lt _ (Host.reduce_andi_all _ _ _ _ _ (andi_left e1) i),
    fun i => fin_of_lt _ (Host.reduce_andi_all _ _ _ _ _ (andi_right e1) i),
    fun i => fin_of_lt _ (Host.reduce_andi_all _ _ _ _ _ (andi_right e) i)⟩

/-- Where entry `(b, r, k)` of device `c`'s block lies in the whole array. -/
theorem tile_ix (h : Layout.Tiles ⟨3, ![2, 128, 512]⟩ ⟨3, ![2, 512, 512]⟩ 1 4) (c : Fin 4) (b : Fin 2) (r : Fin 128) (k : Fin 512) :
    h.idx c (ix3 b r k) = ix3 b (row c r) k := by
  refine Cert.KernelIdealRing.idx3_ext _ _ fun x => ?_
  match x with
  | ⟨0, _⟩ => rfl
  | ⟨1, _⟩ => exact congrArg (· + r.val) (Nat.mul_comm c.val 128)
  | ⟨2, _⟩ => rfl

/-- Every row of the whole array lies in one device's block. -/
theorem row_split (I : Fin 512) : row ⟨I.val / 128, by omega⟩ ⟨I.val % 128, by omega⟩ = I :=
  Fin.ext (by show 128 * (I.val / 128) + I.val % 128 = I.val; omega)

theorem ix3_eta (i : (⟨3, ![2, 128, 512]⟩ : Shape).Idx) : i = ix3 (i 0) (i 1) (i 2) :=
  Cert.KernelIdealRing.idx3_ext _ _ fun x => match x with
    | ⟨0, _⟩ => rfl
    | ⟨1, _⟩ => rfl
    | ⟨2, _⟩ => rfl

/-- The value claim. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.Gen.facts) := by
  intro m g m' g' hP hL
  let a0 : FVec Ideal ⟨3, ![2, 512, 512]⟩ .f32 := m' (((0 : Dev Cert.ReferenceIdeal.nD).tc : Thread Cert.ReferenceIdeal.nD Cert.ReferenceIdeal.τ).loc Cert.ReferenceIdeal.main_arg0)
  let a1 : FVec Ideal ⟨2, ![512, 256]⟩ .f32 := m' (((0 : Dev Cert.ReferenceIdeal.nD).tc : Thread Cert.ReferenceIdeal.nD Cert.ReferenceIdeal.τ).loc Cert.ReferenceIdeal.main_arg1)
  let a2 : FVec Ideal ⟨2, ![512, 256]⟩ .f32 := m' (((0 : Dev Cert.ReferenceIdeal.nD).tc : Thread Cert.ReferenceIdeal.nD Cert.ReferenceIdeal.τ).loc Cert.ReferenceIdeal.main_arg2)
  let a3 : FVec Ideal ⟨2, ![512, 256]⟩ .f32 := m' (((0 : Dev Cert.ReferenceIdeal.nD).tc : Thread Cert.ReferenceIdeal.nD Cert.ReferenceIdeal.τ).loc Cert.ReferenceIdeal.main_arg3)
  let a4 : FVec Ideal ⟨2, ![256, 512]⟩ .f32 := m' (((0 : Dev Cert.ReferenceIdeal.nD).tc : Thread Cert.ReferenceIdeal.nD Cert.ReferenceIdeal.τ).loc Cert.ReferenceIdeal.main_arg4)
  have hx : ∀ (c : Fin 4) (b : Fin 2) (r : Fin 128) (k : Fin 512),
      Cert.KernelIdealRing.xA m c (ix3 b r k) = Cert.ReferenceIdealValue.arrX a0 b (row c r) k := fun c b r k =>
    (congrFun (hL c).1 (ix3 b r k)).trans (congrArg a0 (tile_ix (by decide) c b r k))
  have H : Cert.KernelIdealRing.Holds m (Cert.ReferenceIdealValue.arrX a0) (Cert.ReferenceIdealValue.arrW a1) (Cert.ReferenceIdealValue.arrW a2)
      (Cert.ReferenceIdealValue.arrW a3) (Cert.ReferenceIdealValue.arrO a4) :=
    ⟨hx, fun c k n => congrFun (hL c).2.1 (ix2 k n), fun c k n => congrFun (hL c).2.2.1 (ix2 k n),
      fun c k n => congrFun (hL c).2.2.2.1 (ix2 k n), fun c k n => congrFun (hL c).2.2.2.2 (ix2 k n)⟩
  have hX : ∀ b I k, Fin' (Cert.ReferenceIdealValue.arrX a0 b I k) := fun b I k => by
    have e := (finite_args _ _ _ _ _ (hP (⟨I.val / 128, by omega⟩ : Fin 4))).1 (ix3 b ⟨I.val % 128, by omega⟩ k)
    have e' := hx ⟨I.val / 128, by omega⟩ b ⟨I.val % 128, by omega⟩ k
    rw [row_split] at e'
    rw [← e']
    exact e
  have hq : ∀ k n, Fin' (Cert.ReferenceIdealValue.arrW a1 k n) := fun k n => by
    rw [← H.q 0 k n]
    exact (finite_args _ _ _ _ _ (hP 0)).2.1 (ix2 k n)
  have hk : ∀ k n, Fin' (Cert.ReferenceIdealValue.arrW a2 k n) := fun k n => by
    rw [← H.k 0 k n]
    exact (finite_args _ _ _ _ _ (hP 0)).2.2 (ix2 k n)
  have hv : ∀ b I n, Cert.ReferenceIdeal.Value.res_main_v80 (F := Ideal) m' 0 (ix3 b I n)
      = result (Cert.ReferenceIdealValue.arrX a0) (Cert.ReferenceIdealValue.arrW a1) (Cert.ReferenceIdealValue.arrW a2)
          (Cert.ReferenceIdealValue.arrW a3) (Cert.ReferenceIdealValue.arrO a4) b I n := fun b I n =>
    (congrFun (Cert.ReferenceIdeal.Read.val_main_v80_eq m' 0) (ix3 b I n)).trans
      (Cert.ReferenceIdealValue.out_at a0 a1 a2 a3 a4 hX hq hk b I n)
  refine ⟨Cert.ReferenceIdeal.Value.res_main_v80 (F := Ideal) m' 0, ?_, ?_⟩
  · refine (θ_run _ _ _).mono (fun r h c => ⟨?_, (h.1 c (0 : Fin 6)).trans (Cert.KernelIdealRing.finalA_0 m g c), (h.1 c (1 : Fin 6)).trans (Cert.KernelIdealRing.finalA_1 m g c),
      (h.1 c (2 : Fin 6)).trans (Cert.KernelIdealRing.finalA_2 m g c), (h.1 c (3 : Fin 6)).trans (Cert.KernelIdealRing.finalA_3 m g c),
      (h.1 c (4 : Fin 6)).trans (Cert.KernelIdealRing.finalA_4 m g c)⟩) (Cert.KernelIdealRing.run_main (F := Ideal) m g)
    refine ((h.1 c (5 : Fin 6)).trans (Cert.KernelIdealRing.finalA_5 m g c)).trans (funext fun i => ?_)
    obtain ⟨b, r', k, rfl⟩ : ∃ b r' k, i = ix3 b r' k := ⟨_, _, _, ix3_eta i⟩
    refine (Cert.KernelIdealRing.outAt_at m g H c b r' k).trans ((hv b (row c r') k).symm.trans ?_)
    exact congrArg (Cert.ReferenceIdeal.Value.res_main_v80 (F := Ideal) m' 0) (tile_ix (by decide) c b r' k).symm
  · exact (θ_run _ _ _).mono (fun r h => h 0) (Cert.ReferenceIdeal.Value.run (F := Ideal) m' g')

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_KernelIdeal
public import proofs.«01_k».proof.Proof.Gen.Pre_finite_ReferenceIdeal
public import proofs.«01_k».proof.Proof.Gen.ReferenceIdeal.Run
public import proofs.«01_k».proof.Proof.Gen.ReferenceIdeal.Read
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The frames of the three programs, no operation rewritten, and the value claim. -/
theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  Cert.Frames.frame_kernel, Cert.Frames.frame_ideal, Cert.Frames.frame_ideal_finite,
  Cert.Frames.frame_reference, Cert.Frames.frame_reference_finite, trivial, Cert.Algebraic.algebraic⟩

end Cert.Proof

end
